-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def preserves_Kernel_KernelIdeal : Prop :=
  IdealRules.named_const.Statement Cert.KernelIdeal.κ "zero_prob_log2" .f32 0xC3180000#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v46_0)) (v1 : (c : Dev Cert.Kernel3Ideal.nD) → Buf (Elt Ideal) ((c.tc : Thread Cert.Kernel3Ideal.nD Cert.Kernel3Ideal.τ).loc Cert.Kernel3Ideal.main_v46_1)) (v2 : (c : Dev Cert.Kernel3Ideal.nD) → Buf (Elt Ideal) ((c.tc : Thread Cert.Kernel3Ideal.nD Cert.Kernel3Ideal.τ).loc Cert.Kernel3Ideal.main_v46_2)) (v3 : (c : Dev Cert.Kernel3Ideal.nD) → Buf (Elt Ideal) ((c.tc : Thread Cert.Kernel3Ideal.nD Cert.Kernel3Ideal.τ).loc Cert.Kernel3Ideal.main_v46_3)) (v4 : (c : Dev Cert.Kernel3Ideal.nD) → Buf (Elt Ideal) ((c.tc : Thread Cert.Kernel3Ideal.nD Cert.Kernel3Ideal.τ).loc Cert.Kernel3Ideal.main_v46_4)) (v5 : (c : Dev Cert.Kernel3Ideal.nD) → Buf (Elt Ideal) ((c.tc : Thread Cert.Kernel3Ideal.nD Cert.Kernel3Ideal.τ).loc Cert.Kernel3Ideal.main_v46_5)) (v6 : (c : Dev Cert.Kernel3Ideal.nD) → Buf (Elt Ideal) ((c.tc : Thread Cert.Kernel3Ideal.nD Cert.Kernel3Ideal.τ).loc Cert.Kernel3Ideal.main_v46_6)) (v7 : (c : Dev Cert.Kernel3Ideal.nD) → Buf (Elt Ideal) ((c.tc : Thread Cert.Kernel3Ideal.nD Cert.Kernel3Ideal.τ).loc Cert.Kernel3Ideal.main_v46_7)) (v8 : (c : Dev Cert.Kernel3Ideal.nD) → Buf (Elt Ideal) ((c.tc : Thread Cert.Kernel3Ideal.nD Cert.Kernel3Ideal.τ).loc Cert.Kernel3Ideal.main_v46_8)) (v9 : (c : Dev Cert.Kernel3Ideal.nD) → Buf (Elt Ideal) ((c.tc : Thread Cert.Kernel3Ideal.nD Cert.Kernel3Ideal.τ).loc Cert.Kernel3Ideal.main_v46_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v46_0) = v0 c
          ∧ r.2.mem ((c.tc : Thread Cert.Kernel3Ideal.nD Cert.Kernel3Ideal.τ).loc Cert.Kernel3Ideal.main_v46_1) = v1 c
          ∧ r.2.mem ((c.tc : Thread Cert.Kernel3Ideal.nD Cert.Kernel3Ideal.τ).loc Cert.Kernel3Ideal.main_v46_2) = v2 c
          ∧ r.2.mem ((c.tc : Thread Cert.Kernel3Ideal.nD Cert.Kernel3Ideal.τ).loc Cert.Kernel3Ideal.main_v46_3) = v3 c
          ∧ r.2.mem ((c.tc : Thread Cert.Kernel3Ideal.nD Cert.Kernel3Ideal.τ).loc Cert.Kernel3Ideal.main_v46_4) = v4 c
          ∧ r.2.mem ((c.tc : Thread Cert.Kernel3Ideal.nD Cert.Kernel3Ideal.τ).loc Cert.Kernel3Ideal.main_v46_5) = v5 c
          ∧ r.2.mem ((c.tc : Thread Cert.Kernel3Ideal.nD Cert.Kernel3Ideal.τ).loc Cert.Kernel3Ideal.main_v46_6) = v6 c
          ∧ r.2.mem ((c.tc : Thread Cert.Kernel3Ideal.nD Cert.Kernel3Ideal.τ).loc Cert.Kernel3Ideal.main_v46_7) = v7 c
          ∧ r.2.mem ((c.tc : Thread Cert.Kernel3Ideal.nD Cert.Kernel3Ideal.τ).loc Cert.Kernel3Ideal.main_v46_8) = v8 c
          ∧ r.2.mem ((c.tc : Thread Cert.Kernel3Ideal.nD Cert.Kernel3Ideal.τ).loc Cert.Kernel3Ideal.main_v46_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_v85) = v1 c
          ∧ r.2.mem ((c.tc : Thread Cert.Reference3Ideal.nD Cert.Reference3Ideal.τ).loc Cert.Reference3Ideal.main_v86) = v2 c
          ∧ r.2.mem ((c.tc : Thread Cert.Reference3Ideal.nD Cert.Reference3Ideal.τ).loc Cert.Reference3Ideal.main_v88) = v3 c
          ∧ r.2.mem ((c.tc : Thread Cert.Reference3Ideal.nD Cert.Reference3Ideal.τ).loc Cert.Reference3Ideal.main_v89) = v4 c
          ∧ r.2.mem ((c.tc : Thread Cert.Reference3Ideal.nD Cert.Reference3Ideal.τ).loc Cert.Reference3Ideal.main_v21) = v5 c
          ∧ r.2.mem ((c.tc : Thread Cert.Reference3Ideal.nD Cert.Reference3Ideal.τ).loc Cert.Reference3Ideal.main_v24) = v6 c
          ∧ r.2.mem ((c.tc : Thread Cert.Reference3Ideal.nD Cert.Reference3Ideal.τ).loc Cert.Reference3Ideal.main_v90) = v7 c
          ∧ r.2.mem ((c.tc : Thread Cert.Reference3Ideal.nD Cert.Reference3Ideal.τ).loc Cert.Reference3Ideal.main_v92) = v8 c
          ∧ r.2.mem ((c.tc : Thread Cert.Reference3Ideal.nD Cert.Reference3Ideal.τ).loc Cert.Reference3Ideal.main_v93) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v46_0)) (v1 : (c : Dev Cert.Kernel4Ideal.nD) → Buf (Elt Ideal) ((c.tc : Thread Cert.Kernel4Ideal.nD Cert.Kernel4Ideal.τ).loc Cert.Kernel4Ideal.main_v46_1)) (v2 : (c : Dev Cert.Kernel4Ideal.nD) → Buf (Elt Ideal) ((c.tc : Thread Cert.Kernel4Ideal.nD Cert.Kernel4Ideal.τ).loc Cert.Kernel4Ideal.main_v46_2)) (v3 : (c : Dev Cert.Kernel4Ideal.nD) → Buf (Elt Ideal) ((c.tc : Thread Cert.Kernel4Ideal.nD Cert.Kernel4Ideal.τ).loc Cert.Kernel4Ideal.main_v46_3)) (v4 : (c : Dev Cert.Kernel4Ideal.nD) → Buf (Elt Ideal) ((c.tc : Thread Cert.Kernel4Ideal.nD Cert.Kernel4Ideal.τ).loc Cert.Kernel4Ideal.main_v46_4)) (v5 : (c : Dev Cert.Kernel4Ideal.nD) → Buf (Elt Ideal) ((c.tc : Thread Cert.Kernel4Ideal.nD Cert.Kernel4Ideal.τ).loc Cert.Kernel4Ideal.main_v46_5)) (v6 : (c : Dev Cert.Kernel4Ideal.nD) → Buf (Elt Ideal) ((c.tc : Thread Cert.Kernel4Ideal.nD Cert.Kernel4Ideal.τ).loc Cert.Kernel4Ideal.main_v46_6)) (v7 : (c : Dev Cert.Kernel4Ideal.nD) → Buf (Elt Ideal) ((c.tc : Thread Cert.Kernel4Ideal.nD Cert.Kernel4Ideal.τ).loc Cert.Kernel4Ideal.main_v46_7)) (v8 : (c : Dev Cert.Kernel4Ideal.nD) → Buf (Elt Ideal) ((c.tc : Thread Cert.Kernel4Ideal.nD Cert.Kernel4Ideal.τ).loc Cert.Kernel4Ideal.main_v46_8)) (v9 : (c : Dev Cert.Kernel4Ideal.nD) → Buf (Elt Ideal) ((c.tc : Thread Cert.Kernel4Ideal.nD Cert.Kernel4Ideal.τ).loc Cert.Kernel4Ideal.main_v46_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46_0) = v0 c
          ∧ r.2.mem ((c.tc : Thread Cert.Kernel4Ideal.nD Cert.Kernel4Ideal.τ).loc Cert.Kernel4Ideal.main_v46_1) = v1 c
          ∧ r.2.mem ((c.tc : Thread Cert.Kernel4Ideal.nD Cert.Kernel4Ideal.τ).loc Cert.Kernel4Ideal.main_v46_2) = v2 c
          ∧ r.2.mem ((c.tc : Thread Cert.Kernel4Ideal.nD Cert.Kernel4Ideal.τ).loc Cert.Kernel4Ideal.main_v46_3) = v3 c
          ∧ r.2.mem ((c.tc : Thread Cert.Kernel4Ideal.nD Cert.Kernel4Ideal.τ).loc Cert.Kernel4Ideal.main_v46_4) = v4 c
          ∧ r.2.mem ((c.tc : Thread Cert.Kernel4Ideal.nD Cert.Kernel4Ideal.τ).loc Cert.Kernel4Ideal.main_v46_5) = v5 c
          ∧ r.2.mem ((c.tc : Thread Cert.Kernel4Ideal.nD Cert.Kernel4Ideal.τ).loc Cert.Kernel4Ideal.main_v46_6) = v6 c
          ∧ r.2.mem ((c.tc : Thread Cert.Kernel4Ideal.nD Cert.Kernel4Ideal.τ).loc Cert.Kernel4Ideal.main_v46_7) = v7 c
          ∧ r.2.mem ((c.tc : Thread Cert.Kernel4Ideal.nD Cert.Kernel4Ideal.τ).loc Cert.Kernel4Ideal.main_v46_8) = v8 c
          ∧ r.2.mem ((c.tc : Thread Cert.Kernel4Ideal.nD Cert.Kernel4Ideal.τ).loc Cert.Kernel4Ideal.main_v46_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v83) = v0 c
          ∧ r.2.mem ((c.tc : Thread Cert.Reference4Ideal.nD Cert.Reference4Ideal.τ).loc Cert.Reference4Ideal.main_v57) = v1 c
          ∧ r.2.mem ((c.tc : Thread Cert.Reference4Ideal.nD Cert.Reference4Ideal.τ).loc Cert.Reference4Ideal.main_v84) = v2 c
          ∧ r.2.mem ((c.tc : Thread Cert.Reference4Ideal.nD Cert.Reference4Ideal.τ).loc Cert.Reference4Ideal.main_v19) = v3 c
          ∧ r.2.mem ((c.tc : Thread Cert.Reference4Ideal.nD Cert.Reference4Ideal.τ).loc Cert.Reference4Ideal.main_v85) = v4 c
          ∧ r.2.mem ((c.tc : Thread Cert.Reference4Ideal.nD Cert.Reference4Ideal.τ).loc Cert.Reference4Ideal.main_v21) = v5 c
          ∧ r.2.mem ((c.tc : Thread Cert.Reference4Ideal.nD Cert.Reference4Ideal.τ).loc Cert.Reference4Ideal.main_v24) = v6 c
          ∧ r.2.mem ((c.tc : Thread Cert.Reference4Ideal.nD Cert.Reference4Ideal.τ).loc Cert.Reference4Ideal.main_v86) = v7 c
          ∧ r.2.mem ((c.tc : Thread Cert.Reference4Ideal.nD Cert.Reference4Ideal.τ).loc Cert.Reference4Ideal.main_v88) = v8 c
          ∧ r.2.mem ((c.tc : Thread Cert.Reference4Ideal.nD Cert.Reference4Ideal.τ).loc Cert.Reference4Ideal.main_v89) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S2x8192x512 : Shape := ⟨3, ![2, 8192, 512]⟩
abbrev S2x8x1x8192 : Shape := ⟨4, ![2, 8, 1, 8192]⟩
abbrev S_ : Shape := ⟨0, ![]⟩

class Facts : Prop where
  bitsLt_bf16_f32 : FTy.bits .bf16 < FTy.bits .f32
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S2x8x1x8192 : S_.BroadcastsInDim S2x8x1x8192 (![] : Fin 0 → Fin S2x8x1x8192.rank)
  reducesTo_S2x8x1x8192_S_d0_1_2_3 : S2x8x1x8192.ReducesTo [0, 1, 2, 3] S_

variable [Facts]

def fn {F : FTy → Type} [FloatOps F] (main_arg0 : FVec F S2x8192x512 .bf16) (main_arg1 : FVec F S2x8192x512 .bf16) (main_arg2 : FVec F S2x8192x512 .bf16) (main_arg3 : FVec F S2x8x1x8192 .f32) : IVec S_ 1 :=
  let main_v0 : FVec F S2x8192x512 .f32 := (extf .f32 · bitsLt_bf16_f32) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_c : IVec S_ 1 := constantI S_ 1 1#1
  let main_v4 : IVec S_ 1 := (fun x v => Host.reduce IntOp.andi x v reducesTo_S2x8192x512_S_d0_1_2 h_S_) main_v3 main_c
  let main_v5 : FVec F S2x8192x512 .f32 := (extf .f32 · bitsLt_bf16_f32) main_arg1
  let main_v6 : FVec F S2x8192x512 .f32 := Host.absf main_v5
  let main_cst_0 : FVec F S_ .f32 := constant S_ .f32 0x7F800000#32
  let main_v7 : FVec F S2x8192x512 .f32 := broadcastInDim S2x8192x512 ![] bcast_S_S2x8192x512 main_cst_0
  let main_v8 : IVec S2x8192x512 1 := cmpf .olt main_v6 main_v7
  let main_c_1 : IVec S_ 1 := constantI S_ 1 1#1
  let main_v9 : IVec S_ 1 := (fun x v => Host.reduce IntOp.andi x v reducesTo_S2x8192x512_S_d0_1_2 h_S_) main_v8 main_c_1
  let main_v10 : IVec S_ 1 := andi main_v4 main_v9
  let main_v11 : FVec F S2x8x1x8192 .f32 := Host.absf main_arg3
  let main_cst_2 : FVec F S_ .f32 := constant S_ .f32 0x7F800000#32
  let main_v12 : FVec F S2x8x1x8192 .f32 := broadcastInDim S2x8x1x8192 ![] bcast_S_S2x8x1x8192 main_cst_2
  let main_v13 : IVec S2x8x1x8192 1 := cmpf .olt main_v11 main_v12
  let main_c_3 : IVec S_ 1 := constantI S_ 1 1#1
  let main_v14 : IVec S_ 1 := (fun x v => Host.reduce IntOp.andi x v reducesTo_S2x8x1x8192_S_d0_1_2_3 h_S_) main_v13 main_c_3
  let main_v15 : IVec S_ 1 := andi main_v10 main_v14
  main_v15
-- ==== Kernel.lean ====
abbrev S2x8192x512 : Shape := ⟨3, ![2, 8192, 512]⟩
abbrev S2x8x1x8192 : Shape := ⟨4, ![2, 8, 1, 8192]⟩
abbrev S1x1024x128 : Shape := ⟨3, ![1, 1024, 128]⟩
abbrev S1x8192x128 : Shape := ⟨3, ![1, 8192, 128]⟩
abbrev S1x2x1x8192 : Shape := ⟨4, ![1, 2, 1, 8192]⟩
abbrev S2x8x128 : Shape := ⟨3, ![2, 8, 128]⟩
abbrev S1024x128 : Shape := ⟨2, ![1024, 128]⟩
abbrev S1x128 : Shape := ⟨2, ![1, 128]⟩
abbrev S1x1 : Shape := ⟨2, ![1, 1]⟩
abbrev S1024 : Shape := ⟨1, ![1024]⟩
abbrev S1024x1 : Shape := ⟨2, ![1024, 1]⟩
abbrev S1 : Shape := ⟨1, ![1]⟩
abbrev S1x1x1x1024 : Shape := ⟨4, ![1, 1, 1, 1024]⟩
abbrev S1x1024 : Shape := ⟨2, ![1, 1024]⟩
abbrev S8x128 : Shape := ⟨2, ![8, 128]⟩
abbrev S1x8x128 : Shape := ⟨3, ![1, 8, 128]⟩
abbrev S1024x1024 : Shape := ⟨2, ![1024, 1024]⟩
abbrev S128x1024 : Shape := ⟨2, ![128, 1024]⟩
abbrev S1x1x128 : Shape := ⟨3, ![1, 1, 128]⟩
abbrev S1x1x1 : Shape := ⟨3, ![1, 1, 1]⟩

abbrev nBuf : Space → Nat
  | .hbm => 5
  | .vmem => 12
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x512, .bf16⟩
  | .hbm, ⟨3, _⟩ => ⟨S2x8x1x8192, .f32⟩
  | .hbm, ⟨4, _⟩ => ⟨S2x8192x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x2x1x8192, .f32⟩
  | .local _ .vmem, ⟨7, _⟩ => ⟨S1x2x1x8192, .f32⟩
  | .local _ .vmem, ⟨8, _⟩ => ⟨S1x1024x128, .bf16⟩
  | .local _ .vmem, ⟨9, _⟩ => ⟨S1x1024x128, .bf16⟩
  | .local _ .vmem, ⟨10, _⟩ => ⟨S2x8x128, .f32⟩
  | .local _ .vmem, ⟨11, _⟩ => ⟨S2x8x128, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_0 : BitVec 32 := 0#32
  let v7 : BitVec 1 := Scalar.cmpi .ne v6 c0_i32_0
  v7

@[reducible] def k0_t1_loop : Scf.Loop 32 :=
  let c0_i32_73 : BitVec 32 := 0#32
  let c8_i32 : BitVec 32 := 8#32
  let v203 : BitVec 32 := Scalar.addi c0_i32_73 c8_i32
  let c1_i32_74 : BitVec 32 := 1#32
  ⟨c0_i32_73, v203, c1_i32_74⟩
def k0_mult1 (k0_t1 : Fin k0_t1_loop.trips) : BitVec 32 :=
  let c0_i32_73 : BitVec 32 := 0#32
  let c1_i32_74 : BitVec 32 := 1#32
  let arg10 : BitVec 32 := Scf.iv c0_i32_73 c1_i32_74 k0_t1
  let c1024_i32_88 : BitVec 32 := 1024#32
  let v227 : BitVec 32 := Scalar.muli arg10 c1024_i32_88
  v227
def k0_off1 (k0_t1 : Fin k0_t1_loop.trips) : Fin 3 → Nat :=
  let c0_89 : Index := 0#32
  let c0_i32_73 : BitVec 32 := 0#32
  let c1_i32_74 : BitVec 32 := 1#32
  let arg10 : BitVec 32 := Scf.iv c0_i32_73 c1_i32_74 k0_t1
  let c1024_i32_88 : BitVec 32 := 1024#32
  let v227 : BitVec 32 := Scalar.muli arg10 c1024_i32_88
  let v228 : BitVec 32 := v227
  let v229 : Index := Scalar.indexCast v228
  let c0_90 : Index := 0#32
  ![0, v229.toNat, 0]
def k0_off2 (k0_t1 : Fin k0_t1_loop.trips) : Fin 4 → Nat :=
  let c0_97 : Index := 0#32
  let c0_98 : Index := 0#32
  let c0_99 : Index := 0#32
  let c0_i32_73 : BitVec 32 := 0#32
  let c1_i32_74 : BitVec 32 := 1#32
  let arg10 : BitVec 32 := Scf.iv c0_i32_73 c1_i32_74 k0_t1
  let c1024_i32_88 : BitVec 32 := 1024#32
  let v227 : BitVec 32 := Scalar.muli arg10 c1024_i32_88
  let v228 : BitVec 32 := v227
  let v250 : Index := Scalar.indexCast v228
  ![0, 0, 0, v250.toNat]
def k0_off3 (k0_t1 : Fin k0_t1_loop.trips) : Fin 4 → Nat :=
  let c0_101 : Index := 0#32
  let c1_102 : Index := 1#32
  let c0_103 : Index := 0#32
  let c0_i32_73 : BitVec 32 := 0#32
  let c1_i32_74 : BitVec 32 := 1#32
  let arg10 : BitVec 32 := Scf.iv c0_i32_73 c1_i32_74 k0_t1
  let c1024_i32_88 : BitVec 32 := 1024#32
  let v227 : BitVec 32 := Scalar.muli arg10 c1024_i32_88
  let v228 : BitVec 32 := v227
  let v260 : Index := Scalar.indexCast v228
  ![0, 1, 0, v260.toNat]
def k0_mult2 (i : grid0.Coords) : BitVec 32 :=
  let arg2 : BitVec 32 := BitVec.ofNat 32 (i 2).val
  let c1024_i32 : BitVec 32 := 1024#32
  let v15 : BitVec 32 := Scalar.muli arg2 c1024_i32
  v15
def k0_off4 (i : grid0.Coords) : Fin 4 → Nat :=
  let c0_4 : Index := 0#32
  let c0_5 : Index := 0#32
  let c0_6 : Index := 0#32
  let arg2 : BitVec 32 := BitVec.ofNat 32 (i 2).val
  let c1024_i32 : BitVec 32 := 1024#32
  let v15 : BitVec 32 := Scalar.muli arg2 c1024_i32
  let v16 : BitVec 32 := v15
  let v17 : Index := Scalar.indexCast v16
  ![0, 0, 0, v17.toNat]
def k0_mult3 (i : grid0.Coords) : BitVec 32 :=
  let arg2 : BitVec 32 := BitVec.ofNat 32 (i 2).val
  let c1024_i32_13 : BitVec 32 := 1024#32
  let v39 : BitVec 32 := Scalar.muli arg2 c1024_i32_13
  v39
def k0_off5 (i : grid0.Coords) : Fin 4 → Nat :=
  let c0_14 : Index := 0#32
  let c1 : Index := 1#32
  let c0_15 : Index := 0#32
  let arg2 : BitVec 32 := BitVec.ofNat 32 (i 2).val
  let c1024_i32_13 : BitVec 32 := 1024#32
  let v39 : BitVec 32 := Scalar.muli arg2 c1024_i32_13
  let v40 : BitVec 32 := v39
  let v41 : Index := Scalar.indexCast v40
  ![0, 1, 0, v41.toNat]
def k0_mult4 (i : grid0.Coords) : BitVec 32 :=
  let arg2 : BitVec 32 := BitVec.ofNat 32 (i 2).val
  let c1024_i32_24 : BitVec 32 := 1024#32
  let v64 : BitVec 32 := Scalar.muli arg2 c1024_i32_24
  v64
def k0_off6 (i : grid0.Coords) : Fin 3 → Nat :=
  let c0_25 : Index := 0#32
  let arg2 : BitVec 32 := BitVec.ofNat 32 (i 2).val
  let c1024_i32_24 : BitVec 32 := 1024#32
  let v64 : BitVec 32 := Scalar.muli arg2 c1024_i32_24
  let v65 : BitVec 32 := v64
  let v66 : Index := Scalar.indexCast v65
  let c0_26 : Index := 0#32
  ![0, v66.toNat, 0]
@[reducible] def k0_t2_loop (v145 : BitVec 32) (v165 : BitVec 32) : Scf.Loop 32 :=
  let c0_i32_57 : BitVec 32 := 0#32
  let v166 : BitVec 32 := Scalar.minsi v145 v165
  let v167 : BitVec 32 := Scalar.subi v166 c0_i32_57
  let c1_i32 : BitVec 32 := 1#32
  let v169 : BitVec 32 := Scalar.divsi v167 c1_i32
  let v170 : BitVec 32 := Scalar.muli v169 c1_i32
  let v171 : BitVec 32 := Scalar.addi c0_i32_57 v170
  let c1_i32_58 : BitVec 32 := 1#32
  ⟨c0_i32_57, v171, c1_i32_58⟩

def k0_mult5 (i : grid0.Coords) (v145 : BitVec 32) (v165 : BitVec 32) (k0_t2 : Fin (k0_t2_loop v145 v165).trips) : BitVec 32 :=
  let arg2 : BitVec 32 := BitVec.ofNat 32 (i 2).val
  let c1_i32_71 : BitVec 32 := 1#32
  let v201 : BitVec 32 := Scalar.subi arg2 c1_i32_71
  let c0_i32_57 : BitVec 32 := 0#32
  let c1_i32_58 : BitVec 32 := 1#32
  let arg10 : BitVec 32 := Scf.iv c0_i32_57 c1_i32_58 k0_t2
  let v202 : BitVec 32 := Scalar.subi v201 arg10
  let c1024_i32_72 : BitVec 32 := 1024#32
  let v203 : BitVec 32 := Scalar.muli v202 c1024_i32_72
  v203
def k0_off7 (i : grid0.Coords) (v145 : BitVec 32) (v165 : BitVec 32) (k0_t2 : Fin (k0_t2_loop v145 v165).trips) : Fin 3 → Nat :=
  let c0_73 : Index := 0#32
  let arg2 : BitVec 32 := BitVec.ofNat 32 (i 2).val
  let c1_i32_71 : BitVec 32 := 1#32
  let v201 : BitVec 32 := Scalar.subi arg2 c1_i32_71
  let c0_i32_57 : BitVec 32 := 0#32
  let c1_i32_58 : BitVec 32 := 1#32
  let arg10 : BitVec 32 := Scf.iv c0_i32_57 c1_i32_58 k0_t2
  let v202 : BitVec 32 := Scalar.subi v201 arg10
  let c1024_i32_72 : BitVec 32 := 1024#32
  let v203 : BitVec 32 := Scalar.muli v202 c1024_i32_72
  let v204 : BitVec 32 := v203
  let v205 : Index := Scalar.indexCast v204
  let c0_74 : Index := 0#32
  ![0, v205.toNat, 0]
def k0_off8 (i : grid0.Coords) (v145 : BitVec 32) (v165 : BitVec 32) (k0_t2 : Fin (k0_t2_loop v145 v165).trips) : Fin 4 → Nat :=
  let c0_77 : Index := 0#32
  let c0_78 : Index := 0#32
  let c0_79 : Index := 0#32
  let arg2 : BitVec 32 := BitVec.ofNat 32 (i 2).val
  let c1_i32_71 : BitVec 32 := 1#32
  let v201 : BitVec 32 := Scalar.subi arg2 c1_i32_71
  let c0_i32_57 : BitVec 32 := 0#32
  let c1_i32_58 : BitVec 32 := 1#32
  let arg10 : BitVec 32 := Scf.iv c0_i32_57 c1_i32_58 k0_t2
  let v202 : BitVec 32 := Scalar.subi v201 arg10
  let c1024_i32_72 : BitVec 32 := 1024#32
  let v203 : BitVec 32 := Scalar.muli v202 c1024_i32_72
  let v204 : BitVec 32 := v203
  let v211 : Index := Scalar.indexCast v204
  ![0, 0, 0, v211.toNat]
def k0_off9 (i : grid0.Coords) (v145 : BitVec 32) (v165 : BitVec 32) (k0_t2 : Fin (k0_t2_loop v145 v165).trips) : Fin 4 → Nat :=
  let c0_81 : Index := 0#32
  let c1_82 : Index := 1#32
  let c0_83 : Index := 0#32
  let arg2 : BitVec 32 := BitVec.ofNat 32 (i 2).val
  let c1_i32_71 : BitVec 32 := 1#32
  let v201 : BitVec 32 := Scalar.subi arg2 c1_i32_71
  let c0_i32_57 : BitVec 32 := 0#32
  let c1_i32_58 : BitVec 32 := 1#32
  let arg10 : BitVec 32 := Scf.iv c0_i32_57 c1_i32_58 k0_t2
  let v202 : BitVec 32 := Scalar.subi v201 arg10
  let c1024_i32_72 : BitVec 32 := 1024#32
  let v203 : BitVec 32 := Scalar.muli v202 c1024_i32_72
  let v204 : BitVec 32 := v203
  let v219 : Index := Scalar.indexCast v204
  ![0, 1, 0, v219.toNat]
@[reducible] def k0_t3_loop (v145 : BitVec 32) (v165 : BitVec 32) : Scf.Loop 32 :=
  let c0_i32_57 : BitVec 32 := 0#32
  let v166 : BitVec 32 := Scalar.minsi v145 v165
  let v167 : BitVec 32 := Scalar.subi v166 c0_i32_57
  let c1_i32 : BitVec 32 := 1#32
  let v169 : BitVec 32 := Scalar.divsi v167 c1_i32
  let v170 : BitVec 32 := Scalar.muli v169 c1_i32
  let v171 : BitVec 32 := Scalar.addi c0_i32_57 v170
  let v168 : BitVec 32 := Scalar.addi c0_i32_57 v167
  let c1_i32_59 : BitVec 32 := 1#32
  ⟨v171, v168, c1_i32_59⟩
def k0_mult6 (i : grid0.Coords) (v145 : BitVec 32) (v165 : BitVec 32) (k0_t3 : Fin (k0_t3_loop v145 v165).trips) : BitVec 32 :=
  let arg2 : BitVec 32 := BitVec.ofNat 32 (i 2).val
  let c1_i32_71 : BitVec 32 := 1#32
  let v201 : BitVec 32 := Scalar.subi arg2 c1_i32_71
  let c0_i32_57 : BitVec 32 := 0#32
  let v166 : BitVec 32 := Scalar.minsi v145 v165
  let v167 : BitVec 32 := Scalar.subi v166 c0_i32_57
  let c1_i32 : BitVec 32 := 1#32
  let v169 : BitVec 32 := Scalar.divsi v167 c1_i32
  let v170 : BitVec 32 := Scalar.muli v169 c1_i32
  let v171 : BitVec 32 := Scalar.addi c0_i32_57 v170
  let c1_i32_59 : BitVec 32 := 1#32
  let arg10 : BitVec 32 := Scf.iv v171 c1_i32_59 k0_t3
  let v202 : BitVec 32 := Scalar.subi v201 arg10
  let c1024_i32_72 : BitVec 32 := 1024#32
  let v203 : BitVec 32 := Scalar.muli v202 c1024_i32_72
  v203
def k0_off10 (i : grid0.Coords) (v145 : BitVec 32) (v165 : BitVec 32) (k0_t3 : Fin (k0_t3_loop v145 v165).trips) : Fin 3 → Nat :=
  let c0_73 : Index := 0#32
  let arg2 : BitVec 32 := BitVec.ofNat 32 (i 2).val
  let c1_i32_71 : BitVec 32 := 1#32
  let v201 : BitVec 32 := Scalar.subi arg2 c1_i32_71
  let c0_i32_57 : BitVec 32 := 0#32
  let v166 : BitVec 32 := Scalar.minsi v145 v165
  let v167 : BitVec 32 := Scalar.subi v166 c0_i32_57
  let c1_i32 : BitVec 32 := 1#32
  let v169 : BitVec 32 := Scalar.divsi v167 c1_i32
  let v170 : BitVec 32 := Scalar.muli v169 c1_i32
  let v171 : BitVec 32 := Scalar.addi c0_i32_57 v170
  let c1_i32_59 : BitVec 32 := 1#32
  let arg10 : BitVec 32 := Scf.iv v171 c1_i32_59 k0_t3
  let v202 : BitVec 32 := Scalar.subi v201 arg10
  let c1024_i32_72 : BitVec 32 := 1024#32
  let v203 : BitVec 32 := Scalar.muli v202 c1024_i32_72
  let v204 : BitVec 32 := v203
  let v205 : Index := Scalar.indexCast v204
  let c0_74 : Index := 0#32
  ![0, v205.toNat, 0]
def k0_off11 (i : grid0.Coords) (v145 : BitVec 32) (v165 : BitVec 32) (k0_t3 : Fin (k0_t3_loop v145 v165).trips) : Fin 4 → Nat :=
  let c0_77 : Index := 0#32
  let c0_78 : Index := 0#32
  let c0_79 : Index := 0#32
  let arg2 : BitVec 32 := BitVec.ofNat 32 (i 2).val
  let c1_i32_71 : BitVec 32 := 1#32
  let v201 : BitVec 32 := Scalar.subi arg2 c1_i32_71
  let c0_i32_57 : BitVec 32 := 0#32
  let v166 : BitVec 32 := Scalar.minsi v145 v165
  let v167 : BitVec 32 := Scalar.subi v166 c0_i32_57
  let c1_i32 : BitVec 32 := 1#32
  let v169 : BitVec 32 := Scalar.divsi v167 c1_i32
  let v170 : BitVec 32 := Scalar.muli v169 c1_i32
  let v171 : BitVec 32 := Scalar.addi c0_i32_57 v170
  let c1_i32_59 : BitVec 32 := 1#32
  let arg10 : BitVec 32 := Scf.iv v171 c1_i32_59 k0_t3
  let v202 : BitVec 32 := Scalar.subi v201 arg10
  let c1024_i32_72 : BitVec 32 := 1024#32
  let v203 : BitVec 32 := Scalar.muli v202 c1024_i32_72
  let v204 : BitVec 32 := v203
  let v211 : Index := Scalar.indexCast v204
  ![0, 0, 0, v211.toNat]
def k0_off12 (i : grid0.Coords) (v145 : BitVec 32) (v165 : BitVec 32) (k0_t3 : Fin (k0_t3_loop v145 v165).trips) : Fin 4 → Nat :=
  let c0_81 : Index := 0#32
  let c1_82 : Index := 1#32
  let c0_83 : Index := 0#32
  let arg2 : BitVec 32 := BitVec.ofNat 32 (i 2).val
  let c1_i32_71 : BitVec 32 := 1#32
  let v201 : BitVec 32 := Scalar.subi arg2 c1_i32_71
  let c0_i32_57 : BitVec 32 := 0#32
  let v166 : BitVec 32 := Scalar.minsi v145 v165
  let v167 : BitVec 32 := Scalar.subi v166 c0_i32_57
  let c1_i32 : BitVec 32 := 1#32
  let v169 : BitVec 32 := Scalar.divsi v167 c1_i32
  let v170 : BitVec 32 := Scalar.muli v169 c1_i32
  let v171 : BitVec 32 := Scalar.addi c0_i32_57 v170
  let c1_i32_59 : BitVec 32 := 1#32
  let arg10 : BitVec 32 := Scf.iv v171 c1_i32_59 k0_t3
  let v202 : BitVec 32 := Scalar.subi v201 arg10
  let c1024_i32_72 : BitVec 32 := 1024#32
  let v203 : BitVec 32 := Scalar.muli v202 c1024_i32_72
  let v204 : BitVec 32 := v203
  let v219 : Index := Scalar.indexCast v204
  ![0, 1, 0, v219.toNat]
@[reducible] def k0_t4_loop (v145 : BitVec 32) (v165 : BitVec 32) : Scf.Loop 32 :=
  let v166 : BitVec 32 := Scalar.minsi v145 v165
  let v174 : BitVec 32 := Scalar.subi v145 v166
  let c1_i32_60 : BitVec 32 := 1#32
  let v176 : BitVec 32 := Scalar.divsi v174 c1_i32_60
  let v177 : BitVec 32 := Scalar.muli v176 c1_i32_60
  let v178 : BitVec 32 := Scalar.addi v166 v177
  let c1_i32_61 : BitVec 32 := 1#32
  ⟨v166, v178, c1_i32_61⟩
def k0_mult7 (i : grid0.Coords) (v145 : BitVec 32) (v165 : BitVec 32) (k0_t4 : Fin (k0_t4_loop v145 v165).trips) : BitVec 32 :=
  let arg2 : BitVec 32 := BitVec.ofNat 32 (i 2).val
  let c1_i32_71 : BitVec 32 := 1#32
  let v201 : BitVec 32 := Scalar.subi arg2 c1_i32_71
  let v166 : BitVec 32 := Scalar.minsi v145 v165
  let c1_i32_61 : BitVec 32 := 1#32
  let arg10 : BitVec 32 := Scf.iv v166 c1_i32_61 k0_t4
  let v202 : BitVec 32 := Scalar.subi v201 arg10
  let c1024_i32_72 : BitVec 32 := 1024#32
  let v203 : BitVec 32 := Scalar.muli v202 c1024_i32_72
  v203
def k0_off13 (i : grid0.Coords) (v145 : BitVec 32) (v165 : BitVec 32) (k0_t4 : Fin (k0_t4_loop v145 v165).trips) : Fin 3 → Nat :=
  let c0_73 : Index := 0#32
  let arg2 : BitVec 32 := BitVec.ofNat 32 (i 2).val
  let c1_i32_71 : BitVec 32 := 1#32
  let v201 : BitVec 32 := Scalar.subi arg2 c1_i32_71
  let v166 : BitVec 32 := Scalar.minsi v145 v165
  let c1_i32_61 : BitVec 32 := 1#32
  let arg10 : BitVec 32 := Scf.iv v166 c1_i32_61 k0_t4
  let v202 : BitVec 32 := Scalar.subi v201 arg10
  let c1024_i32_72 : BitVec 32 := 1024#32
  let v203 : BitVec 32 := Scalar.muli v202 c1024_i32_72
  let v204 : BitVec 32 := v203
  let v205 : Index := Scalar.indexCast v204
  let c0_74 : Index := 0#32
  ![0, v205.toNat, 0]
def k0_off14 (i : grid0.Coords) (v145 : BitVec 32) (v165 : BitVec 32) (k0_t4 : Fin (k0_t4_loop v145 v165).trips) : Fin 4 → Nat :=
  let c0_77 : Index := 0#32
  let c0_78 : Index := 0#32
  let c0_79 : Index := 0#32
  let arg2 : BitVec 32 := BitVec.ofNat 32 (i 2).val
  let c1_i32_71 : BitVec 32 := 1#32
  let v201 : BitVec 32 := Scalar.subi arg2 c1_i32_71
  let v166 : BitVec 32 := Scalar.minsi v145 v165
  let c1_i32_61 : BitVec 32 := 1#32
  let arg10 : BitVec 32 := Scf.iv v166 c1_i32_61 k0_t4
  let v202 : BitVec 32 := Scalar.subi v201 arg10
  let c1024_i32_72 : BitVec 32 := 1024#32
  let v203 : BitVec 32 := Scalar.muli v202 c1024_i32_72
  let v204 : BitVec 32 := v203
  let v211 : Index := Scalar.indexCast v204
  ![0, 0, 0, v211.toNat]
@[reducible] def k0_t5_loop (v145 : BitVec 32) (v165 : BitVec 32) : Scf.Loop 32 :=
  let v166 : BitVec 32 := Scalar.minsi v145 v165
  let v174 : BitVec 32 := Scalar.subi v145 v166
  let c1_i32_60 : BitVec 32 := 1#32
  let v176 : BitVec 32 := Scalar.divsi v174 c1_i32_60
  let v177 : BitVec 32 := Scalar.muli v176 c1_i32_60
  let v178 : BitVec 32 := Scalar.addi v166 v177
  let v175 : BitVec 32 := Scalar.addi v166 v174
  let c1_i32_62 : BitVec 32 := 1#32
  ⟨v178, v175, c1_i32_62⟩
def k0_mult8 (i : grid0.Coords) (v145 : BitVec 32) (v165 : BitVec 32) (k0_t5 : Fin (k0_t5_loop v145 v165).trips) : BitVec 32 :=
  let arg2 : BitVec 32 := BitVec.ofNat 32 (i 2).val
  let c1_i32_71 : BitVec 32 := 1#32
  let v201 : BitVec 32 := Scalar.subi arg2 c1_i32_71
  let v166 : BitVec 32 := Scalar.minsi v145 v165
  let v174 : BitVec 32 := Scalar.subi v145 v166
  let c1_i32_60 : BitVec 32 := 1#32
  let v176 : BitVec 32 := Scalar.divsi v174 c1_i32_60
  let v177 : BitVec 32 := Scalar.muli v176 c1_i32_60
  let v178 : BitVec 32 := Scalar.addi v166 v177
  let c1_i32_62 : BitVec 32 := 1#32
  let arg10 : BitVec 32 := Scf.iv v178 c1_i32_62 k0_t5
  let v202 : BitVec 32 := Scalar.subi v201 arg10
  let c1024_i32_72 : BitVec 32 := 1024#32
  let v203 : BitVec 32 := Scalar.muli v202 c1024_i32_72
  v203
def k0_off15 (i : grid0.Coords) (v145 : BitVec 32) (v165 : BitVec 32) (k0_t5 : Fin (k0_t5_loop v145 v165).trips) : Fin 3 → Nat :=
  let c0_73 : Index := 0#32
  let arg2 : BitVec 32 := BitVec.ofNat 32 (i 2).val
  let c1_i32_71 : BitVec 32 := 1#32
  let v201 : BitVec 32 := Scalar.subi arg2 c1_i32_71
  let v166 : BitVec 32 := Scalar.minsi v145 v165
  let v174 : BitVec 32 := Scalar.subi v145 v166
  let c1_i32_60 : BitVec 32 := 1#32
  let v176 : BitVec 32 := Scalar.divsi v174 c1_i32_60
  let v177 : BitVec 32 := Scalar.muli v176 c1_i32_60
  let v178 : BitVec 32 := Scalar.addi v166 v177
  let c1_i32_62 : BitVec 32 := 1#32
  let arg10 : BitVec 32 := Scf.iv v178 c1_i32_62 k0_t5
  let v202 : BitVec 32 := Scalar.subi v201 arg10
  let c1024_i32_72 : BitVec 32 := 1024#32
  let v203 : BitVec 32 := Scalar.muli v202 c1024_i32_72
  let v204 : BitVec 32 := v203
  let v205 : Index := Scalar.indexCast v204
  let c0_74 : Index := 0#32
  ![0, v205.toNat, 0]
def k0_off16 (i : grid0.Coords) (v145 : BitVec 32) (v165 : BitVec 32) (k0_t5 : Fin (k0_t5_loop v145 v165).trips) : Fin 4 → Nat :=
  let c0_77 : Index := 0#32
  let c0_78 : Index := 0#32
  let c0_79 : Index := 0#32
  let arg2 : BitVec 32 := BitVec.ofNat 32 (i 2).val
  let c1_i32_71 : BitVec 32 := 1#32
  let v201 : BitVec 32 := Scalar.subi arg2 c1_i32_71
  let v166 : BitVec 32 := Scalar.minsi v145 v165
  let v174 : BitVec 32 := Scalar.subi v145 v166
  let c1_i32_60 : BitVec 32 := 1#32
  let v176 : BitVec 32 := Scalar.divsi v174 c1_i32_60
  let v177 : BitVec 32 := Scalar.muli v176 c1_i32_60
  let v178 : BitVec 32 := Scalar.addi v166 v177
  let c1_i32_62 : BitVec 32 := 1#32
  let arg10 : BitVec 32 := Scf.iv v178 c1_i32_62 k0_t5
  let v202 : BitVec 32 := Scalar.subi v201 arg10
  let c1024_i32_72 : BitVec 32 := 1024#32
  let v203 : BitVec 32 := Scalar.muli v202 c1024_i32_72
  let v204 : BitVec 32 := v203
  let v211 : Index := Scalar.indexCast v204
  ![0, 0, 0, v211.toNat]
@[reducible] def k0_t6_loop (v145 : BitVec 32) (v165 : BitVec 32) : Scf.Loop 32 :=
  let v166 : BitVec 32 := Scalar.minsi v145 v165
  let v181 : BitVec 32 := Scalar.subi v165 v166
  let c1_i32_63 : BitVec 32 := 1#32
  let v183 : BitVec 32 := Scalar.divsi v181 c1_i32_63
  let v184 : BitVec 32 := Scalar.muli v183 c1_i32_63
  let v185 : BitVec 32 := Scalar.addi v166 v184
  let c1_i32_64 : BitVec 32 := 1#32
  ⟨v166, v185, c1_i32_64⟩
def k0_mult9 (i : grid0.Coords) (v145 : BitVec 32) (v165 : BitVec 32) (k0_t6 : Fin (k0_t6_loop v145 v165).trips) : BitVec 32 :=
  let arg2 : BitVec 32 := BitVec.ofNat 32 (i 2).val
  let c1_i32_71 : BitVec 32 := 1#32
  let v201 : BitVec 32 := Scalar.subi arg2 c1_i32_71
  let v166 : BitVec 32 := Scalar.minsi v145 v165
  let c1_i32_64 : BitVec 32 := 1#32
  let arg10 : BitVec 32 := Scf.iv v166 c1_i32_64 k0_t6
  let v202 : BitVec 32 := Scalar.subi v201 arg10
  let c1024_i32_72 : BitVec 32 := 1024#32
  let v203 : BitVec 32 := Scalar.muli v202 c1024_i32_72
  v203
def k0_off17 (i : grid0.Coords) (v145 : BitVec 32) (v165 : BitVec 32) (k0_t6 : Fin (k0_t6_loop v145 v165).trips) : Fin 3 → Nat :=
  let c0_73 : Index := 0#32
  let arg2 : BitVec 32 := BitVec.ofNat 32 (i 2).val
  let c1_i32_71 : BitVec 32 := 1#32
  let v201 : BitVec 32 := Scalar.subi arg2 c1_i32_71
  let v166 : BitVec 32 := Scalar.minsi v145 v165
  let c1_i32_64 : BitVec 32 := 1#32
  let arg10 : BitVec 32 := Scf.iv v166 c1_i32_64 k0_t6
  let v202 : BitVec 32 := Scalar.subi v201 arg10
  let c1024_i32_72 : BitVec 32 := 1024#32
  let v203 : BitVec 32 := Scalar.muli v202 c1024_i32_72
  let v204 : BitVec 32 := v203
  let v205 : Index := Scalar.indexCast v204
  let c0_74 : Index := 0#32
  ![0, v205.toNat, 0]
def k0_off18 (i : grid0.Coords) (v145 : BitVec 32) (v165 : BitVec 32) (k0_t6 : Fin (k0_t6_loop v145 v165).trips) : Fin 4 → Nat :=
  let c0_77 : Index := 0#32
  let c1_78 : Index := 1#32
  let c0_79 : Index := 0#32
  let arg2 : BitVec 32 := BitVec.ofNat 32 (i 2).val
  let c1_i32_71 : BitVec 32 := 1#32
  let v201 : BitVec 32 := Scalar.subi arg2 c1_i32_71
  let v166 : BitVec 32 := Scalar.minsi v145 v165
  let c1_i32_64 : BitVec 32 := 1#32
  let arg10 : BitVec 32 := Scf.iv v166 c1_i32_64 k0_t6
  let v202 : BitVec 32 := Scalar.subi v201 arg10
  let c1024_i32_72 : BitVec 32 := 1024#32
  let v203 : BitVec 32 := Scalar.muli v202 c1024_i32_72
  let v204 : BitVec 32 := v203
  let v211 : Index := Scalar.indexCast v204
  ![0, 1, 0, v211.toNat]
@[reducible] def k0_t7_loop (v145 : BitVec 32) (v165 : BitVec 32) : Scf.Loop 32 :=
  let v166 : BitVec 32 := Scalar.minsi v145 v165
  let v181 : BitVec 32 := Scalar.subi v165 v166
  let c1_i32_63 : BitVec 32 := 1#32
  let v183 : BitVec 32 := Scalar.divsi v181 c1_i32_63
  let v184 : BitVec 32 := Scalar.muli v183 c1_i32_63
  let v185 : BitVec 32 := Scalar.addi v166 v184
  let v182 : BitVec 32 := Scalar.addi v166 v181
  let c1_i32_65 : BitVec 32 := 1#32
  ⟨v185, v182, c1_i32_65⟩
def k0_mult10 (i : grid0.Coords) (v145 : BitVec 32) (v165 : BitVec 32) (k0_t7 : Fin (k0_t7_loop v145 v165).trips) : BitVec 32 :=
  let arg2 : BitVec 32 := BitVec.ofNat 32 (i 2).val
  let c1_i32_71 : BitVec 32 := 1#32
  let v201 : BitVec 32 := Scalar.subi arg2 c1_i32_71
  let v166 : BitVec 32 := Scalar.minsi v145 v165
  let v181 : BitVec 32 := Scalar.subi v165 v166
  let c1_i32_63 : BitVec 32 := 1#32
  let v183 : BitVec 32 := Scalar.divsi v181 c1_i32_63
  let v184 : BitVec 32 := Scalar.muli v183 c1_i32_63
  let v185 : BitVec 32 := Scalar.addi v166 v184
  let c1_i32_65 : BitVec 32 := 1#32
  let arg10 : BitVec 32 := Scf.iv v185 c1_i32_65 k0_t7
  let v202 : BitVec 32 := Scalar.subi v201 arg10
  let c1024_i32_72 : BitVec 32 := 1024#32
  let v203 : BitVec 32 := Scalar.muli v202 c1024_i32_72
  v203
def k0_off19 (i : grid0.Coords) (v145 : BitVec 32) (v165 : BitVec 32) (k0_t7 : Fin (k0_t7_loop v145 v165).trips) : Fin 3 → Nat :=
  let c0_73 : Index := 0#32
  let arg2 : BitVec 32 := BitVec.ofNat 32 (i 2).val
  let c1_i32_71 : BitVec 32 := 1#32
  let v201 : BitVec 32 := Scalar.subi arg2 c1_i32_71
  let v166 : BitVec 32 := Scalar.minsi v145 v165
  let v181 : BitVec 32 := Scalar.subi v165 v166
  let c1_i32_63 : BitVec 32 := 1#32
  let v183 : BitVec 32 := Scalar.divsi v181 c1_i32_63
  let v184 : BitVec 32 := Scalar.muli v183 c1_i32_63
  let v185 : BitVec 32 := Scalar.addi v166 v184
  let c1_i32_65 : BitVec 32 := 1#32
  let arg10 : BitVec 32 := Scf.iv v185 c1_i32_65 k0_t7
  let v202 : BitVec 32 := Scalar.subi v201 arg10
  let c1024_i32_72 : BitVec 32 := 1024#32
  let v203 : BitVec 32 := Scalar.muli v202 c1024_i32_72
  let v204 : BitVec 32 := v203
  let v205 : Index := Scalar.indexCast v204
  let c0_74 : Index := 0#32
  ![0, v205.toNat, 0]
def k0_off20 (i : grid0.Coords) (v145 : BitVec 32) (v165 : BitVec 32) (k0_t7 : Fin (k0_t7_loop v145 v165).trips) : Fin 4 → Nat :=
  let c0_77 : Index := 0#32
  let c1_78 : Index := 1#32
  let c0_79 : Index := 0#32
  let arg2 : BitVec 32 := BitVec.ofNat 32 (i 2).val
  let c1_i32_71 : BitVec 32 := 1#32
  let v201 : BitVec 32 := Scalar.subi arg2 c1_i32_71
  let v166 : BitVec 32 := Scalar.minsi v145 v165
  let v181 : BitVec 32 := Scalar.subi v165 v166
  let c1_i32_63 : BitVec 32 := 1#32
  let v183 : BitVec 32 := Scalar.divsi v181 c1_i32_63
  let v184 : BitVec 32 := Scalar.muli v183 c1_i32_63
  let v185 : BitVec 32 := Scalar.addi v166 v184
  let c1_i32_65 : BitVec 32 := 1#32
  let arg10 : BitVec 32 := Scf.iv v185 c1_i32_65 k0_t7
  let v202 : BitVec 32 := Scalar.subi v201 arg10
  let c1024_i32_72 : BitVec 32 := 1024#32
  let v203 : BitVec 32 := Scalar.muli v202 c1024_i32_72
  let v204 : BitVec 32 := v203
  let v211 : Index := Scalar.indexCast v204
  ![0, 1, 0, v211.toNat]

def k0_chk1 (i : grid0.Coords) (v145 : BitVec 32) (v165 : BitVec 32) : Prop :=
  ((k0_t2_loop v145 v165).OK) ∧
  (∀ k0_t2 : Fin (k0_t2_loop v145 v165).trips, 1024 ∣ (k0_mult5 i v145 v165 k0_t2).toNat) ∧
  (∀ k0_t2 : Fin (k0_t2_loop v145 v165).trips, ∀ a, (k0_off7 i v145 v165 k0_t2) a + S1x1024x128.size a ≤ S1x8192x128.size a) ∧
  (∀ k0_t2 : Fin (k0_t2_loop v145 v165).trips, ∀ a, (k0_off8 i v145 v165 k0_t2) a + S1x1x1x1024.size a ≤ S1x2x1x8192.size a) ∧
  (∀ k0_t2 : Fin (k0_t2_loop v145 v165).trips, ∀ a, (k0_off9 i v145 v165 k0_t2) a + S1x1x1x1024.size a ≤ S1x2x1x8192.size a) ∧
  ((k0_t3_loop v145 v165).OK) ∧
  (∀ k0_t3 : Fin (k0_t3_loop v145 v165).trips, 1024 ∣ (k0_mult6 i v145 v165 k0_t3).toNat) ∧
  (∀ k0_t3 : Fin (k0_t3_loop v145 v165).trips, ∀ a, (k0_off10 i v145 v165 k0_t3) a + S1x1024x128.size a ≤ S1x8192x128.size a) ∧
  (∀ k0_t3 : Fin (k0_t3_loop v145 v165).trips, ∀ a, (k0_off11 i v145 v165 k0_t3) a + S1x1x1x1024.size a ≤ S1x2x1x8192.size a) ∧
  (∀ k0_t3 : Fin (k0_t3_loop v145 v165).trips, ∀ a, (k0_off12 i v145 v165 k0_t3) a + S1x1x1x1024.size a ≤ S1x2x1x8192.size a) ∧
  ((k0_t4_loop v145 v165).OK) ∧
  (∀ k0_t4 : Fin (k0_t4_loop v145 v165).trips, 1024 ∣ (k0_mult7 i v145 v165 k0_t4).toNat) ∧
  (∀ k0_t4 : Fin (k0_t4_loop v145 v165).trips, ∀ a, (k0_off13 i v145 v165 k0_t4) a + S1x1024x128.size a ≤ S1x8192x128.size a) ∧
  (∀ k0_t4 : Fin (k0_t4_loop v145 v165).trips, ∀ a, (k0_off14 i v145 v165 k0_t4) a + S1x1x1x1024.size a ≤ S1x2x1x8192.size a) ∧
  ((k0_t5_loop v145 v165).OK) ∧
  (∀ k0_t5 : Fin (k0_t5_loop v145 v165).trips, 1024 ∣ (k0_mult8 i v145 v165 k0_t5).toNat) ∧
  (∀ k0_t5 : Fin (k0_t5_loop v145 v165).trips, ∀ a, (k0_off15 i v145 v165 k0_t5) a + S1x1024x128.size a ≤ S1x8192x128.size a) ∧
  (∀ k0_t5 : Fin (k0_t5_loop v145 v165).trips, ∀ a, (k0_off16 i v145 v165 k0_t5) a + S1x1x1x1024.size a ≤ S1x2x1x8192.size a) ∧
  ((k0_t6_loop v145 v165).OK) ∧
  (∀ k0_t6 : Fin (k0_t6_loop v145 v165).trips, 1024 ∣ (k0_mult9 i v145 v165 k0_t6).toNat) ∧
  (∀ k0_t6 : Fin (k0_t6_loop v145 v165).trips, ∀ a, (k0_off17 i v145 v165 k0_t6) a + S1x1024x128.size a ≤ S1x8192x128.size a) ∧
  (∀ k0_t6 : Fin (k0_t6_loop v145 v165).trips, ∀ a, (k0_off18 i v145 v165 k0_t6) a + S1x1x1x1024.size a ≤ S1x2x1x8192.size a) ∧
  ((k0_t7_loop v145 v165).OK) ∧
  (∀ k0_t7 : Fin (k0_t7_loop v145 v165).trips, 1024 ∣ (k0_mult10 i v145 v165 k0_t7).toNat) ∧
  (∀ k0_t7 : Fin (k0_t7_loop v145 v165).trips, ∀ a, (k0_off19 i v145 v165 k0_t7) a + S1x1024x128.size a ≤ S1x8192x128.size a) ∧
  (∀ k0_t7 : Fin (k0_t7_loop v145 v165).trips, ∀ a, (k0_off20 i v145 v165 k0_t7) a + S1x1x1x1024.size a ≤ S1x2x1x8192.size a)
theorem k0_t2_ok : ∀ (i : grid0.Coords) (v145 : BitVec 32) (v165 : BitVec 32) (k0_hw1 : k0_chk1 i v145 v165), (k0_t2_loop v145 v165).OK := fun i v145 v165 k0_hw1 => k0_hw1.1
theorem k0_mult5_dvd : ∀ (i : grid0.Coords) (v145 : BitVec 32) (v165 : BitVec 32) (k0_hw1 : k0_chk1 i v145 v165) (k0_t2 : Fin (k0_t2_loop v145 v165).trips), 1024 ∣ (k0_mult5 i v145 v165 k0_t2).toNat := fun i v145 v165 k0_hw1 k0_t2 => k0_hw1.2.1 k0_t2
theorem k0_off7_inb : ∀ (i : grid0.Coords) (v145 : BitVec 32) (v165 : BitVec 32) (k0_hw1 : k0_chk1 i v145 v165) (k0_t2 : Fin (k0_t2_loop v145 v165).trips), ∀ a, (k0_off7 i v145 v165 k0_t2) a + S1x1024x128.size a ≤ S1x8192x128.size a := fun i v145 v165 k0_hw1 k0_t2 => k0_hw1.2.2.1 k0_t2
theorem k0_off8_inb : ∀ (i : grid0.Coords) (v145 : BitVec 32) (v165 : BitVec 32) (k0_hw1 : k0_chk1 i v145 v165) (k0_t2 : Fin (k0_t2_loop v145 v165).trips), ∀ a, (k0_off8 i v145 v165 k0_t2) a + S1x1x1x1024.size a ≤ S1x2x1x8192.size a := fun i v145 v165 k0_hw1 k0_t2 => k0_hw1.2.2.2.1 k0_t2
theorem k0_off9_inb : ∀ (i : grid0.Coords) (v145 : BitVec 32) (v165 : BitVec 32) (k0_hw1 : k0_chk1 i v145 v165) (k0_t2 : Fin (k0_t2_loop v145 v165).trips), ∀ a, (k0_off9 i v145 v165 k0_t2) a + S1x1x1x1024.size a ≤ S1x2x1x8192.size a := fun i v145 v165 k0_hw1 k0_t2 => k0_hw1.2.2.2.2.1 k0_t2
theorem k0_t3_ok : ∀ (i : grid0.Coords) (v145 : BitVec 32) (v165 : BitVec 32) (k0_hw1 : k0_chk1 i v145 v165), (k0_t3_loop v145 v165).OK := fun i v145 v165 k0_hw1 => k0_hw1.2.2.2.2.2.1
theorem k0_mult6_dvd : ∀ (i : grid0.Coords) (v145 : BitVec 32) (v165 : BitVec 32) (k0_hw1 : k0_chk1 i v145 v165) (k0_t3 : Fin (k0_t3_loop v145 v165).trips), 1024 ∣ (k0_mult6 i v145 v165 k0_t3).toNat := fun i v145 v165 k0_hw1 k0_t3 => k0_hw1.2.2.2.2.2.2.1 k0_t3
theorem k0_off10_inb : ∀ (i : grid0.Coords) (v145 : BitVec 32) (v165 : BitVec 32) (k0_hw1 : k0_chk1 i v145 v165) (k0_t3 : Fin (k0_t3_loop v145 v165).trips), ∀ a, (k0_off10 i v145 v165 k0_t3) a + S1x1024x128.size a ≤ S1x8192x128.size a := fun i v145 v165 k0_hw1 k0_t3 => k0_hw1.2.2.2.2.2.2.2.1 k0_t3
theorem k0_off11_inb : ∀ (i : grid0.Coords) (v145 : BitVec 32) (v165 : BitVec 32) (k0_hw1 : k0_chk1 i v145 v165) (k0_t3 : Fin (k0_t3_loop v145 v165).trips), ∀ a, (k0_off11 i v145 v165 k0_t3) a + S1x1x1x1024.size a ≤ S1x2x1x8192.size a := fun i v145 v165 k0_hw1 k0_t3 => k0_hw1.2.2.2.2.2.2.2.2.1 k0_t3
theorem k0_off12_inb : ∀ (i : grid0.Coords) (v145 : BitVec 32) (v165 : BitVec 32) (k0_hw1 : k0_chk1 i v145 v165) (k0_t3 : Fin (k0_t3_loop v145 v165).trips), ∀ a, (k0_off12 i v145 v165 k0_t3) a + S1x1x1x1024.size a ≤ S1x2x1x8192.size a := fun i v145 v165 k0_hw1 k0_t3 => k0_hw1.2.2.2.2.2.2.2.2.2.1 k0_t3
theorem k0_t4_ok : ∀ (i : grid0.Coords) (v145 : BitVec 32) (v165 : BitVec 32) (k0_hw1 : k0_chk1 i v145 v165), (k0_t4_loop v145 v165).OK := fun i v145 v165 k0_hw1 => k0_hw1.2.2.2.2.2.2.2.2.2.2.1
theorem k0_mult7_dvd : ∀ (i : grid0.Coords) (v145 : BitVec 32) (v165 : BitVec 32) (k0_hw1 : k0_chk1 i v145 v165) (k0_t4 : Fin (k0_t4_loop v145 v165).trips), 1024 ∣ (k0_mult7 i v145 v165 k0_t4).toNat := fun i v145 v165 k0_hw1 k0_t4 => k0_hw1.2.2.2.2.2.2.2.2.2.2.2.1 k0_t4
theorem k0_off13_inb : ∀ (i : grid0.Coords) (v145 : BitVec 32) (v165 : BitVec 32) (k0_hw1 : k0_chk1 i v145 v165) (k0_t4 : Fin (k0_t4_loop v145 v165).trips), ∀ a, (k0_off13 i v145 v165 k0_t4) a + S1x1024x128.size a ≤ S1x8192x128.size a := fun i v145 v165 k0_hw1 k0_t4 => k0_hw1.2.2.2.2.2.2.2.2.2.2.2.2.1 k0_t4
theorem k0_off14_inb : ∀ (i : grid0.Coords) (v145 : BitVec 32) (v165 : BitVec 32) (k0_hw1 : k0_chk1 i v145 v165) (k0_t4 : Fin (k0_t4_loop v145 v165).trips), ∀ a, (k0_off14 i v145 v165 k0_t4) a + S1x1x1x1024.size a ≤ S1x2x1x8192.size a := fun i v145 v165 k0_hw1 k0_t4 => k0_hw1.2.2.2.2.2.2.2.2.2.2.2.2.2.1 k0_t4
theorem k0_t5_ok : ∀ (i : grid0.Coords) (v145 : BitVec 32) (v165 : BitVec 32) (k0_hw1 : k0_chk1 i v145 v165), (k0_t5_loop v145 v165).OK := fun i v145 v165 k0_hw1 => k0_hw1.2.2.2.2.2.2.2.2.2.2.2.2.2.2.1
theorem k0_mult8_dvd : ∀ (i : grid0.Coords) (v145 : BitVec 32) (v165 : BitVec 32) (k0_hw1 : k0_chk1 i v145 v165) (k0_t5 : Fin (k0_t5_loop v145 v165).trips), 1024 ∣ (k0_mult8 i v145 v165 k0_t5).toNat := fun i v145 v165 k0_hw1 k0_t5 => k0_hw1.2.2.2.2.2.2.2.2.2.2.2.2.2.2.2.1 k0_t5
theorem k0_off15_inb : ∀ (i : grid0.Coords) (v145 : BitVec 32) (v165 : BitVec 32) (k0_hw1 : k0_chk1 i v145 v165) (k0_t5 : Fin (k0_t5_loop v145 v165).trips), ∀ a, (k0_off15 i v145 v165 k0_t5) a + S1x1024x128.size a ≤ S1x8192x128.size a := fun i v145 v165 k0_hw1 k0_t5 => k0_hw1.2.2.2.2.2.2.2.2.2.2.2.2.2.2.2.2.1 k0_t5
theorem k0_off16_inb : ∀ (i : grid0.Coords) (v145 : BitVec 32) (v165 : BitVec 32) (k0_hw1 : k0_chk1 i v145 v165) (k0_t5 : Fin (k0_t5_loop v145 v165).trips), ∀ a, (k0_off16 i v145 v165 k0_t5) a + S1x1x1x1024.size a ≤ S1x2x1x8192.size a := fun i v145 v165 k0_hw1 k0_t5 => k0_hw1.2.2.2.2.2.2.2.2.2.2.2.2.2.2.2.2.2.1 k0_t5
theorem k0_t6_ok : ∀ (i : grid0.Coords) (v145 : BitVec 32) (v165 : BitVec 32) (k0_hw1 : k0_chk1 i v145 v165), (k0_t6_loop v145 v165).OK := fun i v145 v165 k0_hw1 => k0_hw1.2.2.2.2.2.2.2.2.2.2.2.2.2.2.2.2.2.2.1
theorem k0_mult9_dvd : ∀ (i : grid0.Coords) (v145 : BitVec 32) (v165 : BitVec 32) (k0_hw1 : k0_chk1 i v145 v165) (k0_t6 : Fin (k0_t6_loop v145 v165).trips), 1024 ∣ (k0_mult9 i v145 v165 k0_t6).toNat := fun i v145 v165 k0_hw1 k0_t6 => k0_hw1.2.2.2.2.2.2.2.2.2.2.2.2.2.2.2.2.2.2.2.1 k0_t6
theorem k0_off17_inb : ∀ (i : grid0.Coords) (v145 : BitVec 32) (v165 : BitVec 32) (k0_hw1 : k0_chk1 i v145 v165) (k0_t6 : Fin (k0_t6_loop v145 v165).trips), ∀ a, (k0_off17 i v145 v165 k0_t6) a + S1x1024x128.size a ≤ S1x8192x128.size a := fun i v145 v165 k0_hw1 k0_t6 => k0_hw1.2.2.2.2.2.2.2.2.2.2.2.2.2.2.2.2.2.2.2.2.1 k0_t6
theorem k0_off18_inb : ∀ (i : grid0.Coords) (v145 : BitVec 32) (v165 : BitVec 32) (k0_hw1 : k0_chk1 i v145 v165) (k0_t6 : Fin (k0_t6_loop v145 v165).trips), ∀ a, (k0_off18 i v145 v165 k0_t6) a + S1x1x1x1024.size a ≤ S1x2x1x8192.size a := fun i v145 v165 k0_hw1 k0_t6 => k0_hw1.2.2.2.2.2.2.2.2.2.2.2.2.2.2.2.2.2.2.2.2.2.1 k0_t6
theorem k0_t7_ok : ∀ (i : grid0.Coords) (v145 : BitVec 32) (v165 : BitVec 32) (k0_hw1 : k0_chk1 i v145 v165), (k0_t7_loop v145 v165).OK := fun i v145 v165 k0_hw1 => k0_hw1.2.2.2.2.2.2.2.2.2.2.2.2.2.2.2.2.2.2.2.2.2.2.1
theorem k0_mult10_dvd : ∀ (i : grid0.Coords) (v145 : BitVec 32) (v165 : BitVec 32) (k0_hw1 : k0_chk1 i v145 v165) (k0_t7 : Fin (k0_t7_loop v145 v165).trips), 1024 ∣ (k0_mult10 i v145 v165 k0_t7).toNat := fun i v145 v165 k0_hw1 k0_t7 => k0_hw1.2.2.2.2.2.2.2.2.2.2.2.2.2.2.2.2.2.2.2.2.2.2.2.1 k0_t7
theorem k0_off19_inb : ∀ (i : grid0.Coords) (v145 : BitVec 32) (v165 : BitVec 32) (k0_hw1 : k0_chk1 i v145 v165) (k0_t7 : Fin (k0_t7_loop v145 v165).trips), ∀ a, (k0_off19 i v145 v165 k0_t7) a + S1x1024x128.size a ≤ S1x8192x128.size a := fun i v145 v165 k0_hw1 k0_t7 => k0_hw1.2.2.2.2.2.2.2.2.2.2.2.2.2.2.2.2.2.2.2.2.2.2.2.2.1 k0_t7
theorem k0_off20_inb : ∀ (i : grid0.Coords) (v145 : BitVec 32) (v165 : BitVec 32) (k0_hw1 : k0_chk1 i v145 v165) (k0_t7 : Fin (k0_t7_loop v145 v165).trips), ∀ a, (k0_off20 i v145 v165 k0_t7) a + S1x1x1x1024.size a ≤ S1x2x1x8192.size a := fun i v145 v165 k0_hw1 k0_t7 => k0_hw1.2.2.2.2.2.2.2.2.2.2.2.2.2.2.2.2.2.2.2.2.2.2.2.2.2 k0_t7

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "zero_prob_log2" => some ⊥
  | _ => none
-- ==== ReferenceIdeal.lean ====
abbrev S2x8192x512 : Shape := ⟨3, ![2, 8192, 512]⟩
abbrev S2x8x1x8192 : Shape := ⟨4, ![2, 8, 1, 8192]⟩
abbrev S2x8192x8x64 : Shape := ⟨4, ![2, 8192, 8, 64]⟩
abbrev S2x8x8192 : Shape := ⟨3, ![2, 8, 8192]⟩
abbrev S2x8x8192x8192 : Shape := ⟨4, ![2, 8, 8192, 8192]⟩
abbrev S2x8x8192x1 : Shape := ⟨4, ![2, 8, 8192, 1]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x8x64x8192 : Shape := ⟨4, ![2, 8, 64, 8192]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S2x8192x512, .bf16⟩
  | .hbm, ⟨2, _⟩ => ⟨S2x8192x512, .bf16⟩
  | .hbm, ⟨3, _⟩ => ⟨S2x8x1x8192, .f32⟩
  | .hbm, ⟨4, _⟩ => ⟨S2x8192x512, .f32⟩
  | .hbm, ⟨5, _⟩ => ⟨S2x8192x8x64, .f32⟩
  | .hbm, ⟨6, _⟩ => ⟨S2x8192x512, .f32⟩
  | .hbm, ⟨7, _⟩ => ⟨S2x8192x8x64, .f32⟩
  | .hbm, ⟨8, _⟩ => ⟨S2x8192x512, .f32⟩
  | .hbm, ⟨9, _⟩ => ⟨S2x8192x8x64, .f32⟩
  | .hbm, ⟨10, _⟩ => ⟨S2x8x8192, .f32⟩
  | .hbm, ⟨11, _⟩ => ⟨S2x8x8192x8192, .f32⟩
  | .hbm, ⟨12, _⟩ => ⟨S2x8x8192x1, .f32⟩
  | .hbm, ⟨13, _⟩ => ⟨S2x8x1x8192, .f32⟩
  | .hbm, ⟨14, _⟩ => ⟨S2x8x8192x8192, .f32⟩
  | .hbm, ⟨15, _⟩ => ⟨S2x8x8192x8192, .f32⟩
  | .hbm, ⟨16, _⟩ => ⟨S2x8x8192x8192, .f32⟩
  | .hbm, ⟨17, _⟩ => ⟨S2x8x8192x8192, .f32⟩
  | .hbm, ⟨18, _⟩ => ⟨S_, .f32⟩
  | .hbm, ⟨19, _⟩ => ⟨S_, .f32⟩
  | .hbm, ⟨20, _⟩ => ⟨S2x8x8192x8192, .f32⟩
  | .hbm, ⟨21, _⟩ => ⟨S2x8x8192x8192, .f32⟩
  | .hbm, ⟨22, _⟩ => ⟨S8192, .i32⟩
  | .hbm, ⟨23, _⟩ => ⟨S8192x1, .i32⟩
  | .hbm, ⟨24, _⟩ => ⟨S1x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S2x8x8192x8192, .i1⟩
  | .hbm, ⟨31, _⟩ => ⟨S2x8x8192x8192, .f32⟩
  | .hbm, ⟨32, _⟩ => ⟨S2x8x8192x8192, .f32⟩
  | .hbm, ⟨33, _⟩ => ⟨S_, .f32⟩
  | .hbm, ⟨34, _⟩ => ⟨S2x8x8192, .f32⟩
  | .hbm, ⟨35, _⟩ => ⟨S_, .f32⟩
  | .hbm, ⟨36, _⟩ => ⟨S2x8x8192, .f32⟩
  | .hbm, ⟨37, _⟩ => ⟨S2x8x8192, .f32⟩
  | .hbm, ⟨38, _⟩ => ⟨S2x8x8192x1, .f32⟩
  | .hbm, ⟨39, _⟩ => ⟨S2x8x8192x8192, .f32⟩
  | .hbm, ⟨40, _⟩ => ⟨S2x8x8192x8192, .f32⟩
  | .hbm, ⟨41, _⟩ => ⟨S2x8x8192x8192, .f32⟩
  | .hbm, ⟨42, _⟩ => ⟨S_, .f32⟩
  | .hbm, ⟨43, _⟩ => ⟨S2x8x8192, .f32⟩
  | .hbm, ⟨44, _⟩ => ⟨S2x8x8192x1, .f32⟩
  | .hbm, ⟨45, _⟩ => ⟨S2x8x8192x8192, .f32⟩
  | .hbm, ⟨46, _⟩ => ⟨S2x8x8192x8192, .f32⟩
  | .hbm, ⟨47, _⟩ => ⟨S2x8x64x8192, .f32⟩
  | .hbm, ⟨48, _⟩ => ⟨S2x8192x8x64, .f32⟩
  | .hbm, ⟨49, _⟩ => ⟨S2x8192x512, .f32⟩
  | .hbm, ⟨50, _⟩ => ⟨S2x8192x512, .bf16⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x512 : Shape := ⟨3, ![2, 8192, 512]⟩
abbrev S16384x512 : Shape := ⟨2, ![16384, 512]⟩
abbrev S16384x2048 : Shape := ⟨2, ![16384, 2048]⟩
abbrev S2x8192x256 : Shape := ⟨3, ![2, 8192, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S16384x1024 : Shape := ⟨2, ![16384, 1024]⟩
abbrev S16384x256 : Shape := ⟨2, ![16384, 256]⟩
abbrev S512x512 : Shape := ⟨2, ![512, 512]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S512x4096 : Shape := ⟨2, ![512, 4096]⟩

abbrev nBuf : Space → Nat
  | .hbm => 36
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S16384x512, .bf16⟩
  | .hbm, ⟨3, _⟩ => ⟨S16384x2048, .bf16⟩
  | .hbm, ⟨4, _⟩ => ⟨S2x8192x256, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1x1024, .f32⟩
  | .hbm, ⟨12, _⟩ => ⟨S1x1024x1024, .f32⟩
  | .hbm, ⟨13, _⟩ => ⟨S1x256x1024, .f32⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S1024x1024, .f32⟩
  | .hbm, ⟨19, _⟩ => ⟨S1024x1024, .bf16⟩
  | .hbm, ⟨20, _⟩ => ⟨S1024, .f32⟩
  | .hbm, ⟨21, _⟩ => ⟨S1x1024, .f32⟩
  | .hbm, ⟨22, _⟩ => ⟨S1024x4096, .f32⟩
  | .hbm, ⟨23, _⟩ => ⟨S1024x4096, .bf16⟩
  | .hbm, ⟨24, _⟩ => ⟨S4096x1024, .f32⟩
  | .hbm, ⟨25, _⟩ => ⟨S4096x1024, .bf16⟩
  | .hbm, ⟨26, _⟩ => ⟨S1024, .f32⟩
  | .hbm, ⟨27, _⟩ => ⟨S1x1024, .f32⟩
  | .hbm, ⟨28, _⟩ => ⟨S1024x1024, .f32⟩
  | .hbm, ⟨29, _⟩ => ⟨S1024x1024, .bf16⟩
  | .hbm, ⟨30, _⟩ => ⟨S256x1024, .f32⟩
  | .hbm, ⟨31, _⟩ => ⟨S256x1024, .bf16⟩
  | .hbm, ⟨32, _⟩ => ⟨S16384x1024, .f32⟩
  | .hbm, ⟨33, _⟩ => ⟨S16384x512, .bf16⟩
  | .hbm, ⟨34, _⟩ => ⟨S16384x256, .f32⟩
  | .hbm, ⟨35, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x256, .f32⟩
  | .local _ .vmem, ⟨9, _⟩ => ⟨S512x256, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S1x1024, .f32⟩
  | .local _ .vmem, ⟨17, _⟩ => ⟨S1024x1024, .bf16⟩
  | .local _ .vmem, ⟨18, _⟩ => ⟨S256x1024, .bf16⟩
  | .local _ .vmem, ⟨19, _⟩ => ⟨S512x1024, .f32⟩
  | .local _ .vmem, ⟨20, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S2x8192x1024 : Shape := ⟨3, ![2, 8192, 1024]⟩
abbrev S2x8192x512 : Shape := ⟨3, ![2, 8192, 512]⟩
abbrev S16384x512 : Shape := ⟨2, ![16384, 512]⟩
abbrev S16384x2048 : Shape := ⟨2, ![16384, 2048]⟩
abbrev S2x8192x256 : Shape := ⟨3, ![2, 8192, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S16384x1024 : Shape := ⟨2, ![16384, 1024]⟩
abbrev S16384x256 : Shape := ⟨2, ![16384, 256]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S16384 : Shape := ⟨1, ![16384]⟩
abbrev S16384x1 : Shape := ⟨2, ![16384, 1]⟩
abbrev S1024x4096 : Shape := ⟨2, ![1024, 4096]⟩
abbrev S16384x4096 : Shape := ⟨2, ![16384, 4096]⟩
abbrev S4096x1024 : Shape := ⟨2, ![4096, 1024]⟩
abbrev S256x1024 : Shape := ⟨2, ![256, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S16384x512, .bf16⟩
  | .hbm, ⟨3, _⟩ => ⟨S16384x2048, .bf16⟩
  | .hbm, ⟨4, _⟩ => ⟨S2x8192x256, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1x1024, .f32⟩
  | .hbm, ⟨12, _⟩ => ⟨S1x1024x1024, .f32⟩
  | .hbm, ⟨13, _⟩ => ⟨S1x256x1024, .f32⟩
  | .hbm, ⟨14, _⟩ => ⟨S16384x1024, .f32⟩
  | .hbm, ⟨15, _⟩ => ⟨S16384x256, .f32⟩
  | .hbm, ⟨16, _⟩ => ⟨S2x8192x512, .f32⟩
  | .hbm, ⟨17, _⟩ => ⟨S16384x512, .f32⟩
  | .hbm, ⟨18, _⟩ => ⟨S16384x512, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S16384x1024, .f32⟩
  | .hbm, ⟨29, _⟩ => ⟨S16384x1024, .f32⟩
  | .hbm, ⟨30, _⟩ => ⟨S512x1024, .f32⟩
  | .hbm, ⟨31, _⟩ => ⟨S16384x1024, .f32⟩
  | .hbm, ⟨32, _⟩ => ⟨S16384x1024, .f32⟩
  | .hbm, ⟨33, _⟩ => ⟨S512x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S1024x1024, .f32⟩
  | .hbm, ⟨38, _⟩ => ⟨S16384x1024, .f32⟩
  | .hbm, ⟨39, _⟩ => ⟨S16384x1024, .f32⟩
  | .hbm, ⟨40, _⟩ => ⟨S1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S1024x4096, .f32⟩
  | .hbm, ⟨58, _⟩ => ⟨S16384x4096, .f32⟩
  | .hbm, ⟨59, _⟩ => ⟨S_, .f32⟩
  | .hbm, ⟨60, _⟩ => ⟨S16384x4096, .f32⟩
  | .hbm, ⟨61, _⟩ => ⟨S16384x4096, .f32⟩
  | .hbm, ⟨62, _⟩ => ⟨S16384x4096, .f32⟩
  | .hbm, ⟨63, _⟩ => ⟨S4096x1024, .f32⟩
  | .hbm, ⟨64, _⟩ => ⟨S16384x1024, .f32⟩
  | .hbm, ⟨65, _⟩ => ⟨S16384x1024, .f32⟩
  | .hbm, ⟨66, _⟩ => ⟨S1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S1x1024, .f32⟩
  | .hbm, ⟨81, _⟩ => ⟨S16384x1024, .f32⟩
  | .hbm, ⟨82, _⟩ => ⟨S16384x1024, .f32⟩
  | .hbm, ⟨83, _⟩ => ⟨S1024x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384x1024, .f32⟩
  | .hbm, ⟨89, _⟩ => ⟨S16384x1024, .f32⟩
  | .hbm, ⟨90, _⟩ => ⟨S_, .f32⟩
  | .hbm, ⟨91, _⟩ => ⟨S16384x1024, .f32⟩
  | .hbm, ⟨92, _⟩ => ⟨S16384x1024, .f32⟩
  | .hbm, ⟨93, _⟩ => ⟨S256x1024, .f32⟩
  | .hbm, ⟨94, _⟩ => ⟨S16384x1024, .f32⟩
  | .hbm, ⟨95, _⟩ => ⟨S16384x1024, .f32⟩
  | .hbm, ⟨96, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call0_cst : Ref sig .tc := ⟨.hbm, 59, rfl⟩
abbrev main_call0_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_7 : Ref sig .tc := ⟨.hbm, 87, rfl⟩
abbrev main_v63 : Ref sig .tc := ⟨.hbm, 88, rfl⟩
abbrev main_v64 : Ref sig .tc := ⟨.hbm, 89, rfl⟩
abbrev main_cst_8 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024 : Shape := ⟨2, ![1, 1024]⟩
abbrev S1x1024x5648 : Shape := ⟨3, ![1, 1024, 5648]⟩
abbrev S1x8 : Shape := ⟨2, ![1, 8]⟩
abbrev S1x64 : Shape := ⟨2, ![1, 64]⟩
abbrev S1x4 : Shape := ⟨2, ![1, 4]⟩
abbrev S1024x5648 : Shape := ⟨2, ![1024, 5648]⟩
abbrev S1024x1536 : Shape := ⟨2, ![1024, 1536]⟩
abbrev S1024x2560 : Shape := ⟨2, ![1024, 2560]⟩
abbrev S1024x5632 : Shape := ⟨2, ![1024, 5632]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S4 : Shape := ⟨1, ![4]⟩
abbrev S512 : Shape := ⟨1, ![512]⟩
abbrev S1024 : Shape := ⟨1, ![1024]⟩
abbrev S512x1 : Shape := ⟨2, ![512, 1]⟩
abbrev S1x512 : Shape := ⟨2, ![1, 512]⟩
abbrev S512x512 : Shape := ⟨2, ![512, 512]⟩
abbrev S64 : Shape := ⟨1, ![64]⟩
abbrev S8x64 : Shape := ⟨2, ![8, 64]⟩
abbrev S8 : Shape := ⟨1, ![8]⟩
abbrev S16 : Shape := ⟨1, ![16]⟩
abbrev S128 : Shape := ⟨1, ![128]⟩
abbrev S128x1 : Shape := ⟨2, ![128, 1]⟩
abbrev S16384x1024 : Shape := ⟨2, ![16384, 1024]⟩
abbrev S16384x512 : Shape := ⟨2, ![16384, 512]⟩
abbrev S2x512x8192 : Shape := ⟨3, ![2, 512, 8192]⟩
abbrev S16384x1536 : Shape := ⟨2, ![16384, 1536]⟩
abbrev S16384x2048 : Shape := ⟨2, ![16384, 2048]⟩
abbrev S16384x128 : Shape := ⟨2, ![16384, 128]⟩
abbrev S16x16384 : Shape := ⟨2, ![16, 16384]⟩
abbrev S512x1024 : Shape := ⟨2, ![512, 1024]⟩
abbrev S1x512x512 : Shape := ⟨3, ![1, 512, 512]⟩
abbrev S512x1536 : Shape := ⟨2, ![512, 1536]⟩
abbrev S512x2048 : Shape := ⟨2, ![512, 2048]⟩
abbrev S512x128 : Shape := ⟨2, ![512, 128]⟩
abbrev S16x512 : Shape := ⟨2, ![16, 512]⟩
abbrev S128x512 : Shape := ⟨2, ![128, 512]⟩
abbrev S1024x512 : Shape := ⟨2, ![1024, 512]⟩
abbrev S1024x2048 : Shape := ⟨2, ![1024, 2048]⟩

abbrev nBuf : Space → Nat
  | .hbm => 90
  | .vmem => 30
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5648, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S1x4, .f32⟩
  | .hbm, ⟨7, _⟩ => ⟨S1x4, .f32⟩
  | .hbm, ⟨8, _⟩ => ⟨S1024x5648, .f32⟩
  | .hbm, ⟨9, _⟩ => ⟨S1024x1536, .f32⟩
  | .hbm, ⟨10, _⟩ => ⟨S1024x1536, .f32⟩
  | .hbm, ⟨11, _⟩ => ⟨S1024x2560, .f32⟩
  | .hbm, ⟨12, _⟩ => ⟨S1024x5632, .f32⟩
  | .hbm, ⟨13, _⟩ => ⟨S1024x5632, .bf16⟩
  | .hbm, ⟨14, _⟩ => ⟨S1024x8, .f32⟩
  | .hbm, ⟨15, _⟩ => ⟨S1024x8, .f32⟩
  | .hbm, ⟨16, _⟩ => ⟨S1024x16, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S_, .f32⟩
  | .hbm, ⟨22, _⟩ => ⟨S4, .f32⟩
  | .hbm, ⟨23, _⟩ => ⟨S512, .i32⟩
  | .hbm, ⟨24, _⟩ => ⟨S_, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i1⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S1024, .f32⟩
  | .hbm, ⟨43, _⟩ => ⟨S1x1024, .f32⟩
  | .hbm, ⟨44, _⟩ => ⟨S512x1, .i32⟩
  | .hbm, ⟨45, _⟩ => ⟨S1x512, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S512x512, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .bf16⟩
  | .hbm, ⟨54, _⟩ => ⟨S64, .f32⟩
  | .hbm, ⟨55, _⟩ => ⟨S1x64, .f32⟩
  | .hbm, ⟨56, _⟩ => ⟨S8x64, .f32⟩
  | .hbm, ⟨57, _⟩ => ⟨S512, .f32⟩
  | .hbm, ⟨58, _⟩ => ⟨S1x512, .f32⟩
  | .hbm, ⟨59, _⟩ => ⟨S64, .f32⟩
  | .hbm, ⟨60, _⟩ => ⟨S1x64, .f32⟩
  | .hbm, ⟨61, _⟩ => ⟨S8x64, .f32⟩
  | .hbm, ⟨62, _⟩ => ⟨S512, .f32⟩
  | .hbm, ⟨63, _⟩ => ⟨S1x512, .f32⟩
  | .hbm, ⟨64, _⟩ => ⟨S8, .f32⟩
  | .hbm, ⟨65, _⟩ => ⟨S4, .f32⟩
  | .hbm, ⟨66, _⟩ => ⟨S16, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S128x1, .f32⟩
  | .hbm, ⟨71, _⟩ => ⟨S_, .f32⟩
  | .hbm, ⟨72, _⟩ => ⟨S8, .f32⟩
  | .hbm, ⟨73, _⟩ => ⟨S4, .f32⟩
  | .hbm, ⟨74, _⟩ => ⟨S16, .f32⟩
  | .hbm, ⟨75, _⟩ => ⟨S_, .i32⟩
  | .hbm, ⟨76, _⟩ => ⟨S_, .f32⟩
  | .hbm, ⟨77, _⟩ => ⟨S128, .f32⟩
  | .hbm, ⟨78, _⟩ => ⟨S128x1, .f32⟩
  | .hbm, ⟨79, _⟩ => ⟨S16384x1024, .f32⟩
  | .hbm, ⟨80, _⟩ => ⟨S16384x512, .bf16⟩
  | .hbm, ⟨81, _⟩ => ⟨S2x512x8192, .f32⟩
  | .hbm, ⟨82, _⟩ => ⟨S16384x512, .bf16⟩
  | .hbm, ⟨83, _⟩ => ⟨S2x512x8192, .f32⟩
  | .hbm, ⟨84, _⟩ => ⟨S16384x512, .bf16⟩
  | .hbm, ⟨85, _⟩ => ⟨S16384x1536, .f32⟩
  | .hbm, ⟨86, _⟩ => ⟨S16384x512, .f32⟩
  | .hbm, ⟨87, _⟩ => ⟨S16384x2048, .bf16⟩
  | .hbm, ⟨88, _⟩ => ⟨S16384x128, .f32⟩
  | .hbm, ⟨89, _⟩ => ⟨S16x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S1024x128, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S128x1, .f32⟩
  | .local _ .vmem, ⟨9, _⟩ => ⟨S128x1, .f32⟩
  | .local _ .vmem, ⟨10, _⟩ => ⟨S512x512, .bf16⟩
  | .local _ .vmem, ⟨11, _⟩ => ⟨S512x512, .bf16⟩
  | .local _ .vmem, ⟨12, _⟩ => ⟨S1x512x512, .f32⟩
  | .local _ .vmem, ⟨13, _⟩ => ⟨S1x512x512, .f32⟩
  | .local _ .vmem, ⟨14, _⟩ => ⟨S512x512, .bf16⟩
  | .local _ .vmem, ⟨15, _⟩ => ⟨S512x512, .bf16⟩
  | .local _ .vmem, ⟨16, _⟩ => ⟨S1x512x512, .f32⟩
  | .local _ .vmem, ⟨17, _⟩ => ⟨S1x512x512, .f32⟩
  | .local _ .vmem, ⟨18, _⟩ => ⟨S512x512, .bf16⟩
  | .local _ .vmem, ⟨19, _⟩ => ⟨S512x512, .bf16⟩
  | .local _ .vmem, ⟨20, _⟩ => ⟨S512x1536, .f32⟩
  | .local _ .vmem, ⟨21, _⟩ => ⟨S512x1536, .f32⟩
  | .local _ .vmem, ⟨22, _⟩ => ⟨S512x512, .f32⟩
  | .local _ .vmem, ⟨23, _⟩ => ⟨S512x512, .f32⟩
  | .local _ .vmem, ⟨24, _⟩ => ⟨S512x2048, .bf16⟩
  | .local _ .vmem, ⟨25, _⟩ => ⟨S512x2048, .bf16⟩
  | .local _ .vmem, ⟨26, _⟩ => ⟨S512x128, .f32⟩
  | .local _ .vmem, ⟨27, _⟩ => ⟨S512x128, .f32⟩
  | .local _ .vmem, ⟨28, _⟩ => ⟨S16x512, .f32⟩
  | .local _ .vmem, ⟨29, _⟩ => ⟨S16x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_1 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_2 : Ref sig .tc := ⟨.hbm, 67, rfl⟩
abbrev main_call2_v0 : Ref sig .tc := ⟨.hbm, 68, rfl⟩
abbrev main_v38 : Ref sig .tc := ⟨.hbm, 69, rfl⟩
abbrev main_v39 : Ref sig .tc := ⟨.hbm, 70, rfl⟩
abbrev main_cst_3 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_4 : Ref sig .tc := ⟨.hbm, 75, rfl⟩
abbrev main_call3_v0 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46_0 : Ref sig .tc := ⟨.hbm, 80, rfl⟩
abbrev main_v46_1 : Ref sig .tc := ⟨.hbm, 81, rfl⟩
abbrev main_v46_2 : Ref sig .tc := ⟨.hbm, 82, rfl⟩
abbrev main_v46_3 : Ref sig .tc := ⟨.hbm, 83, rfl⟩
abbrev main_v46_4 : Ref sig .tc := ⟨.hbm, 84, rfl⟩
abbrev main_v46_5 : Ref sig .tc := ⟨.hbm, 85, rfl⟩
abbrev main_v46_6 : Ref sig .tc := ⟨.hbm, 86, rfl⟩
abbrev main_v46_7 : Ref sig .tc := ⟨.hbm, 87, rfl⟩
abbrev main_v46_8 : Ref sig .tc := ⟨.hbm, 88, rfl⟩
abbrev main_v46_9 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S2x8192x1024 : Shape := ⟨3, ![2, 8192, 1024]⟩
abbrev S1x1024 : Shape := ⟨2, ![1, 1024]⟩
abbrev S1x1024x5648 : Shape := ⟨3, ![1, 1024, 5648]⟩
abbrev S1x8 : Shape := ⟨2, ![1, 8]⟩
abbrev S1x64 : Shape := ⟨2, ![1, 64]⟩
abbrev S1x4 : Shape := ⟨2, ![1, 4]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5648 : Shape := ⟨2, ![1024, 5648]⟩
abbrev S16384x5648 : Shape := ⟨2, ![16384, 5648]⟩
abbrev S16384x512 : Shape := ⟨2, ![16384, 512]⟩
abbrev S16384x8 : Shape := ⟨2, ![16384, 8]⟩
abbrev S16384x1536 : Shape := ⟨2, ![16384, 1536]⟩
abbrev S16384x4 : Shape := ⟨2, ![16384, 4]⟩
abbrev S16384x2048 : Shape := ⟨2, ![16384, 2048]⟩
abbrev S16384x8x64 : Shape := ⟨3, ![16384, 8, 64]⟩
abbrev S64 : Shape := ⟨1, ![64]⟩
abbrev S16384x8x1 : Shape := ⟨3, ![16384, 8, 1]⟩
abbrev S1x1x64 : Shape := ⟨3, ![1, 1, 64]⟩
abbrev S8 : Shape := ⟨1, ![8]⟩
abbrev S4 : Shape := ⟨1, ![4]⟩
abbrev S16384x16 : Shape := ⟨2, ![16384, 16]⟩
abbrev S2x8192x512 : Shape := ⟨3, ![2, 8192, 512]⟩
abbrev S2x512x8192 : Shape := ⟨3, ![2, 512, 8192]⟩
abbrev S16384x112 : Shape := ⟨2, ![16384, 112]⟩
abbrev S16384x128 : Shape := ⟨2, ![16384, 128]⟩
abbrev S16x16384 : Shape := ⟨2, ![16, 16384]⟩

abbrev nBuf : Space → Nat
  | .hbm => 143
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x5648, .f32⟩
  | 3 => ⟨S1x8, .f32⟩
  | 4 => ⟨S1x64, .f32⟩
  | 5 => ⟨S1x64, .f32⟩
  | 6 => ⟨S1x4, .f32⟩
  | 7 => ⟨S1x4, .f32⟩
  | 8 => ⟨S16384x1024, .f32⟩
  | 9 => ⟨S1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | 26 => ⟨S1024x5648, .f32⟩
  | 27 => ⟨S16384x5648, .f32⟩
  | 28 => ⟨S16384x512, .f32⟩
  | 29 => ⟨S16384x512, .f32⟩
  | 30 => ⟨S16384x512, .f32⟩
  | 31 => ⟨S16384x8, .f32⟩
  | 32 => ⟨S16384x1536, .f32⟩
  | 33 => ⟨S16384x4, .f32⟩
  | 34 => ⟨S16384x4, .f32⟩
  | 35 => ⟨S16384x512, .f32⟩
  | 36 => ⟨S16384x2048, .f32⟩
  | 37 => ⟨S16384x8x64, .f32⟩
  | 38 => ⟨S64, .f32⟩
  | 39 => ⟨S16384x8x64, .f32⟩
  | 40 => ⟨S_, .f32⟩
  | 41 => ⟨S16384x8, .f32⟩
  | 42 => ⟨S16384x8x1, .f32⟩
  | 43 => ⟨S_, .f32⟩
  | 44 => ⟨S16384x8x1, .f32⟩
  | 45 => ⟨S16384x8x1, .f32⟩
  | 46 => ⟨S_, .f32⟩
  | 47 => ⟨S16384x8x1, .f32⟩
  | 48 => ⟨S16384x8x1, .f32⟩
  | 49 => ⟨S16384x8x1, .f32⟩
  | 50 => ⟨S16384x8x64, .f32⟩
  | 51 => ⟨S16384x8x64, .f32⟩
  | 52 => ⟨S1x1x64, .f32⟩
  | 53 => ⟨S16384x8x64, .f32⟩
  | 54 => ⟨S16384x8x64, .f32⟩
  | 55 => ⟨S16384x512, .f32⟩
  | 56 => ⟨S16384x8x64, .f32⟩
  | 57 => ⟨S64, .f32⟩
  | 58 => ⟨S16384x8x64, .f32⟩
  | 59 => ⟨S_, .f32⟩
  | 60 => ⟨S16384x8, .f32⟩
  | 61 => ⟨S16384x8x1, .f32⟩
  | 62 => ⟨S_, .f32⟩
  | 63 => ⟨S16384x8x1, .f32⟩
  | 64 => ⟨S16384x8x1, .f32⟩
  | 65 => ⟨S_, .f32⟩
  | 66 => ⟨S16384x8x1, .f32⟩
  | 67 => ⟨S16384x8x1, .f32⟩
  | 68 => ⟨S16384x8x1, .f32⟩
  | 69 => ⟨S16384x8x64, .f32⟩
  | 70 => ⟨S16384x8x64, .f32⟩
  | 71 => ⟨S1x1x64, .f32⟩
  | 72 => ⟨S16384x8x64, .f32⟩
  | 73 => ⟨S16384x8x64, .f32⟩
  | 74 => ⟨S16384x512, .f32⟩
  | 75 => ⟨S8, .f32⟩
  | 76 => ⟨S1x8, .f32⟩
  | 77 => ⟨S16384x8, .f32⟩
  | 78 => ⟨S16384x8, .f32⟩
  | 79 => ⟨S16384x8, .f32⟩
  | 80 => ⟨S_, .f32⟩
  | 81 => ⟨S16384x8, .f32⟩
  | 82 => ⟨S16384x8, .f32⟩
  | 83 => ⟨S16384x8, .f32⟩
  | 84 => ⟨S16384x8, .f32⟩
  | 85 => ⟨S16384x8, .i1⟩
  | 86 => ⟨S16384x8, .f32⟩
  | 87 => ⟨S16384x8, .f32⟩
  | 88 => ⟨S16384x8, .f32⟩
  | 89 => ⟨S16384x8, .f32⟩
  | 90 => ⟨S16384x8, .f32⟩
  | 91 => ⟨S16384x8, .f32⟩
  | 92 => ⟨S16384x8, .f32⟩
  | 93 => ⟨S16384x8, .f32⟩
  | 94 => ⟨S16384x8, .f32⟩
  | 95 => ⟨S4, .f32⟩
  | 96 => ⟨S4, .f32⟩
  | 97 => ⟨S4, .f32⟩
  | 98 => ⟨S4, .f32⟩
  | 99 => ⟨S1x4, .f32⟩
  | 100 => ⟨S16384x4, .f32⟩
  | 101 => ⟨S16384x4, .f32⟩
  | 102 => ⟨S_, .f32⟩
  | 103 => ⟨S16384x4, .f32⟩
  | 104 => ⟨S16384x4, .f32⟩
  | 105 => ⟨S16384x4, .f32⟩
  | 106 => ⟨S16384x4, .f32⟩
  | 107 => ⟨S16384x4, .i1⟩
  | 108 => ⟨S16384x4, .f32⟩
  | 109 => ⟨S16384x4, .f32⟩
  | 110 => ⟨S16384x4, .f32⟩
  | 111 => ⟨S16384x4, .f32⟩
  | 112 => ⟨S16384x4, .f32⟩
  | 113 => ⟨S16384x4, .f32⟩
  | 114 => ⟨S16384x4, .f32⟩
  | 115 => ⟨S16384x4, .f32⟩
  | 116 => ⟨S1x4, .f32⟩
  | 117 => ⟨S16384x4, .f32⟩
  | 118 => ⟨S16384x4, .f32⟩
  | 119 => ⟨S16384x4, .f32⟩
  | 120 => ⟨S16384x4, .f32⟩
  | 121 => ⟨S_, .f32⟩
  | 122 => ⟨S16384x4, .f32⟩
  | 123 => ⟨S16384x4, .f32⟩
  | 124 => ⟨S_, .f32⟩
  | 125 => ⟨S16384x4, .f32⟩
  | 126 => ⟨S16384x4, .f32⟩
  | 127 => ⟨S16384x16, .f32⟩
  | _ => ⟨S2x8192x1024, .f32⟩

abbrev hbmTy0_1 (i : Nat) : BufTy := match i % 128 with
  | 0 => ⟨S_, .f32⟩
  | 1 => ⟨S16384x512, .f32⟩
  | 2 => ⟨S16384x512, .f32⟩
  | 3 => ⟨S16384x512, .bf16⟩
  | 4 => ⟨S2x8192x512, .f32⟩
  | 5 => ⟨S2x512x8192, .f32⟩
  | 6 => ⟨S16384x512, .bf16⟩
  | 7 => ⟨S2x8192x512, .f32⟩
  | 8 => ⟨S2x512x8192, .f32⟩
  | 9 => ⟨S16384x512, .bf16⟩
  | 10 => ⟨S16384x2048, .bf16⟩
  | 11 => ⟨S_, .f32⟩
  | 12 => ⟨S16384x112, .f32⟩
  | 13 => ⟨S16384x128, .f32⟩
  | 14 => ⟨S16x16384, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call0_v0 : Ref sig .tc := ⟨.hbm, 79, rfl⟩
abbrev main_call0_call0_cst : Ref sig .tc := ⟨.hbm, 80, rfl⟩
abbrev main_call0_call0_v0 : Ref sig .tc := ⟨.hbm, 81, rfl⟩
abbrev main_call0_call0_v1 : Ref sig .tc := ⟨.hbm, 82, rfl⟩
abbrev main_call0_call0_v2 : Ref sig .tc := ⟨.hbm, 83, rfl⟩
abbrev main_call0_call0_v3 : Ref sig .tc := ⟨.hbm, 84, rfl⟩
abbrev main_call0_call0_v4 : Ref sig .tc := ⟨.hbm, 85, rfl⟩
abbrev main_call0_call0_v5 : Ref sig .tc := ⟨.hbm, 86, rfl⟩
abbrev main_call0_call0_v6 : Ref sig .tc := ⟨.hbm, 87, rfl⟩
abbrev main_call0_call0_v7 : Ref sig .tc := ⟨.hbm, 88, rfl⟩
abbrev main_call0_call0_v8 : Ref sig .tc := ⟨.hbm, 89, rfl⟩
abbrev main_call0_call0_v9 : Ref sig .tc := ⟨.hbm, 90, rfl⟩
abbrev main_call0_call0_v10 : Ref sig .tc := ⟨.hbm, 91, rfl⟩
abbrev main_call0_call0_v11 : Ref sig .tc := ⟨.hbm, 92, rfl⟩
abbrev main_call0_v1 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_8 : Ref sig .tc := ⟨.hbm, 121, rfl⟩
abbrev main_v76 : Ref sig .tc := ⟨.hbm, 122, rfl⟩
abbrev main_v77 : Ref sig .tc := ⟨.hbm, 123, rfl⟩
abbrev main_cst_9 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_10 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_11 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩

abbrev nD : Nat := 1
abbrev τ : Topo := Topo.v7x

variable {F : FTy → Type} [FloatOps F]
-- ==== Kernel4.lean ====
abbrev S32x4x1024 : Shape := ⟨3, ![32, 4, 1024]⟩
abbrev S1x1024 : Shape := ⟨2, ![1, 1024]⟩
abbrev S1x1024x5648 : Shape := ⟨3, ![1, 1024, 5648]⟩
abbrev S1x8 : Shape := ⟨2, ![1, 8]⟩
abbrev S1x64 : Shape := ⟨2, ![1, 64]⟩
abbrev S1x4 : Shape := ⟨2, ![1, 4]⟩
abbrev S1024x5648 : Shape := ⟨2, ![1024, 5648]⟩
abbrev S1024x1536 : Shape := ⟨2, ![1024, 1536]⟩
abbrev S1024x2560 : Shape := ⟨2, ![1024, 2560]⟩
abbrev S1024x5632 : Shape := ⟨2, ![1024, 5632]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S4 : Shape := ⟨1, ![4]⟩
abbrev S512 : Shape := ⟨1, ![512]⟩
abbrev S1024 : Shape := ⟨1, ![1024]⟩
abbrev S512x1 : Shape := ⟨2, ![512, 1]⟩
abbrev S1x512 : Shape := ⟨2, ![1, 512]⟩
abbrev S512x512 : Shape := ⟨2, ![512, 512]⟩
abbrev S64 : Shape := ⟨1, ![64]⟩
abbrev S8x64 : Shape := ⟨2, ![8, 64]⟩
abbrev S8 : Shape := ⟨1, ![8]⟩
abbrev S16 : Shape := ⟨1, ![16]⟩
abbrev S128 : Shape := ⟨1, ![128]⟩
abbrev S128x1 : Shape := ⟨2, ![128, 1]⟩
abbrev S128x1024 : Shape := ⟨2, ![128, 1024]⟩
abbrev S128x512 : Shape := ⟨2, ![128, 512]⟩
abbrev S128x1536 : Shape := ⟨2, ![128, 1536]⟩
abbrev S128x2048 : Shape := ⟨2, ![128, 2048]⟩
abbrev S128x128 : Shape := ⟨2, ![128, 128]⟩
abbrev S16x128 : Shape := ⟨2, ![16, 128]⟩
abbrev S1024x512 : Shape := ⟨2, ![1024, 512]⟩
abbrev S1024x2048 : Shape := ⟨2, ![1024, 2048]⟩

abbrev nBuf : Space → Nat
  | .hbm => 90
  | .vmem => 19
  | .smem => 0
  | _ => 0

abbrev bufTy : (tb : Table) → Fin (tcTables nBuf tb) → BufTy
  | .hbm, ⟨0, _⟩ => ⟨S32x4x1024, .f32⟩
  | .hbm, ⟨1, _⟩ => ⟨S1x1024, .f32⟩
  | .hbm, ⟨2, _⟩ => ⟨S1x1024x5648, .f32⟩
  | .hbm, ⟨3, _⟩ => ⟨S1x8, .f32⟩
  | .hbm, ⟨4, _⟩ => ⟨S1x64, .f32⟩
  | .hbm, ⟨5, _⟩ => ⟨S1x64, .f32⟩
  | .hbm, ⟨6, _⟩ => ⟨S1x4, .f32⟩
  | .hbm, ⟨7, _⟩ => ⟨S1x4, .f32⟩
  | .hbm, ⟨8, _⟩ => ⟨S1024x5648, .f32⟩
  | .hbm, ⟨9, _⟩ => ⟨S1024x1536, .f32⟩
  | .hbm, ⟨10, _⟩ => ⟨S1024x1536, .f32⟩
  | .hbm, ⟨11, _⟩ => ⟨S1024x2560, .f32⟩
  | .hbm, ⟨12, _⟩ => ⟨S1024x5632, .f32⟩
  | .hbm, ⟨13, _⟩ => ⟨S1024x5632, .bf16⟩
  | .hbm, ⟨14, _⟩ => ⟨S1024x8, .f32⟩
  | .hbm, ⟨15, _⟩ => ⟨S1024x8, .f32⟩
  | .hbm, ⟨16, _⟩ => ⟨S1024x16, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S_, .f32⟩
  | .hbm, ⟨22, _⟩ => ⟨S4, .f32⟩
  | .hbm, ⟨23, _⟩ => ⟨S512, .i32⟩
  | .hbm, ⟨24, _⟩ => ⟨S_, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i1⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S1024, .f32⟩
  | .hbm, ⟨43, _⟩ => ⟨S1x1024, .f32⟩
  | .hbm, ⟨44, _⟩ => ⟨S512x1, .i32⟩
  | .hbm, ⟨45, _⟩ => ⟨S1x512, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S512x512, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .bf16⟩
  | .hbm, ⟨54, _⟩ => ⟨S64, .f32⟩
  | .hbm, ⟨55, _⟩ => ⟨S1x64, .f32⟩
  | .hbm, ⟨56, _⟩ => ⟨S8x64, .f32⟩
  | .hbm, ⟨57, _⟩ => ⟨S512, .f32⟩
  | .hbm, ⟨58, _⟩ => ⟨S1x512, .f32⟩
  | .hbm, ⟨59, _⟩ => ⟨S64, .f32⟩
  | .hbm, ⟨60, _⟩ => ⟨S1x64, .f32⟩
  | .hbm, ⟨61, _⟩ => ⟨S8x64, .f32⟩
  | .hbm, ⟨62, _⟩ => ⟨S512, .f32⟩
  | .hbm, ⟨63, _⟩ => ⟨S1x512, .f32⟩
  | .hbm, ⟨64, _⟩ => ⟨S8, .f32⟩
  | .hbm, ⟨65, _⟩ => ⟨S4, .f32⟩
  | .hbm, ⟨66, _⟩ => ⟨S16, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S128x1, .f32⟩
  | .hbm, ⟨71, _⟩ => ⟨S_, .f32⟩
  | .hbm, ⟨72, _⟩ => ⟨S8, .f32⟩
  | .hbm, ⟨73, _⟩ => ⟨S4, .f32⟩
  | .hbm, ⟨74, _⟩ => ⟨S16, .f32⟩
  | .hbm, ⟨75, _⟩ => ⟨S_, .i32⟩
  | .hbm, ⟨76, _⟩ => ⟨S_, .f32⟩
  | .hbm, ⟨77, _⟩ => ⟨S128, .f32⟩
  | .hbm, ⟨78, _⟩ => ⟨S128x1, .f32⟩
  | .hbm, ⟨79, _⟩ => ⟨S128x1024, .f32⟩
  | .hbm, ⟨80, _⟩ => ⟨S128x512, .bf16⟩
  | .hbm, ⟨81, _⟩ => ⟨S128x512, .f32⟩
  | .hbm, ⟨82, _⟩ => ⟨S128x512, .bf16⟩
  | .hbm, ⟨83, _⟩ => ⟨S128x512, .f32⟩
  | .hbm, ⟨84, _⟩ => ⟨S128x512, .bf16⟩
  | .hbm, ⟨85, _⟩ => ⟨S128x1536, .f32⟩
  | .hbm, ⟨86, _⟩ => ⟨S128x512, .f32⟩
  | .hbm, ⟨87, _⟩ => ⟨S128x2048, .bf16⟩
  | .hbm, ⟨88, _⟩ => ⟨S128x128, .f32⟩
  | .hbm, ⟨89, _⟩ => ⟨S16x128, .f32⟩
  | .local _ .vmem, ⟨0, _⟩ => ⟨S128x1024, .f32⟩
  | .local _ .vmem, ⟨1, _⟩ => ⟨S1x1024, .f32⟩
  | .local _ .vmem, ⟨2, _⟩ => ⟨S1024x5632, .bf16⟩
  | .local _ .vmem, ⟨3, _⟩ => ⟨S1024x128, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S128x1, .f32⟩
  | .local _ .vmem, ⟨8, _⟩ => ⟨S128x1, .f32⟩
  | .local _ .vmem, ⟨9, _⟩ => ⟨S128x512, .bf16⟩
  | .local _ .vmem, ⟨10, _⟩ => ⟨S128x512, .f32⟩
  | .local _ .vmem, ⟨11, _⟩ => ⟨S128x512, .bf16⟩
  | .local _ .vmem, ⟨12, _⟩ => ⟨S128x512, .f32⟩
  | .local _ .vmem, ⟨13, _⟩ => ⟨S128x512, .bf16⟩
  | .local _ .vmem, ⟨14, _⟩ => ⟨S128x1536, .f32⟩
  | .local _ .vmem, ⟨15, _⟩ => ⟨S128x512, .f32⟩
  | .local _ .vmem, ⟨16, _⟩ => ⟨S128x2048, .bf16⟩
  | .local _ .vmem, ⟨17, _⟩ => ⟨S128x128, .f32⟩
  | .local _ .vmem, ⟨18, _⟩ => ⟨S16x128, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_1 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_2 : Ref sig .tc := ⟨.hbm, 67, rfl⟩
abbrev main_call2_v0 : Ref sig .tc := ⟨.hbm, 68, rfl⟩
abbrev main_v38 : Ref sig .tc := ⟨.hbm, 69, rfl⟩
abbrev main_v39 : Ref sig .tc := ⟨.hbm, 70, rfl⟩
abbrev main_cst_3 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_4 : Ref sig .tc := ⟨.hbm, 75, rfl⟩
abbrev main_call3_v0 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46_0 : Ref sig .tc := ⟨.hbm, 80, rfl⟩
abbrev main_v46_1 : Ref sig .tc := ⟨.hbm, 81, rfl⟩
abbrev main_v46_2 : Ref sig .tc := ⟨.hbm, 82, rfl⟩
abbrev main_v46_3 : Ref sig .tc := ⟨.hbm, 83, rfl⟩
abbrev main_v46_4 : Ref sig .tc := ⟨.hbm, 84, rfl⟩
abbrev main_v46_5 : Ref sig .tc := ⟨.hbm, 85, rfl⟩
abbrev main_v46_6 : Ref sig .tc := ⟨.hbm, 86, rfl⟩
abbrev main_v46_7 : Ref sig .tc := ⟨.hbm, 87, rfl⟩
abbrev main_v46_8 : Ref sig .tc := ⟨.hbm, 88, rfl⟩
abbrev main_v46_9 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S16x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== Reference4Ideal.lean ====
abbrev S32x4x1024 : Shape := ⟨3, ![32, 4, 1024]⟩
abbrev S1x1024 : Shape := ⟨2, ![1, 1024]⟩
abbrev S1x1024x5648 : Shape := ⟨3, ![1, 1024, 5648]⟩
abbrev S1x8 : Shape := ⟨2, ![1, 8]⟩
abbrev S1x64 : Shape := ⟨2, ![1, 64]⟩
abbrev S1x4 : Shape := ⟨2, ![1, 4]⟩
abbrev S128x1024 : Shape := ⟨2, ![128, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1024x5648 : Shape := ⟨2, ![1024, 5648]⟩
abbrev S128x5648 : Shape := ⟨2, ![128, 5648]⟩
abbrev S128x512 : Shape := ⟨2, ![128, 512]⟩
abbrev S128x8 : Shape := ⟨2, ![128, 8]⟩
abbrev S128x1536 : Shape := ⟨2, ![128, 1536]⟩
abbrev S128x4 : Shape := ⟨2, ![128, 4]⟩
abbrev S128x2048 : Shape := ⟨2, ![128, 2048]⟩
abbrev S128x8x64 : Shape := ⟨3, ![128, 8, 64]⟩
abbrev S64 : Shape := ⟨1, ![64]⟩
abbrev S128x8x1 : Shape := ⟨3, ![128, 8, 1]⟩
abbrev S1x1x64 : Shape := ⟨3, ![1, 1, 64]⟩
abbrev S8 : Shape := ⟨1, ![8]⟩
abbrev S4 : Shape := ⟨1, ![4]⟩
abbrev S128x16 : Shape := ⟨2, ![128, 16]⟩
abbrev S128x112 : Shape := ⟨2, ![128, 112]⟩
abbrev S128x128 : Shape := ⟨2, ![128, 128]⟩
abbrev S16x128 : Shape := ⟨2, ![16, 128]⟩

abbrev nBuf : Space → Nat
  | .hbm => 139
  | .vmem => 0
  | .smem => 0
  | _ => 0

abbrev hbmTy0_0 (i : Nat) : BufTy := match i % 128 with
  | 0 => ⟨S32x4x1024, .f32⟩
  | 1 => ⟨S1x1024, .f32⟩
  | 2 => ⟨S1x1024x5648, .f32⟩
  | 3 => ⟨S1x8, .f32⟩
  | 4 => ⟨S1x64, .f32⟩
  | 5 => ⟨S1x64, .f32⟩
  | 6 => ⟨S1x4, .f32⟩
  | 7 => ⟨S1x4, .f32⟩
  | 8 => ⟨S128x1024, .f32⟩
  | 9 => ⟨S1024, .f32⟩
  | 10 => ⟨S128x1024, .f32⟩
  | 11 => ⟨S_, .f32⟩
  | 12 => ⟨S128, .f32⟩
  | 13 => ⟨S128x1, .f32⟩
  | 14 => ⟨S_, .f32⟩
  | 15 => ⟨S128x1, .f32⟩
  | 16 => ⟨S128x1, .f32⟩
  | 17 => ⟨S_, .f32⟩
  | 18 => ⟨S128x1, .f32⟩
  | 19 => ⟨S128x1, .f32⟩
  | 20 => ⟨S128x1, .f32⟩
  | 21 => ⟨S128x1024, .f32⟩
  | 22 => ⟨S128x1024, .f32⟩
  | 23 => ⟨S1x1024, .f32⟩
  | 24 => ⟨S128x1024, .f32⟩
  | 25 => ⟨S128x1024, .f32⟩
  | 26 => ⟨S1024x5648, .f32⟩
  | 27 => ⟨S128x5648, .f32⟩
  | 28 => ⟨S128x512, .f32⟩
  | 29 => ⟨S128x512, .f32⟩
  | 30 => ⟨S128x512, .f32⟩
  | 31 => ⟨S128x8, .f32⟩
  | 32 => ⟨S128x1536, .f32⟩
  | 33 => ⟨S128x4, .f32⟩
  | 34 => ⟨S128x4, .f32⟩
  | 35 => ⟨S128x512, .f32⟩
  | 36 => ⟨S128x2048, .f32⟩
  | 37 => ⟨S128x8x64, .f32⟩
  | 38 => ⟨S64, .f32⟩
  | 39 => ⟨S128x8x64, .f32⟩
  | 40 => ⟨S_, .f32⟩
  | 41 => ⟨S128x8, .f32⟩
  | 42 => ⟨S128x8x1, .f32⟩
  | 43 => ⟨S_, .f32⟩
  | 44 => ⟨S128x8x1, .f32⟩
  | 45 => ⟨S128x8x1, .f32⟩
  | 46 => ⟨S_, .f32⟩
  | 47 => ⟨S128x8x1, .f32⟩
  | 48 => ⟨S128x8x1, .f32⟩
  | 49 => ⟨S128x8x1, .f32⟩
  | 50 => ⟨S128x8x64, .f32⟩
  | 51 => ⟨S128x8x64, .f32⟩
  | 52 => ⟨S1x1x64, .f32⟩
  | 53 => ⟨S128x8x64, .f32⟩
  | 54 => ⟨S128x8x64, .f32⟩
  | 55 => ⟨S128x512, .f32⟩
  | 56 => ⟨S128x8x64, .f32⟩
  | 57 => ⟨S64, .f32⟩
  | 58 => ⟨S128x8x64, .f32⟩
  | 59 => ⟨S_, .f32⟩
  | 60 => ⟨S128x8, .f32⟩
  | 61 => ⟨S128x8x1, .f32⟩
  | 62 => ⟨S_, .f32⟩
  | 63 => ⟨S128x8x1, .f32⟩
  | 64 => ⟨S128x8x1, .f32⟩
  | 65 => ⟨S_, .f32⟩
  | 66 => ⟨S128x8x1, .f32⟩
  | 67 => ⟨S128x8x1, .f32⟩
  | 68 => ⟨S128x8x1, .f32⟩
  | 69 => ⟨S128x8x64, .f32⟩
  | 70 => ⟨S128x8x64, .f32⟩
  | 71 => ⟨S1x1x64, .f32⟩
  | 72 => ⟨S128x8x64, .f32⟩
  | 73 => ⟨S128x8x64, .f32⟩
  | 74 => ⟨S128x512, .f32⟩
  | 75 => ⟨S8, .f32⟩
  | 76 => ⟨S1x8, .f32⟩
  | 77 => ⟨S128x8, .f32⟩
  | 78 => ⟨S128x8, .f32⟩
  | 79 => ⟨S128x8, .f32⟩
  | 80 => ⟨S_, .f32⟩
  | 81 => ⟨S128x8, .f32⟩
  | 82 => ⟨S128x8, .f32⟩
  | 83 => ⟨S128x8, .f32⟩
  | 84 => ⟨S128x8, .f32⟩
  | 85 => ⟨S128x8, .i1⟩
  | 86 => ⟨S128x8, .f32⟩
  | 87 => ⟨S128x8, .f32⟩
  | 88 => ⟨S128x8, .f32⟩
  | 89 => ⟨S128x8, .f32⟩
  | 90 => ⟨S128x8, .f32⟩
  | 91 => ⟨S128x8, .f32⟩
  | 92 => ⟨S128x8, .f32⟩
  | 93 => ⟨S128x8, .f32⟩
  | 94 => ⟨S128x8, .f32⟩
  | 95 => ⟨S4, .f32⟩
  | 96 => ⟨S4, .f32⟩
  | 97 => ⟨S4, .f32⟩
  | 98 => ⟨S4, .f32⟩
  | 99 => ⟨S1x4, .f32⟩
  | 100 => ⟨S128x4, .f32⟩
  | 101 => ⟨S128x4, .f32⟩
  | 102 => ⟨S_, .f32⟩
  | 103 => ⟨S128x4, .f32⟩
  | 104 => ⟨S128x4, .f32⟩
  | 105 => ⟨S128x4, .f32⟩
  | 106 => ⟨S128x4, .f32⟩
  | 107 => ⟨S128x4, .i1⟩
  | 108 => ⟨S128x4, .f32⟩
  | 109 => ⟨S128x4, .f32⟩
  | 110 => ⟨S128x4, .f32⟩
  | 111 => ⟨S128x4, .f32⟩
  | 112 => ⟨S128x4, .f32⟩
  | 113 => ⟨S128x4, .f32⟩
  | 114 => ⟨S128x4, .f32⟩
  | 115 => ⟨S128x4, .f32⟩
  | 116 => ⟨S1x4, .f32⟩
  | 117 => ⟨S128x4, .f32⟩
  | 118 => ⟨S128x4, .f32⟩
  | 119 => ⟨S128x4, .f32⟩
  | 120 => ⟨S128x4, .f32⟩
  | 121 => ⟨S_, .f32⟩
  | 122 => ⟨S128x4, .f32⟩
  | 123 => ⟨S128x4, .f32⟩
  | 124 => ⟨S_, .f32⟩
  | 125 => ⟨S128x4, .f32⟩
  | 126 => ⟨S128x4, .f32⟩
  | 127 => ⟨S128x16, .f32⟩
  | _ => ⟨S32x4x1024, .f32⟩

abbrev hbmTy0_1 (i : Nat) : BufTy := match i % 128 with
  | 0 => ⟨S_, .f32⟩
  | 1 => ⟨S128x512, .f32⟩
  | 2 => ⟨S128x512, .f32⟩
  | 3 => ⟨S128x512, .bf16⟩
  | 4 => ⟨S128x512, .bf16⟩
  | 5 => ⟨S128x512, .bf16⟩
  | 6 => ⟨S128x2048, .bf16⟩
  | 7 => ⟨S_, .f32⟩
  | 8 => ⟨S128x112, .f32⟩
  | 9 => ⟨S128x128, .f32⟩
  | 10 => ⟨S16x128, .f32⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call0_v0 : Ref sig .tc := ⟨.hbm, 79, rfl⟩
abbrev main_call0_call0_cst : Ref sig .tc := ⟨.hbm, 80, rfl⟩
abbrev main_call0_call0_v0 : Ref sig .tc := ⟨.hbm, 81, rfl⟩
abbrev main_call0_call0_v1 : Ref sig .tc := ⟨.hbm, 82, rfl⟩
abbrev main_call0_call0_v2 : Ref sig .tc := ⟨.hbm, 83, rfl⟩
abbrev main_call0_call0_v3 : Ref sig .tc := ⟨.hbm, 84, rfl⟩
abbrev main_call0_call0_v4 : Ref sig .tc := ⟨.hbm, 85, rfl⟩
abbrev main_call0_call0_v5 : Ref sig .tc := ⟨.hbm, 86, rfl⟩
abbrev main_call0_call0_v6 : Ref sig .tc := ⟨.hbm, 87, rfl⟩
abbrev main_call0_call0_v7 : Ref sig .tc := ⟨.hbm, 88, rfl⟩
abbrev main_call0_call0_v8 : Ref sig .tc := ⟨.hbm, 89, rfl⟩
abbrev main_call0_call0_v9 : Ref sig .tc := ⟨.hbm, 90, rfl⟩
abbrev main_call0_call0_v10 : Ref sig .tc := ⟨.hbm, 91, rfl⟩
abbrev main_call0_call0_v11 : Ref sig .tc := ⟨.hbm, 92, rfl⟩
abbrev main_call0_v1 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_8 : Ref sig .tc := ⟨.hbm, 121, rfl⟩
abbrev main_v76 : Ref sig .tc := ⟨.hbm, 122, rfl⟩
abbrev main_v77 : Ref sig .tc := ⟨.hbm, 123, rfl⟩
abbrev main_cst_9 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_10 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_11 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩

abbrev nD : Nat := 1
abbrev τ : Topo := Topo.v7x

variable {F : FTy → Type} [FloatOps F]
-- ==== Kernel5.lean ====
abbrev S32x4x1024 : Shape := ⟨3, ![32, 4, 1024]⟩
abbrev S32x4x512 : Shape := ⟨3, ![32, 4, 512]⟩
abbrev S128x512 : Shape := ⟨2, ![128, 512]⟩
abbrev S128x2048 : Shape := ⟨2, ![128, 2048]⟩
abbrev S32x4x256 : Shape := ⟨3, ![32, 4, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S128x1024 : Shape := ⟨2, ![128, 1024]⟩
abbrev S128x256 : Shape := ⟨2, ![128, 256]⟩
abbrev S128 : Shape := ⟨1, ![128]⟩
abbrev S128x1 : Shape := ⟨2, ![128, 1]⟩
abbrev S128x4096 : Shape := ⟨2, ![128, 4096]⟩

abbrev nBuf : Space → Nat
  | .hbm => 36
  | .vmem => 15
  | .smem => 0
  | _ => 0

abbrev bufTy : (tb : Table) → Fin (tcTables nBuf tb) → BufTy
  | .hbm, ⟨0, _⟩ => ⟨S32x4x1024, .f32⟩
  | .hbm, ⟨1, _⟩ => ⟨S32x4x512, .f32⟩
  | .hbm, ⟨2, _⟩ => ⟨S128x512, .f32⟩
  | .hbm, ⟨3, _⟩ => ⟨S128x2048, .bf16⟩
  | .hbm, ⟨4, _⟩ => ⟨S32x4x256, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1x1024, .f32⟩
  | .hbm, ⟨12, _⟩ => ⟨S1x1024x1024, .f32⟩
  | .hbm, ⟨13, _⟩ => ⟨S1x256x1024, .f32⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S1024x1024, .f32⟩
  | .hbm, ⟨19, _⟩ => ⟨S1024x1024, .bf16⟩
  | .hbm, ⟨20, _⟩ => ⟨S1024, .f32⟩
  | .hbm, ⟨21, _⟩ => ⟨S1x1024, .f32⟩
  | .hbm, ⟨22, _⟩ => ⟨S1024x4096, .f32⟩
  | .hbm, ⟨23, _⟩ => ⟨S1024x4096, .bf16⟩
  | .hbm, ⟨24, _⟩ => ⟨S4096x1024, .f32⟩
  | .hbm, ⟨25, _⟩ => ⟨S4096x1024, .bf16⟩
  | .hbm, ⟨26, _⟩ => ⟨S1024, .f32⟩
  | .hbm, ⟨27, _⟩ => ⟨S1x1024, .f32⟩
  | .hbm, ⟨28, _⟩ => ⟨S1024x1024, .f32⟩
  | .hbm, ⟨29, _⟩ => ⟨S1024x1024, .bf16⟩
  | .hbm, ⟨30, _⟩ => ⟨S256x1024, .f32⟩
  | .hbm, ⟨31, _⟩ => ⟨S256x1024, .bf16⟩
  | .hbm, ⟨32, _⟩ => ⟨S128x1024, .f32⟩
  | .hbm, ⟨33, _⟩ => ⟨S128x512, .f32⟩
  | .hbm, ⟨34, _⟩ => ⟨S128x256, .f32⟩
  | .hbm, ⟨35, _⟩ => ⟨S128x1024, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S128x2048, .bf16⟩
  | .local _ .vmem, ⟨4, _⟩ => ⟨S128x256, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference5Ideal.lean ====
abbrev S32x4x1024 : Shape := ⟨3, ![32, 4, 1024]⟩
abbrev S32x4x512 : Shape := ⟨3, ![32, 4, 512]⟩
abbrev S128x512 : Shape := ⟨2, ![128, 512]⟩
abbrev S128x2048 : Shape := ⟨2, ![128, 2048]⟩
abbrev S32x4x256 : Shape := ⟨3, ![32, 4, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S128x1024 : Shape := ⟨2, ![128, 1024]⟩
abbrev S128x256 : Shape := ⟨2, ![128, 256]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S128 : Shape := ⟨1, ![128]⟩
abbrev S128x1 : Shape := ⟨2, ![128, 1]⟩
abbrev S1024x4096 : Shape := ⟨2, ![1024, 4096]⟩
abbrev S128x4096 : Shape := ⟨2, ![128, 4096]⟩
abbrev S4096x1024 : Shape := ⟨2, ![4096, 1024]⟩
abbrev S256x1024 : Shape := ⟨2, ![256, 1024]⟩

abbrev nBuf : Space → Nat
  | .hbm => 95
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x512, .f32⟩
  | .hbm, ⟨2, _⟩ => ⟨S128x512, .f32⟩
  | .hbm, ⟨3, _⟩ => ⟨S128x2048, .bf16⟩
  | .hbm, ⟨4, _⟩ => ⟨S32x4x256, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x4096, .f32⟩
  | .hbm, ⟨10, _⟩ => ⟨S1x4096x1024, .f32⟩
  | .hbm, ⟨11, _⟩ => ⟨S1x1024, .f32⟩
  | .hbm, ⟨12, _⟩ => ⟨S1x1024x1024, .f32⟩
  | .hbm, ⟨13, _⟩ => ⟨S1x256x1024, .f32⟩
  | .hbm, ⟨14, _⟩ => ⟨S128x1024, .f32⟩
  | .hbm, ⟨15, _⟩ => ⟨S128x256, .f32⟩
  | .hbm, ⟨16, _⟩ => ⟨S128x512, .f32⟩
  | .hbm, ⟨17, _⟩ => ⟨S128x2048, .f32⟩
  | .hbm, ⟨18, _⟩ => ⟨S128x2048, .f32⟩
  | .hbm, ⟨19, _⟩ => ⟨S128x2048, .f32⟩
  | .hbm, ⟨20, _⟩ => ⟨S_, .f32⟩
  | .hbm, ⟨21, _⟩ => ⟨S128x2048, .f32⟩
  | .hbm, ⟨22, _⟩ => ⟨S128x2048, .f32⟩
  | .hbm, ⟨23, _⟩ => ⟨S_, .f32⟩
  | .hbm, ⟨24, _⟩ => ⟨S128x2048, .f32⟩
  | .hbm, ⟨25, _⟩ => ⟨S128x2048, .f32⟩
  | .hbm, ⟨26, _⟩ => ⟨S128x1024, .f32⟩
  | .hbm, ⟨27, _⟩ => ⟨S128x1024, .f32⟩
  | .hbm, ⟨28, _⟩ => ⟨S512x1024, .f32⟩
  | .hbm, ⟨29, _⟩ => ⟨S128x1024, .f32⟩
  | .hbm, ⟨30, _⟩ => ⟨S128x1024, .f32⟩
  | .hbm, ⟨31, _⟩ => ⟨S512x1024, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S1024x1024, .f32⟩
  | .hbm, ⟨36, _⟩ => ⟨S128x1024, .f32⟩
  | .hbm, ⟨37, _⟩ => ⟨S128x1024, .f32⟩
  | .hbm, ⟨38, _⟩ => ⟨S1024, .f32⟩
  | .hbm, ⟨39, _⟩ => ⟨S128x1024, .f32⟩
  | .hbm, ⟨40, _⟩ => ⟨S_, .f32⟩
  | .hbm, ⟨41, _⟩ => ⟨S128, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S128x1, .f32⟩
  | .hbm, ⟨50, _⟩ => ⟨S128x1024, .f32⟩
  | .hbm, ⟨51, _⟩ => ⟨S128x1024, .f32⟩
  | .hbm, ⟨52, _⟩ => ⟨S1x1024, .f32⟩
  | .hbm, ⟨53, _⟩ => ⟨S128x1024, .f32⟩
  | .hbm, ⟨54, _⟩ => ⟨S128x1024, .f32⟩
  | .hbm, ⟨55, _⟩ => ⟨S1024x4096, .f32⟩
  | .hbm, ⟨56, _⟩ => ⟨S128x4096, .f32⟩
  | .hbm, ⟨57, _⟩ => ⟨S_, .f32⟩
  | .hbm, ⟨58, _⟩ => ⟨S128x4096, .f32⟩
  | .hbm, ⟨59, _⟩ => ⟨S128x4096, .f32⟩
  | .hbm, ⟨60, _⟩ => ⟨S128x4096, .f32⟩
  | .hbm, ⟨61, _⟩ => ⟨S4096x1024, .f32⟩
  | .hbm, ⟨62, _⟩ => ⟨S128x1024, .f32⟩
  | .hbm, ⟨63, _⟩ => ⟨S128x1024, .f32⟩
  | .hbm, ⟨64, _⟩ => ⟨S1024, .f32⟩
  | .hbm, ⟨65, _⟩ => ⟨S128x1024, .f32⟩
  | .hbm, ⟨66, _⟩ => ⟨S_, .f32⟩
  | .hbm, ⟨67, _⟩ => ⟨S128, .f32⟩
  | .hbm, ⟨68, _⟩ => ⟨S128x1, .f32⟩
  | .hbm, ⟨69, _⟩ => ⟨S_, .f32⟩
  | .hbm, ⟨70, _⟩ => ⟨S128x1, .f32⟩
  | .hbm, ⟨71, _⟩ => ⟨S128x1, .f32⟩
  | .hbm, ⟨72, _⟩ => ⟨S_, .f32⟩
  | .hbm, ⟨73, _⟩ => ⟨S128x1, .f32⟩
  | .hbm, ⟨74, _⟩ => ⟨S128x1, .f32⟩
  | .hbm, ⟨75, _⟩ => ⟨S128x1, .f32⟩
  | .hbm, ⟨76, _⟩ => ⟨S128x1024, .f32⟩
  | .hbm, ⟨77, _⟩ => ⟨S128x1024, .f32⟩
  | .hbm, ⟨78, _⟩ => ⟨S1x1024, .f32⟩
  | .hbm, ⟨79, _⟩ => ⟨S128x1024, .f32⟩
  | .hbm, ⟨80, _⟩ => ⟨S128x1024, .f32⟩
  | .hbm, ⟨81, _⟩ => ⟨S1024x1024, .f32⟩
  | .hbm, ⟨82, _⟩ => ⟨S128x1024, .f32⟩
  | .hbm, ⟨83, _⟩ => ⟨S128x1024, .f32⟩
  | .hbm, ⟨84, _⟩ => ⟨S128x1024, .f32⟩
  | .hbm, ⟨85, _⟩ => ⟨S_, .f32⟩
  | .hbm, ⟨86, _⟩ => ⟨S128x1024, .f32⟩
  | .hbm, ⟨87, _⟩ => ⟨S128x1024, .f32⟩
  | .hbm, ⟨88, _⟩ => ⟨S_, .f32⟩
  | .hbm, ⟨89, _⟩ => ⟨S128x1024, .f32⟩
  | .hbm, ⟨90, _⟩ => ⟨S128x1024, .f32⟩
  | .hbm, ⟨91, _⟩ => ⟨S256x1024, .f32⟩
  | .hbm, ⟨92, _⟩ => ⟨S128x1024, .f32⟩
  | .hbm, ⟨93, _⟩ => ⟨S128x1024, .f32⟩
  | .hbm, ⟨94, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_cst : Ref sig .tc := ⟨.hbm, 57, rfl⟩
abbrev main_call0_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_4 : Ref sig .tc := ⟨.hbm, 66, rfl⟩
abbrev main_v45 : Ref sig .tc := ⟨.hbm, 67, rfl⟩
abbrev main_v46 : Ref sig .tc := ⟨.hbm, 68, rfl⟩
abbrev main_cst_5 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_7 : Ref sig .tc := ⟨.hbm, 85, rfl⟩
abbrev main_v61 : Ref sig .tc := ⟨.hbm, 86, rfl⟩
abbrev main_v62 : Ref sig .tc := ⟨.hbm, 87, rfl⟩
abbrev main_cst_8 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== Proof.Kernel.Count.lean ====
module

public import proofs.«01_k».proof.Proof.Kernel.Lanes
public import proofs.«01_k».proof.Proof.Kernel.Chk
public import Idealize.ShloMosaic.Lib.NatWords
public import Idealize.ShloMosaic.Lib.ClampedCount

@[expose] public section

set_option maxRecDepth 16384

noncomputable section

namespace Cert.Proof.Kernel

open Cert.Kernel Cert.Kernel.Gen
open Idealize.ShloMosaic Idealize.ShloMosaic.Bits

/-- The number of test bits kept, summed in float32 and converted back, is a natural no greater than the row tile's number. -/
theorem count_le (q : Fin 8) (w : IVec S1x128 1) : ∃ n : Nat, n ≤ q.val ∧
    Scalar.fptosi (F := Bits) 32 (extractAt ![0, 0, 0] (shapeCast S1x1x1 (multiReduction (F := Bits) .add [1, 2] S1
      (shapeCast S1x1x128 (sitofp .f32 (testBits (BitVec.ofNat 32 q.val) w)) shapeCasts_S1x128_S1x1x128)
      0x00000000#32 reduces_S1x1x128_S1 (.inl rfl) rfl) shapeCasts_S1_S1x1x1) inpos_S1x1x1_p0_0_0) = BitVec.ofNat 32 n := by
  have hq := q.isLt
  let n : S1x1x128.Idx → Nat := fun i =>
    (testBits (BitVec.ofNat 32 q.val) w (Shape.reshapeEquiv shapeCasts_S1x128_S1x1x128 i)).toNat
  have hle : ∀ i, n i ≤ if (i 2).val < q.val then 1 else 0 := fun i => by
    show (testBits (BitVec.ofNat 32 q.val) w (Shape.reshapeEquiv shapeCasts_S1x128_S1x1x128 i)).toNat ≤ _
    rw [testBits_toNat]
    have : (w (Shape.reshapeEquiv shapeCasts_S1x128_S1x1x128 i)).toNat < 2 ^ 1 := (w _).isLt
    split <;> omega
  have hsum : ∀ j : S1.Idx, (reduceFiber reduces_S1x1x128_S1 j).sum n ≤ q.val := fun j =>
    (Finset.sum_le_sum fun i _ => hle i).trans (le_of_eq (sum_kept q j))
  have hred : ∀ j : S1.Idx, multiReduction (F := Bits) .add [1, 2] S1
      (shapeCast S1x1x128 (sitofp .f32 (testBits (BitVec.ofNat 32 q.val) w)) shapeCasts_S1x128_S1x1x128)
      0x00000000#32 reduces_S1x1x128_S1 (.inl rfl) rfl j = f32OfNat ((reduceFiber reduces_S1x1x128_S1 j).sum n) := fun j => by
    refine multiReduction_add_nat _ _ _ _ n (fun i _ => ?_) (by have := hsum j; omega)
    have hi : n i ≤ 1 := (hle i).trans (by split <;> omega)
    show natOfF32? (sitofp32 (testBits (BitVec.ofNat 32 q.val) w (Shape.reshapeEquiv shapeCasts_S1x128_S1x1x128 i))) = some (n i)
    rw [sitofp32_eq_f32OfNat _ (by decide) (by show 2 * n i < 2 ^ 32; omega)]
    exact natOfF32?_f32OfNat (n i) (by omega)
  refine ⟨(reduceFiber reduces_S1x1x128_S1 (Shape.reshapeEquiv shapeCasts_S1_S1x1x1 (fun a => ⟨(![0, 0, 0] : Fin 3 → Nat) a, inpos_S1x1x1_p0_0_0 a⟩))).sum n, hsum _, ?_⟩
  unfold extractAt
  rw [ClampedCount.scalar_fptosi]
  show fptosi32 32 (multiReduction (F := Bits) .add [1, 2] S1 _ 0x00000000#32 reduces_S1x1x128_S1 (.inl rfl) rfl _) = _
  rw [hred, fptosi32_nat _ (by have := hsum (Shape.reshapeEquiv shapeCasts_S1_S1x1x1 (fun a => ⟨(![0, 0, 0] : Fin 3 → Nat) a, inpos_S1x1x1_p0_0_0 a⟩)); omega)]

/-- The side condition the body assumes of its two tile counts holds at every grid point, whatever was read. -/
theorem chk_counts (i : grid0.Coords) (a b : FVec Bits S1024x1 .f32) (s : FVec Bits S1x8x128 .f32)
    (a' b' : FVec Bits S1024x1 .f32) (s' : FVec Bits S1x8x128 .f32) : k0_chk1 i (countA i a b s) (countB i a' b' s') := by
  obtain ⟨n, hn, h⟩ : ∃ n : Nat, n ≤ (i 2).val ∧ countA i a b s = BitVec.ofNat 32 n := count_le (i 2) _
  obtain ⟨n', hn', h'⟩ : ∃ n : Nat, n ≤ (i 2).val ∧ countB i a' b' s' = BitVec.ofNat 32 n := count_le (i 2) _
  rw [h, h']
  exact chk_of_le i n n' hn hn'

end Cert.Proof.Kernel
end
-- ==== Proof.Kernel.Run.lean ====
module

public import proofs.«01_k».proof.Proof.Kernel.Count

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

local notation "𝕄" => MT nD τ sig Unit (Elt Bits) ℕ (UR sig nD τ) ℕ

variable (m : (ℓ : Loc nD τ sig) → Buf (Elt Bits) ℓ) (ρ : Dev nD → PrngReg)

/-- The scratch buffers and the generator register, each at some contents: what passes from point to point. -/
theorem phi_eq (c : Dev nD) :
    (ΦA spec0 c : sProp 𝕄) = iprop(((∃ d, owns (c : Thread nD τ) (Memref.whole cc0_scratch0) fullShare d)
      ∗ (∃ d, owns (c : Thread nD τ) (Memref.whole cc0_scratch1) fullShare d)) ∗ ∃ r, prngReg c r) := by
  unfold ΦA; rw [scopedRest0_eq]; simp only [owns_whole]; try rfl

/-- The result's window: the one whose contents the frame does not name. -/
def forgets0 : Fin 5 → Bool := fun w => match w with
  | ⟨4, _⟩ => true
  | _ => false

/-- Each input's staging buffer keeps its block; the result's is not named. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
  Φ _ := ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body at a point, from the blocks the pipeline hands it to the same blocks and the result's block. -/
theorem body_obligation (c : Dev nD) : BodyObligation (dats m 0 c) (defs₀ (F := Bits)) 𝒱₀ () Set.univ forgets0 := fun t => by
  rw [bigSep_W0, bigSep_W0]
  sl_whnfR [defs₀, Defs.onTc]
  simp only [before0_0, before0_1, before0_2, before0_3, show forgets0 0 = false from rfl, show forgets0 1 = false from rfl, show forgets0 2 = false from rfl, show forgets0 3 = false from rfl, show forgets0 4 = true from rfl]
  rw [show (dats m 0 c).Φ t.succ = (dats m 0 c).Φ t.castSucc from rfl,
    show (dats m 0 c).owesAt () t.succ = (dats m 0 c).owesAt () t.castSucc from rfl, after0_0, after0_1, after0_2, after0_3,
    show (dats m 0 c).Φ t.castSucc = ΦA spec0 c from rfl, phi_eq]
  iintro ⟨⟨⟨H8, H9⟩, Hg⟩, Ho, ⟨%d0, H0⟩, ⟨%d1, H1⟩, ⟨%d2, H2⟩, ⟨%d3, H3⟩, ⟨%d4, H4⟩⟩
  iapply (body_run c (grid0.coords t) (chk_counts (grid0.coords t)) _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H8]; · iexact H8
  isplitl [H9]; · iexact H9
  iintro ⟨H0, H1, H2, H3, ⟨%Y, %hY, H4⟩, H8, H9⟩
  isplitl [H8 H9 Hg]
  · isplitl [H8 H9]
    · isplitl [H8]; · iexact H8
      iexact H9
    iexact Hg
  isplitl [Ho]; · iexact Ho
  isplitl [H0]; · iexact H0
  isplitl [H1]; · iexact H1
  isplitl [H2]; · iexact H2
  isplitl [H3]; · iexact H3
  iexists _; iexact H4

set_option backward.isDefEq.respectTransparency.types false in
/-- Every execution terminates without fault with the inputs' arrays as they were and every semaphore at zero. -/
theorem run_main : θ_run defs (onTc (τ := τ) (main (F := Bits))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ 𝒱₀ forgets0 m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame of the kernel as printed. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨h.1.arr_in c 0 rfl, h.1.arr_in c 1 rfl, h.1.arr_in c 2 rfl, h.1.arr_in c 3 rfl⟩, h.2⟩)
    (run_main m ρ)

end Cert.Proof.Kernel
end
-- ==== Proof.KernelIdeal.Body.lean ====
module

public import proofs.«01_k».proof.Proof.Gen.KernelIdeal.Frame
public import proofs.«01_k».proof.Proof.Gen.KernelIdeal.Loops
public import Idealize.ShloMosaic.Lib.Tactic
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

/-- The lane numbers 0…127, which the two tile counts compare with the grid's last coordinate. -/
abbrev lanes : IVec S1x128 32 := iota .tc S1x128 32 [1] iota_S1x128_d1_w32

/-- The tile count of the first head of a pair, from whatever the scratch and the running maxima hold. -/
abbrev countA (i : grid0.Coords) (a b : FVec F S1024x1 .f32) (c : FVec F S1x8x128 .f32) : BitVec 32 :=
  Scalar.fptosi 32 (k0_pay98 (BitVec.ofNat 32 (i 2).val) lanes a b c)
/-- The tile count of the second head of a pair. -/
abbrev countB (i : grid0.Coords) (a b : FVec F S1024x1 .f32) (c : FVec F S1x8x128 .f32) : BitVec 32 :=
  Scalar.fptosi 32 (k0_pay99 (BitVec.ofNat 32 (i 2).val) lanes a b c)

/-! ## What the body computes, from the blocks it loads -/

section values

/-- The running state of a head pair after the diagonal tile: the maximum, the sum and the weighted values of
    either head, from the query rows `q`, the rows' gate sums `ca`, `cb`, and the tile's keys and values. -/
def diag (q : FVec F S1x1024x128 .bf16) (ca cb : FVec F S1x1x1x1024 .f32) (k v : FVec F S1x1024x128 .bf16) :
    FVec F S1024x1 .f32 × FVec F S1024x1 .f32 × FVec F S1024x128 .f32 × FVec F S1024x1 .f32 × FVec F S1024x1 .f32 × FVec F S1024x128 .f32 :=
  (k0_pay86 k0_pay70 (k0_pay71 q) k0_pay78 (k0_pay81 k) (k0_pay83 (k0_pay72 ca) ca),
   k0_pay92 k0_pay70 (k0_pay71 q) k0_pay78 k0_pay79 (k0_pay81 k) (k0_pay83 (k0_pay72 ca) ca),
   k0_pay94 k0_pay70 (k0_pay71 q) k0_pay78 k0_pay80 (k0_pay81 k) (k0_pay82 v) (k0_pay83 (k0_pay72 ca) ca),
   k0_pay87 k0_pay70 (k0_pay75 k0_pay57 (k0_pay69 q) k0_pay74) (k0_pay76 cb) k0_pay78 (k0_pay81 k) cb,
   k0_pay93 k0_pay70 (k0_pay75 k0_pay57 (k0_pay69 q) k0_pay74) (k0_pay76 cb) k0_pay78 k0_pay79 (k0_pay81 k) cb,
   k0_pay97 (k0_pay95 k0_pay70 (k0_pay75 k0_pay57 (k0_pay69 q) k0_pay74) (k0_pay76 cb) k0_pay78 k0_pay80 (k0_pay81 k) cb)
     (k0_pay96 k0_pay70 (k0_pay75 k0_pay57 (k0_pay69 q) k0_pay74) (k0_pay76 cb) k0_pay78 (k0_pay81 k) (k0_pay82 v) cb))

variable (c : Dev nD) (i : grid0.Coords)
    (M3 : Memref sig .tc .vmem S1x1024x128 .bf16) (h3 : M3.IsWhole)
    (M4 : Memref sig .tc .vmem S1x8192x128 .bf16) (h4 : M4.IsWhole)
    (M5 : Memref sig .tc .vmem S1x8192x128 .bf16) (h5 : M5.IsWhole)
    (M6 : Memref sig .tc .vmem S1x2x1x8192 .f32) (h6 : M6.IsWhole)
    (M7 : Memref sig .tc .vmem S1x1024x128 .bf16) (h7 : M7.IsWhole)
    (M8 : Memref sig .tc .vmem S2x8x128 .f32) (h8 : M8.IsWhole)
    (M9 : Memref sig .tc .vmem S2x8x128 .f32) (h9 : M9.IsWhole)
    (x3 : Vec F S1x1024x128 .bf16) (x4 x5 : Vec F S1x8192x128 .bf16) (x6 : Vec F S1x2x1x8192 .f32)
    (a b : BitVec 32) (hw : k0_chk1 i a b)

/-- The block's query rows, as loaded. -/
abbrev ldQ : FVec F S1x1024x128 .bf16 :=
  M3.view.readAt (Elt F) (Rect.unit (s := S1x1024x128) ![0, 0, 0] S1x1024x128.size inb_S1x1024x128_S1x1024x128_0_0_0).toLoadRect (h3.unread x3)
/-- The first head's gate sums at the block's rows, as loaded. -/
abbrev ldCA : FVec F S1x1x1x1024 .f32 :=
  M6.view.readAt (Elt F) (Rect.unit (s := S1x2x1x8192) (k0_off4 i) S1x1x1x1024.size (k0_off4_inb i)).toLoadRect (h6.unread x6)
/-- The second head's gate sums at the block's rows, as loaded. -/
abbrev ldCB : FVec F S1x1x1x1024 .f32 :=
  M6.view.readAt (Elt F) (Rect.unit (s := S1x2x1x8192) (k0_off5 i) S1x1x1x1024.size (k0_off5_inb i)).toLoadRect (h6.unread x6)
/-- A key or value tile on the diagonal, as loaded. -/
abbrev ldK : FVec F S1x1024x128 .bf16 :=
  M4.view.readAt (Elt F) (Rect.unit (s := S1x8192x128) (k0_off6 i) S1x1024x128.size (k0_off6_inb i)).toLoadRect (h4.unread x4)

/-- The state after the tiles both heads visit. -/
def both : FVec F S1024x1 .f32 × FVec F S1024x1 .f32 × FVec F S1024x128 .f32 × FVec F S1024x1 .f32 × FVec F S1024x1 .f32 × FVec F S1024x128 .f32 :=
  st_k0_t3 𝒱₀ c none i M3 h3 M4 h4 M5 h5 M6 h6 M7 h7 M8 h8 M9 h9 (BitVec.ofNat 32 (i 2).val)
    (k0_pay71 (ldQ M3 h3 x3)) (k0_pay72 (ldCA i M6 h6 x6)) (k0_pay75 k0_pay57 (k0_pay69 (ldQ M3 h3 x3)) k0_pay74) (k0_pay76 (ldCB i M6 h6 x6))
    a b hw (Scalar.addi 0#32 (Scalar.muli (Scalar.divsi (Scalar.subi (Scalar.minsi a b) 0#32) 1#32) 1#32)) (h4.unread x4) (h5.unread x5) (h6.unread x6)
    (st_k0_t2 𝒱₀ c none i M3 h3 M4 h4 M5 h5 M6 h6 M7 h7 M8 h8 M9 h9 (BitVec.ofNat 32 (i 2).val)
      (k0_pay71 (ldQ M3 h3 x3)) (k0_pay72 (ldCA i M6 h6 x6)) (k0_pay75 k0_pay57 (k0_pay69 (ldQ M3 h3 x3)) k0_pay74) (k0_pay76 (ldCB i M6 h6 x6))
      a b hw 0#32 (h4.unread x4) (h5.unread x5) (h6.unread x6)
      (diag (ldQ M3 h3 x3) (ldCA i M6 h6 x6) (ldCB i M6 h6 x6) (ldK i M4 h4 x4) (ldK i M5 h5 x5))
      (k0_t2_loop a b).trips)
    (k0_t3_loop a b).trips

/-- The first head's state after the tiles it alone visits. -/
def headA : FVec F S1024x1 .f32 × FVec F S1024x1 .f32 × FVec F S1024x128 .f32 :=
  let r := both c i M3 h3 M4 h4 M5 h5 M6 h6 M7 h7 M8 h8 M9 h9 x3 x4 x5 x6 a b hw
  st_k0_t5 𝒱₀ c none i M3 h3 M4 h4 M5 h5 M6 h6 M7 h7 M8 h8 M9 h9 (k0_pay71 (ldQ M3 h3 x3)) (k0_pay72 (ldCA i M6 h6 x6))
    a b hw (h4.unread x4) (h5.unread x5) (h6.unread x6)
    (st_k0_t4 𝒱₀ c none i M3 h3 M4 h4 M5 h5 M6 h6 M7 h7 M8 h8 M9 h9 (k0_pay71 (ldQ M3 h3 x3)) (k0_pay72 (ldCA i M6 h6 x6))
      a b hw (h4.unread x4) (h5.unread x5) (h6.unread x6) (r.1, r.2.1, r.2.2.1) (k0_t4_loop a b).trips)
    (k0_t5_loop a b).trips

/-- The second head's state after the tiles it alone visits. -/
def headB : FVec F S1024x1 .f32 × FVec F S1024x1 .f32 × FVec F S1024x128 .f32 :=
  let r := both c i M3 h3 M4 h4 M5 h5 M6 h6 M7 h7 M8 h8 M9 h9 x3 x4 x5 x6 a b hw
  st_k0_t7 𝒱₀ c none i M3 h3 M4 h4 M5 h5 M6 h6 M7 h7 M8 h8 M9 h9 (k0_pay75 k0_pay57 (k0_pay69 (ldQ M3 h3 x3)) k0_pay74) (k0_pay76 (ldCB i M6 h6 x6))
    a b hw (h4.unread x4) (h5.unread x5) (h6.unread x6)
    (st_k0_t6 𝒱₀ c none i M3 h3 M4 h4 M5 h5 M6 h6 M7 h7 M8 h8 M9 h9 (k0_pay75 k0_pay57 (k0_pay69 (ldQ M3 h3 x3)) k0_pay74) (k0_pay76 (ldCB i M6 h6 x6))
      a b hw (h4.unread x4) (h5.unread x5) (h6.unread x6) (r.2.2.2.1, r.2.2.2.2.1, r.2.2.2.2.2) (k0_t6_loop a b).trips)
    (k0_t7_loop a b).trips

/-- The block of the result, when the two heads visit `a` and `b` tiles. -/
def outOf : Vec F S1x1024x128 .bf16 :=
  let A := headA c i M3 h3 M4 h4 M5 h5 M6 h6 M7 h7 M8 h8 M9 h9 x3 x4 x5 x6 a b hw
  let B := headB c i M3 h3 M4 h4 M5 h5 M6 h6 M7 h7 M8 h8 M9 h9 x3 x4 x5 x6 a b hw
  k0_pay33 k0_pay56 A.2.1 A.2.2 B.2.1 B.2.2

end values

/-- The block of the result is `outOf` at tile counts the two heads' count formulas give. -/
def IsOut (c : Dev nD) (i : grid0.Coords)
    (M3 : Memref sig .tc .vmem S1x1024x128 .bf16) (h3 : M3.IsWhole)
    (M4 : Memref sig .tc .vmem S1x8192x128 .bf16) (h4 : M4.IsWhole)
    (M5 : Memref sig .tc .vmem S1x8192x128 .bf16) (h5 : M5.IsWhole)
    (M6 : Memref sig .tc .vmem S1x2x1x8192 .f32) (h6 : M6.IsWhole)
    (M7 : Memref sig .tc .vmem S1x1024x128 .bf16) (h7 : M7.IsWhole)
    (M8 : Memref sig .tc .vmem S2x8x128 .f32) (h8 : M8.IsWhole)
    (M9 : Memref sig .tc .vmem S2x8x128 .f32) (h9 : M9.IsWhole)
    (x3 : Vec F S1x1024x128 .bf16) (x4 x5 : Vec F S1x8192x128 .bf16) (x6 : Vec F S1x2x1x8192 .f32)
    (Y : Vec F S1x1024x128 .bf16) : Prop :=
  ∃ (a b : BitVec 32) (hw : k0_chk1 i a b), (∃ p q s, a = countA (F := F) i p q s) ∧ (∃ p q s, b = countB (F := F) i p q s)
    ∧ Y = outOf c i M3 h3 M4 h4 M5 h5 M6 h6 M7 h7 M8 h8 M9 h9 x3 x4 x5 x6 a b hw

/-- What a point's body has read and prepared before its first key tile, its scratch left at some contents. -/
abbrev Part3Post (c : Dev nD) (i : grid0.Coords)
    (M3 : Memref sig .tc .vmem S1x1024x128 .bf16) (h3 : M3.IsWhole)
    (M4 : Memref sig .tc .vmem S1x8192x128 .bf16) (h4 : M4.IsWhole)
    (M6 : Memref sig .tc .vmem S1x2x1x8192 .f32) (h6 : M6.IsWhole)
    (M8 : Memref sig .tc .vmem S2x8x128 .f32) (M9 : Memref sig .tc .vmem S2x8x128 .f32)
    (x3 : Vec F S1x1024x128 .bf16) (x4 : Vec F S1x8192x128 .bf16) (x6 : Vec F S1x2x1x8192 .f32)
    (r : Σ' (_ : BitVec 32) (_ : IVec S1024x128 1) (_ : IVec S1024x128 1) (_ : IVec S1x128 32) (_ : FVec F S1024x128 .bf16) (_ : IVec S1024x1024 1) (_ : FVec F S1024x128 .bf16) (_ : FVec F S1024x1 .f32) (_ : FVec F S1024x1 .f32), FVec F S1024x128 .bf16) : sProp 𝕄 :=
  iprop(∃ (v36 : FVec F S1024x1 .f32) (f8 : BufTy.Contents (Elt F) M8.view.ty) (f9 : BufTy.Contents (Elt F) M9.view.ty),
    ⌜r = ⟨BitVec.ofNat 32 (i 2).val, k0_pay56, k0_pay57, lanes, k0_pay69 (ldQ M3 h3 x3), k0_pay70, k0_pay71 (ldQ M3 h3 x3), k0_pay72 (ldCA i M6 h6 x6), v36, k0_pay74⟩⌝
    ∗ (M3.view.loc (c : Thread nD τ) ↦[M3.view.set]{fullShare} h3.unread x3)
    ∗ (M4.view.loc (c : Thread nD τ) ↦[M4.view.set]{fullShare} h4.unread x4)
    ∗ (M6.view.loc (c : Thread nD τ) ↦[M6.view.set]{fullShare} h6.unread x6)
    ∗ (M8.view.loc (c : Thread nD τ) ↦[M8.view.set]{fullShare} f8)
    ∗ (M9.view.loc (c : Thread nD τ) ↦[M9.view.set]{fullShare} f9))

/-- The body up to its first key tile, at a point that fills the scratch and at one that does not. -/
theorem part3_run (c : Dev nD) (i : grid0.Coords)
    (M3 : Memref sig .tc .vmem S1x1024x128 .bf16) (h3 : M3.IsWhole)
    (M4 : Memref sig .tc .vmem S1x8192x128 .bf16) (h4 : M4.IsWhole)
    (M5 : Memref sig .tc .vmem S1x8192x128 .bf16) (h5 : M5.IsWhole)
    (M6 : Memref sig .tc .vmem S1x2x1x8192 .f32) (h6 : M6.IsWhole)
    (M7 : Memref sig .tc .vmem S1x1024x128 .bf16) (h7 : M7.IsWhole)
    (M8 : Memref sig .tc .vmem S2x8x128 .f32) (h8 : M8.IsWhole)
    (M9 : Memref sig .tc .vmem S2x8x128 .f32) (h9 : M9.IsWhole)
    (x3 : Vec F S1x1024x128 .bf16) (x4 : Vec F S1x8192x128 .bf16) (x6 : Vec F S1x2x1x8192 .f32)
    (f8 : BufTy.Contents (Elt F) M8.view.ty) (f9 : BufTy.Contents (Elt F) M9.view.ty) (E : Set ℕ) :
    iprop((M3.view.loc (c : Thread nD τ) ↦[M3.view.set]{fullShare} h3.unread x3)
        ∗ (M4.view.loc (c : Thread nD τ) ↦[M4.view.set]{fullShare} h4.unread x4)
        ∗ (M6.view.loc (c : Thread nD τ) ↦[M6.view.set]{fullShare} h6.unread x6)
        ∗ (M8.view.loc (c : Thread nD τ) ↦[M8.view.set]{fullShare} f8)
        ∗ (M9.view.loc (c : Thread nD τ) ↦[M9.view.set]{fullShare} f9))
      ⊢ (wp frame (wpE (defs₀ (F := F)) 𝒱₀ c none) E (k0_part3 i M3 h3 M4 h4 M5 h5 M6 h6 M7 h7 M8 h8 M9 h9)
          (Part3Post c i M3 h3 M4 h4 M6 h6 M8 M9 x3 x4 x6) : sProp 𝕄) := by
  by_cases hcond : k0_cond1 i = 1#1
  · sl_open_parts
    iintro ⟨H3, H4, H6, H8, H9⟩
    sl_exec
    sl_step
    unfold Part3Post
    iexists _; iexists _; iexists _
    isplitr; · ipureintro; rfl
    isplitl [H3]; · iexact H3
    isplitl [H4]; · iexact H4
    isplitl [H6]; · iexact H6
    isplitl [H8]; · iexact H8
    iexact H9
  · sl_open_parts
    iintro ⟨H3, H4, H6, H8, H9⟩
    sl_exec
    sl_step
    unfold Part3Post
    iexists _; iexists _; iexists _
    isplitr; · ipureintro; rfl
    isplitl [H3]; · iexact H3
    isplitl [H4]; · iexact H4
    isplitl [H6]; · iexact H6
    isplitl [H8]; · iexact H8
    iexact H9

set_option maxHeartbeats 1000000 in
/-- The body runs from its blocks to the result block `IsOut` names, whatever its two scratch buffers hold. -/
theorem body_run (c : Dev nD) (i : grid0.Coords)
    (hc : ∀ (a b : FVec F S1024x1 .f32) (s : FVec F S1x8x128 .f32) (a' b' : FVec F S1024x1 .f32) (s' : FVec F S1x8x128 .f32),
      k0_chk1 i (countA i a b s) (countB i a' b' s'))
    (M3 : Memref sig .tc .vmem S1x1024x128 .bf16) (h3 : M3.IsWhole)
    (M4 : Memref sig .tc .vmem S1x8192x128 .bf16) (h4 : M4.IsWhole)
    (M5 : Memref sig .tc .vmem S1x8192x128 .bf16) (h5 : M5.IsWhole)
    (M6 : Memref sig .tc .vmem S1x2x1x8192 .f32) (h6 : M6.IsWhole)
    (M7 : Memref sig .tc .vmem S1x1024x128 .bf16) (h7 : M7.IsWhole)
    (M8 : Memref sig .tc .vmem S2x8x128 .f32) (h8 : M8.IsWhole)
    (M9 : Memref sig .tc .vmem S2x8x128 .f32) (h9 : M9.IsWhole)
    (x3 : Vec F S1x1024x128 .bf16) (x4 x5 : Vec F S1x8192x128 .bf16) (x6 : Vec F S1x2x1x8192 .f32)
    (E : Set ℕ) (K : PUnit → sProp 𝕄) :
    iprop(owns (c : Thread nD τ) M3 fullShare x3 ∗ owns (c : Thread nD τ) M4 fullShare x4
        ∗ owns (c : Thread nD τ) M5 fullShare x5 ∗ owns (c : Thread nD τ) M6 fullShare x6
        ∗ (∃ d, owns (c : Thread nD τ) M7 fullShare d) ∗ (∃ d, owns (c : Thread nD τ) M8 fullShare d)
        ∗ (∃ d, owns (c : Thread nD τ) M9 fullShare d)
        ∗ (iprop(owns (c : Thread nD τ) M3 fullShare x3 ∗ owns (c : Thread nD τ) M4 fullShare x4
            ∗ owns (c : Thread nD τ) M5 fullShare x5 ∗ owns (c : Thread nD τ) M6 fullShare x6
            ∗ (∃ Y, ⌜IsOut c i M3 h3 M4 h4 M5 h5 M6 h6 M7 h7 M8 h8 M9 h9 x3 x4 x5 x6 Y⌝ ∗ owns (c : Thread nD τ) M7 fullShare Y)
            ∗ (∃ d, owns (c : Thread nD τ) M8 fullShare d) ∗ (∃ d, owns (c : Thread nD τ) M9 fullShare d)) -∗ K ⟨⟩))
      ⊢ wp frame (wpE (defs₀ (F := F)) 𝒱₀ c none) E
          (cc0_fox_prompt_attention i M3 h3 M4 h4 M5 h5 M6 h6 M7 h7 M8 h8 M9 h9) K := by
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := h3.eq_unread hf3; obtain rfl := h4.eq_unread hf4
  obtain rfl := h5.eq_unread hf5; obtain rfl := h6.eq_unread hf6
  sl_unfold [cc0_fox_prompt_attention]
  unfold cc0_fox_prompt_attention_skel
  rw [wp_bind]
  iapply (wp_wand_r Idealize.ShloMosaic.frame (wpE (defs₀ (F := F)) 𝒱₀ (c : Thread nD τ) none) E)
  isplitl [H3 H4 H6 H8 H9]
  · iapply (part3_run c i M3 h3 M4 h4 M5 h5 M6 h6 M7 h7 M8 h8 M9 h9 x3 x4 x6 f8 f9 E)
    isplitl [H3]; · iexact H3
    isplitl [H4]; · iexact H4
    isplitl [H6]; · iexact H6
    isplitl [H8]; · iexact H8
    iexact H9
  · iintro %r ⟨%v36, %f8', %f9', %hr, H3, H4, H6, H8, H9⟩
    subst hr
    dsimp only
    sl_open_parts
    sl_exec (disch := exact hc _ _ _ _ _ _)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _
      isplitr; swap
      · iexists _; isplitr; swap; · iexact H7
        ipureintro; exact View.read_writes_full _ _ _ _ _
      ipureintro
      refine ⟨countA i v36 (k0_pay86 k0_pay70 (k0_pay71 (ldQ M3 h3 x3)) k0_pay78 (k0_pay81 (ldK i M4 h4 x4)) (k0_pay83 (k0_pay72 (ldCA i M6 h6 x6)) (ldCA i M6 h6 x6)))
          (M9.view.readAt (Elt F) (Rect.unit (s := S2x8x128) ![0, 0, 0] S1x8x128.size inb_S2x8x128_S1x8x128_0_0_0).toLoadRect f9'),
        countB i (k0_pay77 k0_pay57 (k0_pay69 (ldQ M3 h3 x3)) k0_pay74 (ldCB i M6 h6 x6)
            (M8.view.readAt (Elt F) (Rect.unit (s := S2x8x128) ![1, 0, 0] S1x8x128.size inb_S2x8x128_S1x8x128_1_0_0).toLoadRect f8'))
          (k0_pay87 k0_pay70 (k0_pay75 k0_pay57 (k0_pay69 (ldQ M3 h3 x3)) k0_pay74) (k0_pay76 (ldCB i M6 h6 x6)) k0_pay78 (k0_pay81 (ldK i M4 h4 x4)) (ldCB i M6 h6 x6))
          (M9.view.readAt (Elt F) (Rect.unit (s := S2x8x128) ![1, 0, 0] S1x8x128.size inb_S2x8x128_S1x8x128_1_0_0).toLoadRect f9'),
        hc _ _ _ _ _ _, ⟨_, _, _, rfl⟩, ⟨_, _, _, rfl⟩, ?_⟩
      unfold outOf headA headB both diag
      dsimp only
    isplitl [H8]
    · iexists _; iexists _; isplitr; swap; · iexact H8
      ipureintro; rfl
    iexists _; iexists _; isplitr; swap; · iexact H9
    ipureintro; rfl

end Cert.Proof.KernelIdeal
end
-- ==== Proof.KernelIdeal.Lanes.lean ====
module

public import proofs.«01_k».proof.Proof.KernelIdeal.Body

@[expose] public section

set_option maxRecDepth 16384

noncomputable section

namespace Cert.Proof.KernelIdeal

open Cert.KernelIdeal Cert.KernelIdeal.Gen
open Idealize.ShloMosaic

/-- Lane by lane, the tile-skip test bits of a head with the lanes at and beyond the row tile's number cleared. -/
abbrev testBits (q : BitVec 32) (w : IVec S1x128 1) : IVec S1x128 32 :=
  extui 32 (andi (cmpi .slt lanes (broadcast S1x128 q)) w) natLt_1_32

/-- Lane `k` of the three-axis row vector. -/
abbrev lane (k : Fin 128) : S1x1x128.Idx := fun a => match a with
  | ⟨0, _⟩ => (⟨0, by decide⟩ : Fin 1) | ⟨1, _⟩ => (⟨0, by decide⟩ : Fin 1) | ⟨2, _⟩ => k

theorem eq_lane (i : S1x1x128.Idx) : i = lane (i 2) := by
  funext a
  match a with
  | ⟨0, _⟩ => exact Fin.ext (by have := (i 0).isLt; simp only [lane]; show (i 0).val = 0; change (i 0).val < 1 at this; omega)
  | ⟨1, _⟩ => exact Fin.ext (by have := (i 1).isLt; simp only [lane]; show (i 1).val = 0; change (i 1).val < 1 at this; omega)
  | ⟨2, _⟩ => rfl

/-- A cleared lane counts zero, a kept lane its own test bit. -/
theorem testBits_toNat (q : Fin 8) (w : IVec S1x128 1) (i : S1x1x128.Idx) :
    (testBits (BitVec.ofNat 32 q.val) w (Shape.reshapeEquiv shapeCasts_S1x128_S1x1x128 i)).toNat
      = if (i 2).val < q.val then (w (Shape.reshapeEquiv shapeCasts_S1x128_S1x1x128 i)).toNat else 0 := by
  have hl : ∀ q : Fin 8, ∀ k : Fin 128, IntOp.cmpi .slt (lanes (Shape.reshapeEquiv shapeCasts_S1x128_S1x1x128 (lane k)))
      (BitVec.ofNat 32 q.val) = if k.val < q.val then 1#1 else 0#1 := by decide +kernel
  have hq : ∀ b b' : BitVec 1, (((if b' = 1#1 then 1#1 else 0#1) &&& b).setWidth 32).toNat = if b' = 1#1 then b.toNat else 0 := by decide
  rw [eq_lane i]
  have h := hl q (i 2)
  show ((IntOp.cmpi .slt (lanes (Shape.reshapeEquiv shapeCasts_S1x128_S1x1x128 (lane (i 2)))) (BitVec.ofNat 32 q.val)
      &&& w (Shape.reshapeEquiv shapeCasts_S1x128_S1x1x128 (lane (i 2)))).setWidth 32).toNat = _
  rw [h]
  have := hq (w (Shape.reshapeEquiv shapeCasts_S1x128_S1x1x128 (lane (i 2)))) (if (i 2).val < q.val then 1#1 else 0#1)
  by_cases hk : (i 2).val < q.val
  · simpa [hk] using this
  · simpa [hk] using this

/-- As many lanes lie below the row tile's number as that number says, all of them in the one sum. -/
theorem sum_kept (q : Fin 8) (j : S1.Idx) :
    ((Finset.univ.filter fun i => reduces_S1x1x128_S1.drop i = j).sum fun i : S1x1x128.Idx => if (i 2).val < q.val then 1 else 0) = q.val := by
  have hf : (Finset.univ.filter fun i => reduces_S1x1x128_S1.drop i = j) = (Finset.univ : Finset S1x1x128.Idx) := by
    refine Finset.filter_true_of_mem fun i _ => ?_
    have : ∀ a b : S1.Idx, a = b := by decide
    exact this _ _
  rw [hf]
  have e : Function.Bijective lane := ⟨fun a b h => by have := congrFun h 2; exact this, fun i => ⟨i 2, (eq_lane i).symm⟩⟩
  rw [← (Fintype.sum_bijective lane e (fun k : Fin 128 => if k.val < q.val then 1 else 0) _ fun k => rfl)]
  revert q; decide +kernel

end Cert.Proof.KernelIdeal
end
-- ==== Proof.KernelIdeal.Chk.lean ====
module

public import proofs.«01_k».proof.Proof.KernelIdeal.Body

@[expose] public section

set_option maxRecDepth 16384

noncomputable section

namespace Cert.Proof.KernelIdeal

open Cert.KernelIdeal Cert.KernelIdeal.Gen
open Idealize.ShloMosaic

/-- The grid point of the first batch and the first head pair at row tile `q`. -/
abbrev rowPt (q : Fin 8) : grid0.Coords := fun a => match a with
  | ⟨0, _⟩ => (⟨0, by decide⟩ : Fin 2)
  | ⟨1, _⟩ => (⟨0, by decide⟩ : Fin 4)
  | ⟨2, _⟩ => q

/-- At every row tile, two tile counts no greater than the row tile's number satisfy the body's side condition. -/
theorem chk_rowPt : ∀ q : Fin 8, ∀ a b : Fin 8, a.val ≤ q.val → b.val ≤ q.val →
    k0_chk1 (rowPt q) (BitVec.ofNat 32 a.val) (BitVec.ofNat 32 b.val) := by
  decide +kernel

/-- The side condition reads the grid point's last coordinate alone. -/
theorem chk_congr (i : grid0.Coords) (a b : BitVec 32) (h : k0_chk1 (rowPt (i 2)) a b) : k0_chk1 i a b := h

/-- At every grid point, two tile counts no greater than the row tile's number satisfy the body's side condition. -/
theorem chk_of_le (i : grid0.Coords) (a b : Nat) (ha : a ≤ (i 2).val) (hb : b ≤ (i 2).val) :
    k0_chk1 i (BitVec.ofNat 32 a) (BitVec.ofNat 32 b) := by
  have hq : (i 2).val < 8 := (i 2).isLt
  exact chk_congr i _ _ (chk_rowPt (i 2) ⟨a, by omega⟩ ⟨b, by omega⟩ ha hb)

end Cert.Proof.KernelIdeal
end
-- ==== Proof.KernelIdeal.Count.lean ====
module

public import proofs.«01_k».proof.Proof.KernelIdeal.Lanes
public import proofs.«01_k».proof.Proof.KernelIdeal.Chk
public import Idealize.ShloMosaic.PureOps.Ideal

@[expose] public section

set_option maxRecDepth 16384

noncomputable section

namespace Cert.Proof.KernelIdeal

open Cert.KernelIdeal Cert.KernelIdeal.Gen
open Idealize.ShloMosaic

/-- With every test bit set, the number of kept lanes, summed over the reals and converted back, is the row tile's number. -/
theorem count_eq (q : Fin 8) (w : IVec S1x128 1) (hw : ∀ i, w i = 1#1) :
    Scalar.fptosi (F := Ideal) 32 (extractAt ![0, 0, 0] (shapeCast S1x1x1 (multiReduction (F := Ideal) .add [1, 2] S1
      (shapeCast S1x1x128 (sitofp .f32 (testBits (BitVec.ofNat 32 q.val) w)) shapeCasts_S1x128_S1x1x128)
      0x00000000#32 reduces_S1x1x128_S1 (.inl rfl) rfl) shapeCasts_S1_S1x1x1) inpos_S1x1x1_p0_0_0) = BitVec.ofNat 32 q.val := by
  have hq := q.isLt
  have hred : ∀ j : S1.Idx, multiReduction (F := Ideal) .add [1, 2] S1
      (shapeCast S1x1x128 (sitofp .f32 (testBits (BitVec.ofNat 32 q.val) w)) shapeCasts_S1x128_S1x1x128)
      0x00000000#32 reduces_S1x1x128_S1 (.inl rfl) rfl j = (((q.val : ℕ) : ℝ) : EReal) := fun j => by
    show Ideal.reduceAdd reduces_S1x1x128_S1 _ j = _
    unfold Ideal.reduceAdd
    have h : ∀ i : S1x1x128.Idx, shapeCast S1x1x128 (sitofp (F := Ideal) .f32 (testBits (BitVec.ofNat 32 q.val) w)) shapeCasts_S1x128_S1x1x128 i
        = (((if (i 2).val < q.val then 1 else 0 : ℕ) : ℝ) : EReal) := fun i => by
      show (((testBits (BitVec.ofNat 32 q.val) w (Shape.reshapeEquiv shapeCasts_S1x128_S1x1x128 i)).toInt : ℝ) : EReal) = _
      have ht := testBits_toNat q w i
      rw [hw] at ht
      have hi : (testBits (BitVec.ofNat 32 q.val) w (Shape.reshapeEquiv shapeCasts_S1x128_S1x1x128 i)).toInt
          = ((if (i 2).val < q.val then 1 else 0 : ℕ) : ℤ) := by
        rw [BitVec.toInt_eq_toNat_of_lt (by rw [ht]; split <;> decide), ht]; split <;> rfl
      rw [hi]; push_cast; rfl
    rw [Finset.sum_congr rfl fun i _ => h i]
    have hc : ∀ S : Finset S1x1x128.Idx, (∑ i ∈ S, (((if (i 2).val < q.val then 1 else 0 : ℕ) : ℝ) : EReal))
        = (((∑ i ∈ S, if (i 2).val < q.val then 1 else 0 : ℕ) : ℝ) : EReal) := fun S => by
      induction S using Finset.induction_on with
      | empty => simp
      | insert a S ha ih => rw [Finset.sum_insert ha, Finset.sum_insert ha, ih]; push_cast; rfl
    rw [hc, sum_kept q j]
  unfold extractAt
  show Ideal.fptosi 32 (multiReduction (F := Ideal) .add [1, 2] S1 _ 0x00000000#32 reduces_S1x1x128_S1 (.inl rfl) rfl _) = _
  rw [hred, Ideal.fptosi, Ideal.toIntClamped_coe]
  rw [if_pos (by positivity), Int.floor_natCast]
  have h1 : min ((2 ^ (32 - 1) : Nat) - 1 : Int) (q.val : Int) = q.val := min_eq_right (by push_cast; omega)
  have h2 : max (-(2 ^ (32 - 1) : Nat) : Int) (q.val : Int) = q.val := max_eq_right (by push_cast; omega)
  rw [h1, h2, BitVec.ofInt_natCast]

/-- Every real exceeds the ideal reading of the skip bound, so every lane passes the skip test. -/
theorem test_true (x : FVec Ideal S1x128 .f32) (i : S1x128.Idx) :
    cmpf (F := Ideal) .oge x (broadcast S1x128 (Named.named κ "zero_prob_log2" 0xC3180000#32)) i = 1#1 := by
  show Ideal.cmp .oge (x i) (Named.named (F := Ideal) (φ := .f32) κ "zero_prob_log2" 0xC3180000#32) = 1#1
  have h : (Named.named (F := Ideal) (φ := .f32) κ "zero_prob_log2" 0xC3180000#32) = (⊥ : EReal) := rfl
  rw [h]
  simp [Ideal.cmp]

theorem count_eqA (i : grid0.Coords) (a b : FVec Ideal S1024x1 .f32) (s : FVec Ideal S1x8x128 .f32) :
    countA i a b s = BitVec.ofNat 32 (i 2).val := count_eq (i 2) _ (test_true _)
theorem count_eqB (i : grid0.Coords) (a b : FVec Ideal S1024x1 .f32) (s : FVec Ideal S1x8x128 .f32) :
    countB i a b s = BitVec.ofNat 32 (i 2).val := count_eq (i 2) _ (test_true _)

/-- The side condition the body assumes of its two tile counts holds at every grid point, whatever was read. -/
theorem chk_counts (i : grid0.Coords) (a b : FVec Ideal S1024x1 .f32) (s : FVec Ideal S1x8x128 .f32)
    (a' b' : FVec Ideal S1024x1 .f32) (s' : FVec Ideal S1x8x128 .f32) : k0_chk1 i (countA i a b s) (countB i a' b' s') := by
  rw [count_eqA, count_eqB]
  exact chk_of_le i _ _ le_rfl le_rfl

end Cert.Proof.KernelIdeal
end
-- ==== Proof.KernelIdeal.Run.lean ====
module

public import proofs.«01_k».proof.Proof.KernelIdeal.Count

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

local notation "𝕄" => MT nD τ sig Unit (Elt Ideal) ℕ (UR sig nD τ) ℕ

variable (m : (ℓ : Loc nD τ sig) → Buf (Elt Ideal) ℓ) (ρ : Dev nD → PrngReg)

/-- The scratch buffers and the generator register, each at some contents: what passes from point to point. -/
theorem phi_eq (c : Dev nD) :
    (ΦA spec0 c : sProp 𝕄) = iprop(((∃ d, owns (c : Thread nD τ) (Memref.whole cc0_scratch0) fullShare d)
      ∗ (∃ d, owns (c : Thread nD τ) (Memref.whole cc0_scratch1) fullShare d)) ∗ ∃ r, prngReg c r) := by
  unfold ΦA; rw [scopedRest0_eq]; simp only [owns_whole]; try rfl

/-- The row tile of a point. -/
abbrev rowOf (t : Fin cfg0.N) : Nat := (grid0.coords t 2).val

/-- The block of the result a point writes: every key tile below the diagonal visited, by both heads. -/
def outAt (c : Dev nD) (t : Fin cfg0.N) : Vec Ideal S1x1024x128 .bf16 :=
  outOf c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (Memref.whole cc0_scratch0) (Memref.isWhole_whole _) (Memref.whole cc0_scratch1) (Memref.isWhole_whole _)
    (iblk m c 0 t) (iblk m c 1 t) (iblk m c 2 t) (iblk m c 3 t)
    (BitVec.ofNat 32 (rowOf t)) (BitVec.ofNat 32 (rowOf t)) (chk_of_le (grid0.coords t) _ _ le_rfl le_rfl)

/-- Each input's staging buffer keeps its block; the result's holds `outAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The body at a point, from the blocks the pipeline hands it to the same blocks and the result's block. -/
theorem body_obligation (c : Dev nD) : BodyObligation (dats m 0 c) (defs₀ (F := Ideal)) 𝒱₀ () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3, after0_4,
    show (dats m 0 c).Φ t.castSucc = ΦA spec0 c from rfl, phi_eq]
  iintro ⟨⟨⟨H8, H9⟩, Hg⟩, Ho, ⟨%d0, H0⟩, ⟨%d1, H1⟩, ⟨%d2, H2⟩, ⟨%d3, H3⟩, ⟨%d4, H4⟩⟩
  iapply (body_run c (grid0.coords t) (chk_counts (grid0.coords t)) _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H8]; · iexact H8
  isplitl [H9]; · iexact H9
  iintro ⟨H0, H1, H2, H3, ⟨%Y, %hY, H4⟩, H8, H9⟩
  isplitl [H8 H9 Hg]
  · isplitl [H8 H9]
    · isplitl [H8]; · iexact H8
      iexact H9
    iexact Hg
  isplitl [Ho]; · iexact Ho
  isplitl [H0]; · iexact H0
  isplitl [H1]; · iexact H1
  isplitl [H2]; · iexact H2
  isplitl [H3]; · iexact H3
  obtain ⟨a, b, hw, ⟨p, q, s, ha⟩, ⟨p', q', s', hb⟩, hY⟩ := hY
  rw [count_eqA] at ha; rw [count_eqB] at hb
  subst ha; subst hb; subst hY
  unfold outAt
  iexact H4

set_option backward.isDefEq.respectTransparency.types false in
/-- Every execution terminates without fault with each array at what the proof data name and every semaphore at zero. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame of the idealized kernel. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.Proof.KernelIdeal
end
-- ==== Proof.Value.Online.lean ====
/-
  The arithmetic of softmax in one pass, over the extended reals: a running maximum, a sum of weights taken relative to it and
  a weighted sum of values, brought up to date one tile of keys at a time. The weights are real; the values may be infinite.
-/
module

public import Idealize.ShloMosaic.PureOps.Ideal.Laws
public import Mathlib.Data.EReal.Operations
public import Mathlib.Analysis.SpecialFunctions.Pow.Real

@[expose] public section

noncomputable section

namespace Cert.Proof.Value

open Idealize.ShloMosaic

/-- Two to a real power. -/
def two (r : ℝ) : ℝ := Real.exp (r * Real.log 2)

theorem two_pos (r : ℝ) : 0 < two r := Real.exp_pos _
theorem two_add (r s : ℝ) : two (r + s) = two r * two s := by unfold two; rw [add_mul, Real.exp_add]
theorem two_zero : two 0 = 1 := by simp [two]

theorem exp2_coe_eq (r : ℝ) : Ideal.exp2 (r : EReal) = (two r : EReal) := by
  rw [Ideal.exp2_coe]
  congr 1
  show (2 : ℝ) ^ r = _
  rw [Real.rpow_def_of_pos (by norm_num), two, mul_comm]

/-- A base-two score and its weight: two to the score, or nothing at all for a masked key. -/
def Scored (x : EReal) (p : ℝ) : Prop := (∃ r : ℝ, x = r ∧ p = two r) ∨ (x = ⊥ ∧ p = 0)

theorem Scored.nonneg {x : EReal} {p : ℝ} (h : Scored x p) : 0 ≤ p := by
  rcases h with ⟨r, -, rfl⟩ | ⟨-, rfl⟩
  · exact (two_pos r).le
  · exact le_rfl

theorem Scored.lt_top {x : EReal} {p : ℝ} (h : Scored x p) : x < ⊤ := by
  rcases h with ⟨r, rfl, -⟩ | ⟨rfl, -⟩
  · exact EReal.coe_lt_top r
  · exact bot_lt_top

/-- A score's exponential relative to a real reference is its weight, scaled. -/
theorem Scored.exp2_sub {x : EReal} {p : ℝ} (h : Scored x p) (μ : ℝ) :
    Ideal.exp2 (x - (μ : EReal)) = ((two (-μ) * p : ℝ) : EReal) := by
  rcases h with ⟨r, rfl, rfl⟩ | ⟨rfl, rfl⟩
  · rw [← EReal.coe_sub, exp2_coe_eq, sub_eq_neg_add, two_add]
  · rw [EReal.bot_sub, Ideal.exp2_bot]; simp

/-- A real factor not below zero distributes over a sum of extended reals. -/
theorem mul_sum {ι : Type} (S : Finset ι) (c : ℝ) (hc : 0 ≤ c) (f : ι → EReal) :
    (c : EReal) * ∑ j ∈ S, f j = ∑ j ∈ S, (c : EReal) * f j := by
  classical
  induction S using Finset.induction_on with
  | empty => simp
  | insert a S ha ih =>
    rw [Finset.sum_insert ha, Finset.sum_insert ha, ← ih]
    exact EReal.left_distrib_of_nonneg_of_ne_top (EReal.coe_nonneg.mpr hc) (EReal.coe_ne_top c) _ _

theorem mul_add' (c : ℝ) (hc : 0 ≤ c) (x y : EReal) : (c : EReal) * (x + y) = (c : EReal) * x + (c : EReal) * y :=
  EReal.left_distrib_of_nonneg_of_ne_top (EReal.coe_nonneg.mpr hc) (EReal.coe_ne_top c) _ _

/-- A sum of reals, taken among the extended reals. -/
theorem coe_sum {ι : Type} (S : Finset ι) (f : ι → ℝ) : ∑ j ∈ S, (f j : EReal) = ((∑ j ∈ S, f j : ℝ) : EReal) := by
  classical
  induction S using Finset.induction_on with
  | empty => simp
  | insert a S ha ih => rw [Finset.sum_insert ha, Finset.sum_insert ha, ih, EReal.coe_add]

/-- The greater of a real and the greatest of a tile's scores is real. -/
theorem max_fold_real {ι : Type} (S : Finset ι) (μ : ℝ) (b : EReal) (hb : b < ⊤) (s : ι → EReal) (hs : ∀ j, s j < ⊤) :
    ∃ r : ℝ, max (μ : EReal) (S.fold max b s) = r := by
  have h1 : S.fold max b s < ⊤ := (Finset.fold_max_lt ⊤).mpr ⟨hb, fun j _ => hs j⟩
  have h2 : max (μ : EReal) (S.fold max b s) ≠ ⊤ := (max_lt (EReal.coe_lt_top μ) h1).ne
  have h3 : max (μ : EReal) (S.fold max b s) ≠ ⊥ := (lt_of_lt_of_le (EReal.bot_lt_coe μ) (le_max_left _ _)).ne'
  exact ⟨_, (EReal.coe_toReal h2 h3).symm⟩

/-- One row's running state, for the keys visited so far of total weight `L` and weighted values `A`: a real reference, and
    the sum and the weighted values relative to it. -/
def Inv {δ : Type} (L : ℝ) (A : δ → EReal) (m l : EReal) (acc : δ → EReal) : Prop :=
  ∃ μ : ℝ, m = μ ∧ l = ((two (-μ) * L : ℝ) : EReal) ∧ ∀ d, acc d = (two (-μ) : EReal) * A d

/-- Before any key. -/
theorem Inv.zero {δ : Type} {m : EReal} (μ : ℝ) (hm : m = μ) : Inv (δ := δ) 0 (fun _ => 0) m 0 (fun _ => 0) :=
  ⟨μ, hm, by simp, fun _ => by simp⟩

/-- One tile of keys. -/
theorem Inv.step {δ ι : Type} [Fintype ι] {L : ℝ} {A : δ → EReal} {m l : EReal} {acc : δ → EReal} (h : Inv L A m l acc)
    (s : ι → EReal) (p : ι → ℝ) (hs : ∀ j, Scored (s j) (p j)) (v : ι → δ → EReal) (b : EReal) (hb : b < ⊤)
    {m' l' : EReal} {acc' : δ → EReal} (hm : m' = max m (Finset.univ.fold max b s))
    (hl : l' = Ideal.exp2 (m - m') * l + ∑ j, Ideal.exp2 (s j - m'))
    (hacc : ∀ d, acc' d = Ideal.exp2 (m - m') * acc d + ∑ j, Ideal.exp2 (s j - m') * v j d) :
    Inv (L + ∑ j, p j) (fun d => A d + ∑ j, (p j : EReal) * v j d) m' l' acc' := by
  obtain ⟨μ, hmμ, hlμ, haccμ⟩ := h
  obtain ⟨μ', hμ'⟩ := max_fold_real Finset.univ μ b hb s fun j => (hs j).lt_top
  have hm' : m' = (μ' : EReal) := by rw [hm, hmμ, hμ']
  have hα : Ideal.exp2 (m - m') = ((two (μ - μ') : ℝ) : EReal) := by
    rw [hmμ, hm', ← EReal.coe_sub, exp2_coe_eq]
  have hαm : two (μ - μ') * two (-μ) = two (-μ') := by rw [← two_add]; congr 1; ring
  refine ⟨μ', hm', ?_, fun d => ?_⟩
  · rw [hl, hα, hlμ, hm', Finset.sum_congr rfl fun j _ => (hs j).exp2_sub μ', coe_sum, ← EReal.coe_mul, ← EReal.coe_add,
      ← mul_assoc, hαm, ← Finset.mul_sum, mul_add]
  · rw [hacc, hα, haccμ, hm', Finset.sum_congr rfl fun j _ => by rw [(hs j).exp2_sub μ', EReal.coe_mul, mul_assoc],
      ← mul_sum _ _ (two_pos _).le, ← mul_assoc, ← EReal.coe_mul, hαm, ← mul_add' _ (two_pos _).le]

theorem div_pos' (x : EReal) (L : ℝ) (hL : 0 < L) : Ideal.div x (L : EReal) = x * ((L⁻¹ : ℝ) : EReal) := by
  unfold Ideal.div
  rw [if_neg (by exact_mod_cast hL.ne'), EReal.coe_inv]

/-- The last step divides by the sum of the weights; the reference drops out. -/
theorem Inv.finish {δ : Type} {L : ℝ} {A : δ → EReal} {m l : EReal} {acc : δ → EReal} (h : Inv L A m l acc) (hL : 0 < L) (d : δ) :
    acc d * Ideal.div 1 l = ((L⁻¹ : ℝ) : EReal) * A d := by
  obtain ⟨μ, -, hl, hacc⟩ := h
  have hp := two_pos (-μ)
  rw [hl, hacc, div_pos' _ _ (mul_pos hp hL), one_mul, mul_comm (two (-μ) : EReal), mul_assoc, ← EReal.coe_mul, mul_comm]
  congr 2
  field_simp

/-- Softmax over all the keys at once, in base `e`: the weighted sum of the values with each weight divided by their sum. -/
theorem softmax_eq {ι : Type} [Fintype ι] (x : ι → EReal) (p : ι → ℝ)
    (hx : ∀ j, (∃ r : ℝ, x j = r ∧ p j = Real.exp r) ∨ (x j = ⊥ ∧ p j = 0)) (hL : 0 < ∑ j, p j) (v : ι → EReal) (b : EReal) (hb : b < ⊤) :
    ∑ j, v j * Ideal.div (Ideal.exp (x j - max b (Finset.univ.fold max b x))) (∑ k, Ideal.exp (x k - max b (Finset.univ.fold max b x)))
      = (((∑ j, p j)⁻¹ : ℝ) : EReal) * ∑ j, (p j : EReal) * v j := by
  have hp : ∀ j, 0 ≤ p j := fun j => by
    rcases hx j with ⟨r, -, h⟩ | ⟨-, h⟩ <;> rw [h]
    exact (Real.exp_pos r).le
  obtain ⟨j₀, r₀, hj₀⟩ : ∃ j, ∃ r : ℝ, x j = r := by
    by_contra hn
    push Not at hn
    refine hL.ne' (Finset.sum_eq_zero fun j _ => ?_)
    rcases hx j with ⟨r, h, -⟩ | ⟨-, h⟩
    · exact absurd h (hn j r)
    · exact h
  have hlt : ∀ j, x j < ⊤ := fun j => by
    rcases hx j with ⟨r, h, -⟩ | ⟨h, -⟩ <;> rw [h]
    · exact EReal.coe_lt_top r
    · exact bot_lt_top
  have h1 : max b (Finset.univ.fold max b x) ≠ ⊤ := (max_lt hb ((Finset.fold_max_lt ⊤).mpr ⟨hb, fun j _ => hlt j⟩)).ne
  have h2 : max b (Finset.univ.fold max b x) ≠ ⊥ := by
    refine (lt_of_lt_of_le (EReal.bot_lt_coe r₀) (le_trans ?_ (le_max_right _ _))).ne'
    rw [← hj₀]
    exact (Finset.le_fold_max _).mpr (Or.inr ⟨j₀, Finset.mem_univ _, le_rfl⟩)
  obtain ⟨M, hM⟩ : ∃ M : ℝ, max b (Finset.univ.fold max b x) = M := ⟨_, (EReal.coe_toReal h1 h2).symm⟩
  have he : ∀ j, Ideal.exp (x j - (M : EReal)) = ((Real.exp (-M) * p j : ℝ) : EReal) := fun j => by
    rcases hx j with ⟨r, h, h'⟩ | ⟨h, h'⟩ <;> rw [h, h']
    · rw [← EReal.coe_sub, Ideal.exp_coe, sub_eq_neg_add, Real.exp_add]
    · rw [EReal.bot_sub, Ideal.exp_bot]; simp
  have hE := Real.exp_pos (-M)
  rw [hM]
  simp only [he]
  rw [coe_sum, ← Finset.mul_sum, mul_sum _ _ (inv_nonneg.mpr hL.le)]
  refine Finset.sum_congr rfl fun j _ => ?_
  rw [div_pos' _ _ (mul_pos hE hL), ← EReal.coe_mul, mul_comm, ← mul_assoc, ← EReal.coe_mul]
  congr 2
  field_simp

end Cert.Proof.Value
end
-- ==== Proof.Value.Tile.lean ====
/-
  The kernel's arithmetic on one tile of keys, read row by row: the running state of a row goes from one state of the
  one-pass softmax to the next.
-/
module

public import proofs.«01_k».proof.Proof.KernelIdeal.Body
public import proofs.«01_k».proof.Proof.Value.Online
public import Idealize.ShloMosaic.Lib.Pipeline.ValueKit

@[expose] public section

set_option maxRecDepth 16384

noncomputable section

namespace Cert.Proof.Value

open Cert.KernelIdeal Cert.KernelIdeal.Gen
open Idealize.ShloMosaic Idealize.ShloMosaic.Tactic

theorem neg_inf : Ideal.ofBits .f32 0xFF800000#32 = ⊥ := by
  simp [Ideal.ofBits, Ideal.ieee]

section plain

variable (q : FVec Ideal S1024x128 .bf16) (c m l : FVec Ideal S1024x1 .f32) (acc : FVec Ideal S1024x128 .f32)
    (k v : Vec Ideal S1x1024x128 .bf16) (g : Vec Ideal S1x1x1x1024 .f32) (r : Fin 1024)

theorem pay38_apply : k0_pay38 q c m k g (ix2 r 0)
    = max (m (ix2 r 0)) (Finset.univ.fold max (Ideal.ofBits .f32 0xFF800000#32) fun x => k0_pay36 q c k g (ix2 r x)) := by
  unfold k0_pay38
  dsimp only
  pointwise

theorem pay40_apply : k0_pay40 q c m k g (ix2 r 0) = Ideal.exp2 (m (ix2 r 0) - k0_pay38 q c m k g (ix2 r 0)) := by
  unfold k0_pay40
  pointwise
  rfl

theorem pay42_apply (x : Fin 1024) : k0_pay42 q c m k g (ix2 r x)
    = Ideal.exp2 (k0_pay36 q c k g (ix2 r x) - k0_pay38 q c m k g (ix2 r 0)) := by
  unfold k0_pay42
  pointwise
  rfl

theorem pay1_apply : k0_pay1 (k0_pay42 q c m k g) (k0_pay44 q c m l k g) (ix2 r 0)
    = Ideal.exp2 (m (ix2 r 0) - k0_pay38 q c m k g (ix2 r 0)) * l (ix2 r 0)
      + ∑ x, Ideal.exp2 (k0_pay36 q c k g (ix2 r x) - k0_pay38 q c m k g (ix2 r 0)) := by
  unfold k0_pay1 k0_pay44
  pointwise
  simp only [pay40_apply, pay42_apply]

theorem pay3_apply (d : Fin 128) : k0_pay3 acc (k0_pay35 v) (k0_pay40 q c m k g) (k0_pay42 q c m k g) (ix2 r d)
    = Ideal.exp2 (m (ix2 r 0) - k0_pay38 q c m k g (ix2 r 0)) * acc (ix2 r d)
      + ∑ x, Ideal.exp2 (k0_pay36 q c k g (ix2 r x) - k0_pay38 q c m k g (ix2 r 0)) * v (ix3 0 x d) := by
  unfold k0_pay3 k0_pay35
  pointwise
  simp only [pay40_apply, pay42_apply]

/-- A tile below the diagonal, for the first head of a pair. -/
theorem stepA {L : ℝ} {A : Fin 128 → EReal} (h : Inv L A (m (ix2 r 0)) (l (ix2 r 0)) fun d => acc (ix2 r d))
    (p : Fin 1024 → ℝ) (hs : ∀ x, Scored (k0_pay36 q c k g (ix2 r x)) (p x)) :
    Inv (L + ∑ x, p x) (fun d => A d + ∑ x, (p x : EReal) * v (ix3 0 x d)) (k0_pay38 q c m k g (ix2 r 0))
      (k0_pay1 (k0_pay42 q c m k g) (k0_pay44 q c m l k g) (ix2 r 0))
      fun d => k0_pay3 acc (k0_pay35 v) (k0_pay40 q c m k g) (k0_pay42 q c m k g) (ix2 r d) :=
  h.step (fun x => k0_pay36 q c k g (ix2 r x)) p hs (fun x d => v (ix3 0 x d)) _ (by rw [neg_inf]; exact bot_lt_top)
    (pay38_apply q c m k g r) (pay1_apply q c m l k g r) (pay3_apply q c m acc k v g r)

theorem pay37_eq : k0_pay37 q c k g = k0_pay36 q c k g := rfl
theorem pay39_eq : k0_pay39 q c m k g = k0_pay38 q c m k g := rfl
theorem pay41_eq : k0_pay41 q c m k g = k0_pay40 q c m k g := rfl
theorem pay43_eq : k0_pay43 q c m k g = k0_pay42 q c m k g := rfl
theorem pay2_eq : k0_pay2 l (k0_pay41 q c m k g) (k0_pay43 q c m k g) = k0_pay1 (k0_pay42 q c m k g) (k0_pay44 q c m l k g) := rfl
theorem pay4_eq : k0_pay4 acc (k0_pay35 v) (k0_pay41 q c m k g) (k0_pay43 q c m k g)
    = k0_pay3 acc (k0_pay35 v) (k0_pay40 q c m k g) (k0_pay42 q c m k g) := rfl

/-- A tile below the diagonal, for the second head of a pair: the same arithmetic. -/
theorem stepB {L : ℝ} {A : Fin 128 → EReal} (h : Inv L A (m (ix2 r 0)) (l (ix2 r 0)) fun d => acc (ix2 r d))
    (p : Fin 1024 → ℝ) (hs : ∀ x, Scored (k0_pay36 q c k g (ix2 r x)) (p x)) :
    Inv (L + ∑ x, p x) (fun d => A d + ∑ x, (p x : EReal) * v (ix3 0 x d)) (k0_pay39 q c m k g (ix2 r 0))
      (k0_pay2 l (k0_pay41 q c m k g) (k0_pay43 q c m k g) (ix2 r 0))
      fun d => k0_pay4 acc (k0_pay35 v) (k0_pay41 q c m k g) (k0_pay43 q c m k g) (ix2 r d) := by
  rw [pay39_eq, pay2_eq, pay4_eq]
  exact stepA q c m l acc k v g r h p hs

end plain

/-! ## The tile on the diagonal -/

section diagonal

variable (q : FVec Ideal S1024x128 .bf16) (c : FVec Ideal S1024x1 .f32) (k : FVec Ideal S1024x128 .bf16) (v : Vec Ideal S1x1024x128 .bf16)
    (g : FVec Ideal S1024x1024 .f32) (r : Fin 1024)

theorem pay86_apply (m : FVec Ideal S1024x1 .f32) : k0_pay86 k0_pay70 q m k g (ix2 r 0)
    = max (m (ix2 r 0)) (Finset.univ.fold max (Ideal.ofBits .f32 0xFF800000#32) fun x => k0_pay84 k0_pay70 q k g (ix2 r x)) := by
  unfold k0_pay86
  pointwise

theorem pay92_apply (m l : FVec Ideal S1024x1 .f32) : k0_pay92 k0_pay70 q m l k g (ix2 r 0)
    = Ideal.exp2 (m (ix2 r 0) - k0_pay86 k0_pay70 q m k g (ix2 r 0)) * l (ix2 r 0)
      + ∑ x, Ideal.exp2 (k0_pay84 k0_pay70 q k g (ix2 r x) - k0_pay86 k0_pay70 q m k g (ix2 r 0)) := by
  unfold k0_pay92 k0_pay88 k0_pay90
  pointwise
  rfl

theorem pay94_apply (m : FVec Ideal S1024x1 .f32) (acc : FVec Ideal S1024x128 .f32) (d : Fin 128) :
    k0_pay94 k0_pay70 q m acc k (k0_pay82 v) g (ix2 r d)
    = Ideal.exp2 (m (ix2 r 0) - k0_pay86 k0_pay70 q m k g (ix2 r 0)) * acc (ix2 r d)
      + ∑ x, Ideal.exp2 (k0_pay84 k0_pay70 q k g (ix2 r x) - k0_pay86 k0_pay70 q m k g (ix2 r 0)) * v (ix3 0 x d) := by
  unfold k0_pay94 k0_pay88 k0_pay90 k0_pay82
  pointwise
  rfl

/-- The state before any tile: the kernel's first reference is a real. -/
theorem init_inv : ∃ μ : ℝ, (k0_pay78 (F := Ideal)) (ix2 r 0) = (μ : EReal) :=
  ⟨_, by unfold k0_pay78; pointwise; simp [Ideal.ofBits, Ideal.ieee]; rfl⟩

theorem diagA (p : Fin 1024 → ℝ) (hs : ∀ x, Scored (k0_pay84 k0_pay70 q k g (ix2 r x)) (p x)) :
    Inv (∑ x, p x) (fun d => ∑ x, (p x : EReal) * v (ix3 0 x d)) (k0_pay86 k0_pay70 q k0_pay78 k g (ix2 r 0))
      (k0_pay92 k0_pay70 q k0_pay78 k0_pay79 k g (ix2 r 0))
      fun d => k0_pay94 k0_pay70 q k0_pay78 k0_pay80 k (k0_pay82 v) g (ix2 r d) := by
  obtain ⟨μ, hμ⟩ := init_inv r
  have h := (Inv.zero (δ := Fin 128) μ hμ).step (fun x => k0_pay84 k0_pay70 q k g (ix2 r x)) p hs (fun x d => v (ix3 0 x d)) _
    (by rw [neg_inf]; exact bot_lt_top)
    (pay86_apply q k g r k0_pay78)
    ((pay92_apply q k g r k0_pay78 k0_pay79).trans (by rw [show (k0_pay79 (F := Ideal)) (ix2 r 0) = 0 by unfold k0_pay79; pointwise]))
    fun d => (pay94_apply q k v g r k0_pay78 k0_pay80 d).trans (by rw [show (k0_pay80 (F := Ideal)) (ix2 r d) = 0 by unfold k0_pay80; pointwise])
  simpa only [zero_add] using h

end diagonal

end Cert.Proof.Value
end
-- ==== Proof.Value.Scores.lean ====
/-
  A tile's scores in terms of the blocks they come from: real numbers below the diagonal, minus infinity above it.
-/
module

public import proofs.«01_k».proof.Proof.Value.Tile
public import Idealize.ShloMosaic.Lib.WordCmp

@[expose] public section

set_option maxRecDepth 16384

noncomputable section

namespace Cert.Proof.Value

open Cert.KernelIdeal Cert.KernelIdeal.Gen
open Idealize.ShloMosaic Idealize.ShloMosaic.Tactic

/-- The lanes of the two heads of a pair within a block of 128. -/
def laneOf (h : Fin 2) (e : Fin 64) : Fin 128 := ⟨h.val * 64 + e.val, by omega⟩

theorem slt_words (a b : ℕ) (ha : a < 2 ^ 31) (hb : b < 2 ^ 31) :
    IntOp.cmpi .slt (BitVec.ofNat 32 a) (BitVec.ofNat 32 b) = if a < b then 1#1 else 0#1 := by
  rw [WordCmp.cmpi_slt_ofNat (by simpa using ha) (by simpa using hb)]
  by_cases h : a < b <;> simp [h]

theorem sge_words (a b : ℕ) (ha : a < 2 ^ 31) (hb : b < 2 ^ 31) :
    IntOp.cmpi .sge (BitVec.ofNat 32 a) (BitVec.ofNat 32 b) = if b ≤ a then 1#1 else 0#1 := by
  rw [WordCmp.cmpi_sge_ofNat (by simpa using ha) (by simpa using hb)]
  by_cases h : b ≤ a <;> simp [h]

theorem select_ite {α : Type} (c : Prop) [Decidable c] (a b : α) : Scalar.select (if c then 1#1 else 0#1) a b = if c then a else b := by
  by_cases h : c <;> simp [h, Scalar.select]

theorem xori_ite (c : Prop) [Decidable c] : IntOp.xori (if c then 1#1 else 0#1) 1#1 = if c then 0#1 else 1#1 := by
  by_cases h : c <;> simp [h] <;> rfl

/-- The first head's queries: the other head's lanes are zero. -/
theorem pay71_apply (Q : Vec Ideal S1x1024x128 .bf16) (r : Fin 1024) (d : Fin 128) :
    k0_pay71 Q (ix2 r d) = if d.val < 64 then Q (ix3 0 r d) else 0 := by
  unfold k0_pay71 k0_pay69 k0_pay56
  pointwise
  rw [slt_words _ _ (by omega) (by omega), select_ite]

/-- The second head's queries: the other head's lanes are zero. -/
theorem pay75_apply (Q : Vec Ideal S1x1024x128 .bf16) (r : Fin 1024) (d : Fin 128) :
    k0_pay75 k0_pay57 (k0_pay69 Q) k0_pay74 (ix2 r d) = if d.val < 64 then 0 else Q (ix3 0 r d) := by
  unfold k0_pay75 k0_pay57 k0_pay69 k0_pay56 k0_pay74
  pointwise
  rw [slt_words _ _ (by omega) (by omega), xori_ite]
  by_cases h : d.val < 64 <;> simp [h, Scalar.select]

theorem pay72_apply (C : Vec Ideal S1x1x1x1024 .f32) (r : Fin 1024) : k0_pay72 C (ix2 r 0) = C (ix4 0 0 0 r) := by
  unfold k0_pay72
  pointwise

theorem pay76_eq (C : Vec Ideal S1x1x1x1024 .f32) : k0_pay76 C = k0_pay72 C := rfl

theorem pay36_apply (q : FVec Ideal S1024x128 .bf16) (c : FVec Ideal S1024x1 .f32) (k : Vec Ideal S1x1024x128 .bf16)
    (g : Vec Ideal S1x1x1x1024 .f32) (r x : Fin 1024) :
    k0_pay36 q c k g (ix2 r x) = c (ix2 r 0) - g (ix4 0 0 0 x) + ∑ d, q (ix2 r d) * k (ix3 0 x d) := by
  unfold k0_pay36 k0_pay34
  dsimp only
  pointwise

/-- On the diagonal tile a key after the row is masked, the others score as below the diagonal. -/
theorem pay84_apply (q : FVec Ideal S1024x128 .bf16) (c : FVec Ideal S1024x1 .f32) (k : Vec Ideal S1x1024x128 .bf16)
    (g : Vec Ideal S1x1x1x1024 .f32) (r x : Fin 1024) :
    k0_pay84 k0_pay70 q (k0_pay81 k) (k0_pay83 c g) (ix2 r x) = if x.val ≤ r.val then k0_pay36 q c k g (ix2 r x) else ⊥ := by
  rw [pay36_apply]
  unfold k0_pay84 k0_pay70 k0_pay81 k0_pay83
  pointwise
  rw [sge_words _ _ (by omega) (by omega), select_ite, neg_inf]

theorem pay87_eq (q : FVec Ideal S1024x128 .bf16) (c m : FVec Ideal S1024x1 .f32) (k : FVec Ideal S1024x128 .bf16) (g : Vec Ideal S1x1x1x1024 .f32) :
    k0_pay87 k0_pay70 q c m k g = k0_pay86 k0_pay70 q m k (k0_pay83 c g) := rfl
theorem pay93_eq (q : FVec Ideal S1024x128 .bf16) (c m l : FVec Ideal S1024x1 .f32) (k : FVec Ideal S1024x128 .bf16) (g : Vec Ideal S1x1x1x1024 .f32) :
    k0_pay93 k0_pay70 q c m l k g = k0_pay92 k0_pay70 q m l k (k0_pay83 c g) := rfl
theorem pay97_eq (q : FVec Ideal S1024x128 .bf16) (c m : FVec Ideal S1024x1 .f32) (acc : FVec Ideal S1024x128 .f32) (k v : FVec Ideal S1024x128 .bf16)
    (g : Vec Ideal S1x1x1x1024 .f32) :
    k0_pay97 (k0_pay95 k0_pay70 q c m acc k g) (k0_pay96 k0_pay70 q c m k v g) = k0_pay94 k0_pay70 q m acc k v (k0_pay83 c g) := rfl

/-! ## Scores of finite blocks -/

/-- A sum over a block's 128 lanes is the sum over each head's 64. -/
theorem sum_lanes (f : Fin 128 → EReal) : ∑ d, f d = (∑ e, f (laneOf 0 e)) + ∑ e, f (laneOf 1 e) := by
  rw [show (∑ d : Fin 128, f d) = ∑ d : Fin (64 + 64), f d from rfl, Fin.sum_univ_add]
  congr 1 <;> refine Finset.sum_congr rfl fun e _ => congrArg f (Fin.ext ?_) <;> simp [laneOf]

section finite

variable (Q k : Vec Ideal S1x1024x128 .bf16) (C g : Vec Ideal S1x1x1x1024 .f32) (r x : Fin 1024)
    (qr kr : Fin 128 → ℝ) (cr gr : ℝ)
    (hQ : ∀ d, Q (ix3 0 r d) = (qr d : EReal)) (hk : ∀ d, k (ix3 0 x d) = (kr d : EReal))
    (hC : C (ix4 0 0 0 r) = (cr : EReal)) (hg : g (ix4 0 0 0 x) = (gr : EReal))

include hQ hk hC hg

theorem scoreA : k0_pay36 (k0_pay71 Q) (k0_pay72 C) k g (ix2 r x)
    = (((cr - gr) + ∑ e, qr (laneOf 0 e) * kr (laneOf 0 e) : ℝ) : EReal) := by
  rw [pay36_apply, pay72_apply, hC, hg, sum_lanes, ← EReal.coe_sub]
  rw [Finset.sum_congr (g := fun e => ((qr (laneOf 0 e) * kr (laneOf 0 e) : ℝ) : EReal)) rfl fun e _ => by
    rw [pay71_apply, if_pos (by simp [laneOf]), hQ, hk, EReal.coe_mul]]
  rw [Finset.sum_congr (s₁ := Finset.univ) (f := fun e => k0_pay71 Q (ix2 r (laneOf 1 e)) * k (ix3 0 x (laneOf 1 e))) (g := fun e => 0) rfl fun e _ => by
    rw [pay71_apply, if_neg (by simp [laneOf]), zero_mul]]
  rw [Finset.sum_const_zero, add_zero, coe_sum, EReal.coe_add]

theorem scoreB : k0_pay36 (k0_pay75 k0_pay57 (k0_pay69 Q) k0_pay74) (k0_pay72 C) k g (ix2 r x)
    = (((cr - gr) + ∑ e, qr (laneOf 1 e) * kr (laneOf 1 e) : ℝ) : EReal) := by
  rw [pay36_apply, pay72_apply, hC, hg, sum_lanes, ← EReal.coe_sub]
  rw [Finset.sum_congr (s₁ := Finset.univ) (f := fun e => k0_pay75 k0_pay57 (k0_pay69 Q) k0_pay74 (ix2 r (laneOf 0 e)) * k (ix3 0 x (laneOf 0 e))) (g := fun e => 0) rfl fun e _ => by
    rw [pay75_apply, if_pos (by simp [laneOf]), zero_mul]]
  rw [Finset.sum_const_zero, zero_add]
  rw [Finset.sum_congr (g := fun e => ((qr (laneOf 1 e) * kr (laneOf 1 e) : ℝ) : EReal)) rfl fun e _ => by
    rw [pay75_apply, if_neg (by simp [laneOf]), hQ, hk, EReal.coe_mul]]
  rw [coe_sum, EReal.coe_add]

end finite

end Cert.Proof.Value
end
-- ==== Proof.Value.Reads.lean ====
/-
  What the body's loads read: rows of the blocks, at the row tile's offset or at an earlier key tile's.
-/
module

public import proofs.«01_k».proof.Proof.KernelIdeal.Run
public import Idealize.ShloMosaic.Lib.Pipeline.ValueKit
public import Idealize.ShloMosaic.Lib.WholeRead

@[expose] public section

set_option maxRecDepth 16384

noncomputable section

namespace Cert.Proof.Value

open Cert.KernelIdeal Cert.KernelIdeal.Gen Cert.Proof.KernelIdeal
open Idealize.ShloMosaic Idealize.ShloMosaic.Tactic

/-- The row of a long block that row `x` of its `n`-th tile is. -/
def rowIn (n : Fin 8) (x : Fin 1024) : Fin 8192 := ⟨n.val * 1024 + x.val, by omega⟩

/-- A load of a tile of key or value rows reads those rows. -/
theorem read_rows (M : Memref sig .tc .vmem S1x8192x128 .bf16) (h : M.IsWhole) (X : Vec Ideal S1x8192x128 .bf16)
    (eo : Fin 3 → ℕ) (hb : _) (n : Fin 8) (he : eo = ![0, 1024 * n.val, 0]) (x : Fin 1024) (d : Fin 128) :
    M.view.readAt (Elt Ideal) (Rect.unit (s := S1x8192x128) eo S1x1024x128.size hb).toLoadRect (h.unread X) (ix3 0 x d)
      = X (ix3 0 (rowIn n x) d) := by
  subst he
  rw [h.readAt_unread]
  refine congrArg X (funext fun a => Fin.ext ?_)
  fin_cases a <;> simp [rowIn, Rect.unit, LoadRect.idx, Rect.toLoadRect, Rect.emb] <;> omega

/-- A load of a tile of one head's gate sums reads them. -/
theorem read_gates (M : Memref sig .tc .vmem S1x2x1x8192 .f32) (h : M.IsWhole) (X : Vec Ideal S1x2x1x8192 .f32)
    (eo : Fin 4 → ℕ) (hb : _) (n : Fin 8) (hd : Fin 2) (he : eo = ![0, hd.val, 0, 1024 * n.val]) (x : Fin 1024) :
    M.view.readAt (Elt Ideal) (Rect.unit (s := S1x2x1x8192) eo S1x1x1x1024.size hb).toLoadRect (h.unread X) (ix4 0 0 0 x)
      = X (ix4 0 hd 0 (rowIn n x)) := by
  subst he
  rw [h.readAt_unread]
  refine congrArg X (funext fun a => Fin.ext ?_)
  fin_cases a <;> simp [rowIn, Rect.unit, LoadRect.idx, Rect.toLoadRect, Rect.emb] <;> omega

theorem read_query (M : Memref sig .tc .vmem S1x1024x128 .bf16) (h : M.IsWhole) (X : Vec Ideal S1x1024x128 .bf16)
    (r : Fin 1024) (d : Fin 128) : ldQ M h X (ix3 0 r d) = X (ix3 0 r d) := by
  unfold ldQ
  rw [h.readAt_unread]
  refine congrArg X (funext fun a => Fin.ext ?_)
  fin_cases a <;> simp [Rect.unit, LoadRect.idx, Rect.toLoadRect, Rect.emb]

/-! ## Where the loop over earlier tiles reads -/

theorem trips2_rowPt : ∀ q : Fin 8, (k0_t2_loop (BitVec.ofNat 32 q.val) (BitVec.ofNat 32 q.val)).trips = q.val := by decide +kernel
theorem trips3_rowPt : ∀ q : Fin 8, (k0_t3_loop (BitVec.ofNat 32 q.val) (BitVec.ofNat 32 q.val)).trips = 0 := by decide +kernel
theorem trips4_rowPt : ∀ q : Fin 8, (k0_t4_loop (BitVec.ofNat 32 q.val) (BitVec.ofNat 32 q.val)).trips = 0 := by decide +kernel
theorem trips5_rowPt : ∀ q : Fin 8, (k0_t5_loop (BitVec.ofNat 32 q.val) (BitVec.ofNat 32 q.val)).trips = 0 := by decide +kernel
theorem trips6_rowPt : ∀ q : Fin 8, (k0_t6_loop (BitVec.ofNat 32 q.val) (BitVec.ofNat 32 q.val)).trips = 0 := by decide +kernel
theorem trips7_rowPt : ∀ q : Fin 8, (k0_t7_loop (BitVec.ofNat 32 q.val) (BitVec.ofNat 32 q.val)).trips = 0 := by decide +kernel

theorem off7_rowPt : ∀ q : Fin 8, ∀ t : Fin (k0_t2_loop (BitVec.ofNat 32 q.val) (BitVec.ofNat 32 q.val)).trips,
    k0_off7 (rowPt q) (BitVec.ofNat 32 q.val) (BitVec.ofNat 32 q.val) t = ![0, 1024 * (q.val - 1 - t.val), 0] := by decide +kernel
theorem off8_rowPt : ∀ q : Fin 8, ∀ t : Fin (k0_t2_loop (BitVec.ofNat 32 q.val) (BitVec.ofNat 32 q.val)).trips,
    k0_off8 (rowPt q) (BitVec.ofNat 32 q.val) (BitVec.ofNat 32 q.val) t = ![0, 0, 0, 1024 * (q.val - 1 - t.val)] := by decide +kernel
theorem off9_rowPt : ∀ q : Fin 8, ∀ t : Fin (k0_t2_loop (BitVec.ofNat 32 q.val) (BitVec.ofNat 32 q.val)).trips,
    k0_off9 (rowPt q) (BitVec.ofNat 32 q.val) (BitVec.ofNat 32 q.val) t = ![0, 1, 0, 1024 * (q.val - 1 - t.val)] := by decide +kernel

section offsets

variable (i : grid0.Coords)

/-- The loop both heads share runs once for every tile before the row's. -/
theorem trips2 : (k0_t2_loop (BitVec.ofNat 32 (i 2).val) (BitVec.ofNat 32 (i 2).val)).trips = (i 2).val := trips2_rowPt (i 2)
theorem trips3 : (k0_t3_loop (BitVec.ofNat 32 (i 2).val) (BitVec.ofNat 32 (i 2).val)).trips = 0 := trips3_rowPt (i 2)
theorem trips4 : (k0_t4_loop (BitVec.ofNat 32 (i 2).val) (BitVec.ofNat 32 (i 2).val)).trips = 0 := trips4_rowPt (i 2)
theorem trips5 : (k0_t5_loop (BitVec.ofNat 32 (i 2).val) (BitVec.ofNat 32 (i 2).val)).trips = 0 := trips5_rowPt (i 2)
theorem trips6 : (k0_t6_loop (BitVec.ofNat 32 (i 2).val) (BitVec.ofNat 32 (i 2).val)).trips = 0 := trips6_rowPt (i 2)
theorem trips7 : (k0_t7_loop (BitVec.ofNat 32 (i 2).val) (BitVec.ofNat 32 (i 2).val)).trips = 0 := trips7_rowPt (i 2)

variable (t : Fin (k0_t2_loop (BitVec.ofNat 32 (i 2).val) (BitVec.ofNat 32 (i 2).val)).trips)

/-- Trip `t` of it visits the tile `t + 1` before the row's. -/
theorem off7_eq : k0_off7 i (BitVec.ofNat 32 (i 2).val) (BitVec.ofNat 32 (i 2).val) t = ![0, 1024 * ((i 2).val - 1 - t.val), 0] := off7_rowPt (i 2) t
theorem off8_eq : k0_off8 i (BitVec.ofNat 32 (i 2).val) (BitVec.ofNat 32 (i 2).val) t = ![0, 0, 0, 1024 * ((i 2).val - 1 - t.val)] := off8_rowPt (i 2) t
theorem off9_eq : k0_off9 i (BitVec.ofNat 32 (i 2).val) (BitVec.ofNat 32 (i 2).val) t = ![0, 1, 0, 1024 * ((i 2).val - 1 - t.val)] := off9_rowPt (i 2) t

end offsets

end Cert.Proof.Value
end
-- ==== Proof.Value.Loop.lean ====
/-
  The loop over the tiles before the row's: one trip is one step of the running softmax, for either head.
-/
module

public import proofs.«01_k».proof.Proof.Value.Scores
public import proofs.«01_k».proof.Proof.Value.Reads

@[expose] public section

set_option maxRecDepth 16384

noncomputable section

namespace Cert.Proof.Value

open Cert.KernelIdeal Cert.KernelIdeal.Gen Cert.Proof.KernelIdeal
open Idealize.ShloMosaic Idealize.ShloMosaic.Tactic

variable (c : Dev nD) (i : grid0.Coords)
    (M3 : Memref sig .tc .vmem S1x1024x128 .bf16) (h3 : M3.IsWhole)
    (M4 : Memref sig .tc .vmem S1x8192x128 .bf16) (h4 : M4.IsWhole)
    (M5 : Memref sig .tc .vmem S1x8192x128 .bf16) (h5 : M5.IsWhole)
    (M6 : Memref sig .tc .vmem S1x2x1x8192 .f32) (h6 : M6.IsWhole)
    (M7 : Memref sig .tc .vmem S1x1024x128 .bf16) (h7 : M7.IsWhole)
    (M8 : Memref sig .tc .vmem S2x8x128 .f32) (h8 : M8.IsWhole)
    (M9 : Memref sig .tc .vmem S2x8x128 .f32) (h9 : M9.IsWhole)
    (x3 : Vec Ideal S1x1024x128 .bf16) (x4 x5 : Vec Ideal S1x8192x128 .bf16) (x6 : Vec Ideal S1x2x1x8192 .f32)
    (hw : k0_chk1 i (BitVec.ofNat 32 (i 2).val) (BitVec.ofNat 32 (i 2).val))
    (qa qb : FVec Ideal S1024x128 .bf16) (ca cb : FVec Ideal S1024x1 .f32)

/-- The running state of a head pair: the maximum, the sum and the weighted values of either head. -/
abbrev St := FVec Ideal S1024x1 .f32 × FVec Ideal S1024x1 .f32 × FVec Ideal S1024x128 .f32 × FVec Ideal S1024x1 .f32 × FVec Ideal S1024x1 .f32 × FVec Ideal S1024x128 .f32

/-- What a trip of the loop makes of the running state, from the keys `k`, the values `v` and the two heads' gate sums
    `ga`, `gb` of the tile it visits. -/
def tripOf (k v : Vec Ideal S1x1024x128 .bf16) (ga gb : Vec Ideal S1x1x1x1024 .f32) (acc : St) : St :=
  (k0_pay38 qa ca acc.1 k ga,
   k0_pay1 (k0_pay42 qa ca acc.1 k ga) (k0_pay44 qa ca acc.1 acc.2.1 k ga),
   k0_pay3 acc.2.2.1 (k0_pay35 v) (k0_pay40 qa ca acc.1 k ga) (k0_pay42 qa ca acc.1 k ga),
   k0_pay39 qb cb acc.2.2.2.1 k gb,
   k0_pay2 acc.2.2.2.2.1 (k0_pay41 qb cb acc.2.2.2.1 k gb) (k0_pay43 qb cb acc.2.2.2.1 k gb),
   k0_pay4 acc.2.2.2.2.2 (k0_pay35 v) (k0_pay41 qb cb acc.2.2.2.1 k gb) (k0_pay43 qb cb acc.2.2.2.1 k gb))

/-- The loop's state before trip `t`. -/
abbrev stAt (init : St) (t : ℕ) : St :=
  st_k0_t2 𝒱₀ c none i M3 h3 M4 h4 M5 h5 M6 h6 M7 h7 M8 h8 M9 h9 (BitVec.ofNat 32 (i 2).val) qa ca qb cb
      (BitVec.ofNat 32 (i 2).val) (BitVec.ofNat 32 (i 2).val) hw 0#32 (h4.unread x4) (h5.unread x5) (h6.unread x6) init t

theorem stAt_succ (init : St) (t : Fin (k0_t2_loop (BitVec.ofNat 32 (i 2).val) (BitVec.ofNat 32 (i 2).val)).trips) :
    stAt c i M3 h3 M4 h4 M5 h5 M6 h6 M7 h7 M8 h8 M9 h9 x4 x5 x6 hw qa qb ca cb init (t.val + 1)
    = tripOf qa qb ca cb
        (M4.view.readAt (Elt Ideal) (Rect.unit (s := S1x8192x128) (k0_off7 i _ _ t) S1x1024x128.size (k0_off7_inb i _ _ hw t)).toLoadRect (h4.unread x4))
        (M5.view.readAt (Elt Ideal) (Rect.unit (s := S1x8192x128) (k0_off7 i _ _ t) S1x1024x128.size (k0_off7_inb i _ _ hw t)).toLoadRect (h5.unread x5))
        (M6.view.readAt (Elt Ideal) (Rect.unit (s := S1x2x1x8192) (k0_off8 i _ _ t) S1x1x1x1024.size (k0_off8_inb i _ _ hw t)).toLoadRect (h6.unread x6))
        (M6.view.readAt (Elt Ideal) (Rect.unit (s := S1x2x1x8192) (k0_off9 i _ _ t) S1x1x1x1024.size (k0_off9_inb i _ _ hw t)).toLoadRect (h6.unread x6))
        (stAt c i M3 h3 M4 h4 M5 h5 M6 h6 M7 h7 M8 h8 M9 h9 x4 x5 x6 hw qa qb ca cb init t.val) := by
  unfold stAt
  rw [st_k0_t2_succ]
  unfold tripR_k0_t2 trip_k0_t2 tripOf
  rfl

/-- The tile trip `t` visits. -/
def tile (t : ℕ) : Fin 8 := ⟨(i 2).val - 1 - t, by have : (i 2).val < 8 := (i 2).isLt; omega⟩

section values

variable (qr : Fin 1024 → Fin 128 → ℝ) (kr : Fin 8192 → Fin 128 → ℝ) (gr : Fin 2 → Fin 8192 → ℝ)

/-- A row's score with a key, for either head of the pair, in bits. -/
def score (h : Fin 2) (r : Fin 1024) (j : Fin 8192) : ℝ :=
  (gr h (rowIn (i 2) r) - gr h j) + ∑ e, qr r (laneOf h e) * kr j (laneOf h e)

/-- The sum of a tile's unnormalized weights. -/
def tileSum (h : Fin 2) (r : Fin 1024) (n : Fin 8) : ℝ := ∑ x, two (score i qr kr gr h r (rowIn n x))
/-- The sum of a tile's values, so weighted. -/
def tileMix (h : Fin 2) (r : Fin 1024) (n : Fin 8) (d : Fin 128) : EReal :=
  ∑ x, (two (score i qr kr gr h r (rowIn n x)) : EReal) * x5 (ix3 0 (rowIn n x) d)

/-- A head's running state is that of a softmax whose weights so far sum to `L` and whose weighted values to `A`. -/
abbrev InvA (L : Fin 1024 → ℝ) (A : Fin 1024 → Fin 128 → EReal) (s : St) (r : Fin 1024) : Prop :=
  Inv (L r) (A r) (s.1 (ix2 r 0)) (s.2.1 (ix2 r 0)) fun d => s.2.2.1 (ix2 r d)
/-- The same for the second head. -/
abbrev InvB (L : Fin 1024 → ℝ) (A : Fin 1024 → Fin 128 → EReal) (s : St) (r : Fin 1024) : Prop :=
  Inv (L r) (A r) (s.2.2.2.1 (ix2 r 0)) (s.2.2.2.2.1 (ix2 r 0)) fun d => s.2.2.2.2.2 (ix2 r d)

variable (Q : Vec Ideal S1x1024x128 .bf16) (CA CB : Vec Ideal S1x1x1x1024 .f32)
    (hQ : ∀ r d, Q (ix3 0 r d) = (qr r d : EReal))
    (hCA : ∀ r, CA (ix4 0 0 0 r) = (gr 0 (rowIn (i 2) r) : EReal))
    (hCB : ∀ r, CB (ix4 0 0 0 r) = (gr 1 (rowIn (i 2) r) : EReal))
    (hK : ∀ j d, x4 (ix3 0 j d) = (kr j d : EReal))
    (hG : ∀ h j, x6 (ix4 0 h 0 j) = (gr h j : EReal))

include hQ hCA hCB hK hG

/-- A trip adds its tile to either head's softmax. -/
theorem trip_inv (n : Fin 8) (k v : Vec Ideal S1x1024x128 .bf16) (ga gb : Vec Ideal S1x1x1x1024 .f32)
    (hk : ∀ x d, k (ix3 0 x d) = x4 (ix3 0 (rowIn n x) d)) (hv : ∀ x d, v (ix3 0 x d) = x5 (ix3 0 (rowIn n x) d))
    (hga : ∀ x, ga (ix4 0 0 0 x) = x6 (ix4 0 0 0 (rowIn n x))) (hgb : ∀ x, gb (ix4 0 0 0 x) = x6 (ix4 0 1 0 (rowIn n x)))
    (s : St) (LA LB : Fin 1024 → ℝ) (AA AB : Fin 1024 → Fin 128 → EReal) (r : Fin 1024)
    (hA : InvA LA AA s r) (hB : InvB LB AB s r) :
    InvA (fun r => LA r + tileSum i qr kr gr 0 r n) (fun r d => AA r d + tileMix i x5 qr kr gr 0 r n d)
        (tripOf (k0_pay71 Q) (k0_pay75 k0_pay57 (k0_pay69 Q) k0_pay74) (k0_pay72 CA) (k0_pay76 CB) k v ga gb s) r
      ∧ InvB (fun r => LB r + tileSum i qr kr gr 1 r n) (fun r d => AB r d + tileMix i x5 qr kr gr 1 r n d)
        (tripOf (k0_pay71 Q) (k0_pay75 k0_pay57 (k0_pay69 Q) k0_pay74) (k0_pay72 CA) (k0_pay76 CB) k v ga gb s) r := by
  have sA : ∀ x, Scored (k0_pay36 (k0_pay71 Q) (k0_pay72 CA) k ga (ix2 r x)) (two (score i qr kr gr 0 r (rowIn n x))) := fun x =>
    .inl ⟨_, scoreA Q k CA ga r x (qr r) (kr (rowIn n x)) _ _ (hQ r) (fun d => (hk x d).trans (hK _ d)) (hCA r) ((hga x).trans (hG _ _)), rfl⟩
  have sB : ∀ x, Scored (k0_pay36 (k0_pay75 k0_pay57 (k0_pay69 Q) k0_pay74) (k0_pay76 CB) k gb (ix2 r x)) (two (score i qr kr gr 1 r (rowIn n x))) := fun x =>
    .inl ⟨_, scoreB Q k CB gb r x (qr r) (kr (rowIn n x)) _ _ (hQ r) (fun d => (hk x d).trans (hK _ d)) (hCB r) ((hgb x).trans (hG _ _)), rfl⟩
  have a := stepA (k0_pay71 Q) (k0_pay72 CA) s.1 s.2.1 s.2.2.1 k v ga r hA _ sA
  have b := stepB (k0_pay75 k0_pay57 (k0_pay69 Q) k0_pay74) (k0_pay76 CB) s.2.2.2.1 s.2.2.2.2.1 s.2.2.2.2.2 k v gb r hB _ sB
  simp only [hv] at a b
  exact ⟨a, b⟩

/-- After `t` trips either head's softmax covers the diagonal tile's part of it and the `t` tiles before. -/
theorem loop_inv (init : St) (LA LB : Fin 1024 → ℝ) (AA AB : Fin 1024 → Fin 128 → EReal) (r : Fin 1024)
    (hA : InvA LA AA init r) (hB : InvB LB AB init r) (t : ℕ)
    (ht : t ≤ (k0_t2_loop (BitVec.ofNat 32 (i 2).val) (BitVec.ofNat 32 (i 2).val)).trips) :
    let s := stAt c i M3 h3 M4 h4 M5 h5 M6 h6 M7 h7 M8 h8 M9 h9 x4 x5 x6 hw (k0_pay71 Q) (k0_pay75 k0_pay57 (k0_pay69 Q) k0_pay74) (k0_pay72 CA) (k0_pay76 CB) init t
    InvA (fun r => LA r + ∑ n ∈ Finset.range t, tileSum i qr kr gr 0 r (tile i n))
        (fun r d => AA r d + ∑ n ∈ Finset.range t, tileMix i x5 qr kr gr 0 r (tile i n) d) s r
      ∧ InvB (fun r => LB r + ∑ n ∈ Finset.range t, tileSum i qr kr gr 1 r (tile i n))
        (fun r d => AB r d + ∑ n ∈ Finset.range t, tileMix i x5 qr kr gr 1 r (tile i n) d) s r := by
  induction t with
  | zero => simpa using ⟨hA, hB⟩
  | succ t ih =>
    have h := ih (by omega)
    have e := stAt_succ c i M3 h3 M4 h4 M5 h5 M6 h6 M7 h7 M8 h8 M9 h9 x4 x5 x6 hw (k0_pay71 Q) (k0_pay75 k0_pay57 (k0_pay69 Q) k0_pay74)
      (k0_pay72 CA) (k0_pay76 CB) init ⟨t, by omega⟩
    have o7 := off7_eq i ⟨t, by omega⟩
    have o8 := off8_eq i ⟨t, by omega⟩
    have o9 := off9_eq i ⟨t, by omega⟩
    dsimp only at h e ⊢
    rw [e]
    have := trip_inv i x4 x5 x6 qr kr gr Q CA CB hQ hCA hCB hK hG (tile i t) _ _ _ _
      (fun x d => read_rows M4 h4 x4 _ (k0_off7_inb i _ _ hw ⟨t, by omega⟩) (tile i t) o7 x d)
      (fun x d => read_rows M5 h5 x5 _ (k0_off7_inb i _ _ hw ⟨t, by omega⟩) (tile i t) o7 x d)
      (fun x => read_gates M6 h6 x6 _ (k0_off8_inb i _ _ hw ⟨t, by omega⟩) (tile i t) 0 o8 x)
      (fun x => read_gates M6 h6 x6 _ (k0_off9_inb i _ _ hw ⟨t, by omega⟩) (tile i t) 1 o9 x)
      _ _ _ _ _ r h.1 h.2
    simp only [Finset.sum_range_succ, ← add_assoc]
    exact this

end values

end Cert.Proof.Value
end
-- ==== Proof.Value.Point.lean ====
/-
  The block a grid point writes: softmax attention of its rows over all keys, the masked ones at weight zero.
-/
module

public import proofs.«01_k».proof.Proof.Value.Loop

@[expose] public section

set_option maxRecDepth 16384

noncomputable section

namespace Cert.Proof.Value

open Cert.KernelIdeal Cert.KernelIdeal.Gen Cert.Proof.KernelIdeal
open Idealize.ShloMosaic Idealize.ShloMosaic.Tactic

/-- A sum over all rows is the sum over the eight tiles of the sums over each. -/
theorem sum_tiles {M : Type} [AddCommMonoid M] (F : Fin 8192 → M) : ∑ j, F j = ∑ n : Fin 8, ∑ x, F (rowIn n x) := by
  rw [← Fintype.sum_prod_type' fun (n : Fin 8) (x : Fin 1024) => F (rowIn n x)]
  refine (Fintype.sum_equiv (finProdFinEquiv (m := 8) (n := 1024)) (fun p => F (rowIn p.1 p.2)) F fun p => congrArg F (Fin.ext ?_)).symm
  simp only [rowIn, finProdFinEquiv_apply_val]; omega

/-- The first tiles' part of a sum over eight, the last of them counted apart and the others from the last down. -/
theorem sum_upto {M : Type} [AddCommMonoid M] (q : Fin 8) (T : Fin 8 → M) (h0 : ∀ n, q < n → T n = 0) :
    ∑ n, T n = T q + ∑ s ∈ Finset.range q.val, T ⟨q.val - 1 - s, by omega⟩ := by
  have e : ∀ n : Fin 8, T n = (fun k : ℕ => T (Fin.ofNat 8 k)) n.val := fun n => congrArg T (Fin.ext (Nat.mod_eq_of_lt n.isLt).symm)
  rw [Finset.sum_congr rfl fun n _ => e n, Fin.sum_univ_eq_sum_range (fun k : ℕ => T (Fin.ofNat 8 k)) 8,
    ← Finset.sum_subset (Finset.range_subset_range.mpr (show q.val + 1 ≤ 8 by omega)) fun k hk hk' => ?_, Finset.sum_range_succ, add_comm,
    ← Finset.sum_range_reflect (fun k : ℕ => T (Fin.ofNat 8 k)) q.val]
  · refine congrArg₂ _ (e q).symm (Finset.sum_congr rfl fun s hs => congrArg T (Fin.ext ?_))
    have := Finset.mem_range.mp hs
    exact Nat.mod_eq_of_lt (by omega)
  · have h8 := Finset.mem_range.mp hk
    have hq : q.val + 1 ≤ k := by simpa using hk'
    refine h0 _ (Fin.lt_def.mpr ?_)
    rw [show (Fin.ofNat 8 k).val = k from Nat.mod_eq_of_lt h8]; omega

variable (c : Dev nD) (i : grid0.Coords)
    (M3 : Memref sig .tc .vmem S1x1024x128 .bf16) (h3 : M3.IsWhole)
    (M4 : Memref sig .tc .vmem S1x8192x128 .bf16) (h4 : M4.IsWhole)
    (M5 : Memref sig .tc .vmem S1x8192x128 .bf16) (h5 : M5.IsWhole)
    (M6 : Memref sig .tc .vmem S1x2x1x8192 .f32) (h6 : M6.IsWhole)
    (M7 : Memref sig .tc .vmem S1x1024x128 .bf16) (h7 : M7.IsWhole)
    (M8 : Memref sig .tc .vmem S2x8x128 .f32) (h8 : M8.IsWhole)
    (M9 : Memref sig .tc .vmem S2x8x128 .f32) (h9 : M9.IsWhole)
    (x3 : Vec Ideal S1x1024x128 .bf16) (x4 x5 : Vec Ideal S1x8192x128 .bf16) (x6 : Vec Ideal S1x2x1x8192 .f32)
    (hw : k0_chk1 i (BitVec.ofNat 32 (i 2).val) (BitVec.ofNat 32 (i 2).val))

/-- The state both heads reach together, none of the other loops running. -/
abbrev ended : St :=
  stAt c i M3 h3 M4 h4 M5 h5 M6 h6 M7 h7 M8 h8 M9 h9 x4 x5 x6 hw (k0_pay71 (ldQ M3 h3 x3)) (k0_pay75 k0_pay57 (k0_pay69 (ldQ M3 h3 x3)) k0_pay74)
    (k0_pay72 (ldCA i M6 h6 x6)) (k0_pay76 (ldCB i M6 h6 x6))
    (diag (ldQ M3 h3 x3) (ldCA i M6 h6 x6) (ldCB i M6 h6 x6) (ldK i M4 h4 x4) (ldK i M5 h5 x5))
    (k0_t2_loop (BitVec.ofNat 32 (i 2).val) (BitVec.ofNat 32 (i 2).val)).trips

theorem both_eq : both c i M3 h3 M4 h4 M5 h5 M6 h6 M7 h7 M8 h8 M9 h9 x3 x4 x5 x6 _ _ hw = ended c i M3 h3 M4 h4 M5 h5 M6 h6 M7 h7 M8 h8 M9 h9 x3 x4 x5 x6 hw := by
  unfold both
  rw [trips3]
  rfl

theorem out_eq : outOf c i M3 h3 M4 h4 M5 h5 M6 h6 M7 h7 M8 h8 M9 h9 x3 x4 x5 x6 _ _ hw
    = let s := ended c i M3 h3 M4 h4 M5 h5 M6 h6 M7 h7 M8 h8 M9 h9 x3 x4 x5 x6 hw
      k0_pay33 k0_pay56 s.2.1 s.2.2.1 s.2.2.2.2.1 s.2.2.2.2.2 := by
  unfold outOf headA headB
  rw [trips4, trips5, both_eq]
  rfl

theorem pay33_apply (l : FVec Ideal S1024x1 .f32) (a : FVec Ideal S1024x128 .f32) (l' : FVec Ideal S1024x1 .f32) (a' : FVec Ideal S1024x128 .f32)
    (r : Fin 1024) (d : Fin 128) :
    k0_pay33 k0_pay56 l a l' a' (ix3 0 r d)
      = if d.val < 64 then a (ix2 r d) * Ideal.div 1 (l (ix2 r 0)) else a' (ix2 r d) * Ideal.div 1 (l' (ix2 r 0)) := by
  unfold k0_pay33 k0_pay56
  pointwise
  rw [slt_words _ _ (by omega) (by omega), select_ite]

section values

variable (qr : Fin 1024 → Fin 128 → ℝ) (kr : Fin 8192 → Fin 128 → ℝ) (gr : Fin 2 → Fin 8192 → ℝ)

/-- A key's unnormalized weight at a row: zero after the row. -/
def wt (h : Fin 2) (r : Fin 1024) (j : Fin 8192) : ℝ :=
  if j.val ≤ (rowIn (i 2) r).val then two (score i qr kr gr h r j) else 0

theorem wt_below (h : Fin 2) (r x : Fin 1024) (n : Fin 8) (hn : n.val < (i 2).val) :
    wt i qr kr gr h r (rowIn n x) = two (score i qr kr gr h r (rowIn n x)) := if_pos (by simp only [rowIn]; omega)
theorem wt_above (h : Fin 2) (r x : Fin 1024) (n : Fin 8) (hn : (i 2).val < n.val) : wt i qr kr gr h r (rowIn n x) = 0 :=
  if_neg (by simp only [rowIn]; omega)
theorem wt_diag (h : Fin 2) (r x : Fin 1024) :
    wt i qr kr gr h r (rowIn (i 2) x) = if x.val ≤ r.val then two (score i qr kr gr h r (rowIn (i 2) x)) else 0 := by
  unfold wt
  refine if_congr ?_ rfl rfl
  simp only [rowIn]; omega

theorem sum_wt (h : Fin 2) (r : Fin 1024) :
    ∑ j, wt i qr kr gr h r j = (∑ x, wt i qr kr gr h r (rowIn (i 2) x)) + ∑ s ∈ Finset.range (i 2).val, tileSum i qr kr gr h r (tile i s) := by
  rw [sum_tiles, sum_upto (i 2) (fun n => ∑ x, wt i qr kr gr h r (rowIn n x)) fun n hn => Finset.sum_eq_zero fun x _ => wt_above i qr kr gr h r x n hn]
  refine congrArg₂ _ rfl (Finset.sum_congr rfl fun s hs => Finset.sum_congr rfl fun x _ => wt_below i qr kr gr h r x _ ?_)
  have := Finset.mem_range.mp hs
  show (i 2).val - 1 - s < _
  omega

theorem mix_wt (h : Fin 2) (r : Fin 1024) (d : Fin 128) :
    ∑ j, (wt i qr kr gr h r j : EReal) * x5 (ix3 0 j d)
      = (∑ x, (wt i qr kr gr h r (rowIn (i 2) x) : EReal) * x5 (ix3 0 (rowIn (i 2) x) d))
        + ∑ s ∈ Finset.range (i 2).val, tileMix i x5 qr kr gr h r (tile i s) d := by
  rw [sum_tiles, sum_upto (i 2) (fun n => ∑ x, (wt i qr kr gr h r (rowIn n x) : EReal) * x5 (ix3 0 (rowIn n x) d)) fun n hn =>
    Finset.sum_eq_zero fun x _ => by rw [wt_above i qr kr gr h r x n hn, EReal.coe_zero, zero_mul]]
  refine congrArg₂ _ rfl (Finset.sum_congr rfl fun s hs => Finset.sum_congr rfl fun x _ => ?_)
  have := Finset.mem_range.mp hs
  exact congrArg (fun w : ℝ => (w : EReal) * x5 (ix3 0 (rowIn (tile i s) x) d)) (wt_below i qr kr gr h r x _ (show (i 2).val - 1 - s < _ by omega))

/-- A row's weights sum to a positive number: its own key's is positive. -/
theorem sum_wt_pos (h : Fin 2) (r : Fin 1024) : 0 < ∑ j, wt i qr kr gr h r j := by
  refine Finset.sum_pos' (fun j _ => ?_) ⟨rowIn (i 2) r, Finset.mem_univ _, ?_⟩
  · unfold wt; split
    · exact (two_pos _).le
    · exact le_rfl
  · rw [wt_diag, if_pos le_rfl]; exact two_pos _

variable (hQ : ∀ r d, x3 (ix3 0 r d) = (qr r d : EReal)) (hK : ∀ j d, x4 (ix3 0 j d) = (kr j d : EReal))
    (hG : ∀ h j, x6 (ix4 0 h 0 j) = (gr h j : EReal))

include hQ hK hG

/-- The diagonal tile's part of either head's softmax. -/
theorem diag_inv (r : Fin 1024) :
    let s : St := diag (ldQ M3 h3 x3) (ldCA i M6 h6 x6) (ldCB i M6 h6 x6) (ldK i M4 h4 x4) (ldK i M5 h5 x5)
    InvA (fun r => ∑ x, wt i qr kr gr 0 r (rowIn (i 2) x)) (fun r d => ∑ x, (wt i qr kr gr 0 r (rowIn (i 2) x) : EReal) * x5 (ix3 0 (rowIn (i 2) x) d)) s r
      ∧ InvB (fun r => ∑ x, wt i qr kr gr 1 r (rowIn (i 2) x)) (fun r d => ∑ x, (wt i qr kr gr 1 r (rowIn (i 2) x) : EReal) * x5 (ix3 0 (rowIn (i 2) x) d)) s r := by
  have lQ : ∀ r d, ldQ M3 h3 x3 (ix3 0 r d) = (qr r d : EReal) := fun r d => (read_query M3 h3 x3 r d).trans (hQ r d)
  have lK : ∀ x d, ldK i M4 h4 x4 (ix3 0 x d) = (kr (rowIn (i 2) x) d : EReal) := fun x d => (read_rows M4 h4 x4 _ _ (i 2) (k0_off6_eq i) x d).trans (hK _ d)
  have lV : ∀ x d, ldK i M5 h5 x5 (ix3 0 x d) = x5 (ix3 0 (rowIn (i 2) x) d) := fun x d => read_rows M5 h5 x5 _ _ (i 2) (k0_off6_eq i) x d
  have lA : ∀ x, ldCA i M6 h6 x6 (ix4 0 0 0 x) = (gr 0 (rowIn (i 2) x) : EReal) := fun x => (read_gates M6 h6 x6 _ _ (i 2) 0 (k0_off4_eq i) x).trans (hG _ _)
  have lB : ∀ x, ldCB i M6 h6 x6 (ix4 0 0 0 x) = (gr 1 (rowIn (i 2) x) : EReal) := fun x => (read_gates M6 h6 x6 _ _ (i 2) 1 (k0_off5_eq i) x).trans (hG _ _)
  have a := diagA (k0_pay71 (ldQ M3 h3 x3)) (k0_pay81 (ldK i M4 h4 x4)) (ldK i M5 h5 x5) (k0_pay83 (k0_pay72 (ldCA i M6 h6 x6)) (ldCA i M6 h6 x6)) r
    (fun x => wt i qr kr gr 0 r (rowIn (i 2) x)) fun x => by
      rw [pay84_apply, wt_diag]
      by_cases hx : x.val ≤ r.val
      · rw [if_pos hx, if_pos hx]
        exact .inl ⟨_, scoreA _ _ _ _ r x (qr r) (kr (rowIn (i 2) x)) _ _ (lQ r) (lK x) (lA r) (lA x), rfl⟩
      · rw [if_neg hx, if_neg hx]; exact .inr ⟨rfl, rfl⟩
  have b := diagA (k0_pay75 k0_pay57 (k0_pay69 (ldQ M3 h3 x3)) k0_pay74) (k0_pay81 (ldK i M4 h4 x4)) (ldK i M5 h5 x5)
    (k0_pay83 (k0_pay76 (ldCB i M6 h6 x6)) (ldCB i M6 h6 x6)) r
    (fun x => wt i qr kr gr 1 r (rowIn (i 2) x)) fun x => by
      rw [pay84_apply, wt_diag]
      by_cases hx : x.val ≤ r.val
      · rw [if_pos hx, if_pos hx]
        exact .inl ⟨_, scoreB _ _ _ _ r x (qr r) (kr (rowIn (i 2) x)) _ _ (lQ r) (lK x) (lB r) (lB x), rfl⟩
      · rw [if_neg hx, if_neg hx]; exact .inr ⟨rfl, rfl⟩
  simp only [lV] at a b
  exact ⟨a, b⟩

/-- The block a point writes, at a row and a lane of either head. -/
theorem out_apply (r : Fin 1024) (h : Fin 2) (d : Fin 64) :
    outOf c i M3 h3 M4 h4 M5 h5 M6 h6 M7 h7 M8 h8 M9 h9 x3 x4 x5 x6 _ _ hw (ix3 0 r (laneOf h d))
      = (((∑ j, wt i qr kr gr h r j)⁻¹ : ℝ) : EReal) * ∑ j, (wt i qr kr gr h r j : EReal) * x5 (ix3 0 j (laneOf h d)) := by
  have hd := diag_inv i M3 h3 M4 h4 M5 h5 M6 h6 x3 x4 x5 x6 qr kr gr hQ hK hG r
  have hl := loop_inv c i M3 h3 M4 h4 M5 h5 M6 h6 M7 h7 M8 h8 M9 h9 x4 x5 x6 hw qr kr gr (ldQ M3 h3 x3) (ldCA i M6 h6 x6) (ldCB i M6 h6 x6)
    (fun r d => (read_query M3 h3 x3 r d).trans (hQ r d))
    (fun x => (read_gates M6 h6 x6 _ _ (i 2) 0 (k0_off4_eq i) x).trans (hG _ _))
    (fun x => (read_gates M6 h6 x6 _ _ (i 2) 1 (k0_off5_eq i) x).trans (hG _ _)) hK hG _ _ _ _ _ r hd.1 hd.2 _ le_rfl
  have ht := trips2 i
  simp only [ht, ← sum_wt, ← mix_wt] at hl
  rw [out_eq]
  dsimp only
  rw [pay33_apply]
  simp only [ended, ht]
  match h with
  | ⟨0, _⟩ =>
    rw [if_pos (by simp [laneOf])]
    exact hl.1.finish (sum_wt_pos i qr kr gr 0 r) (laneOf 0 d)
  | ⟨1, _⟩ =>
    rw [if_neg (by simp [laneOf])]
    exact hl.2.finish (sum_wt_pos i qr kr gr 1 r) (laneOf 1 d)

end values

end Cert.Proof.Value
end
-- ==== Proof.Value.Attn.lean ====
/-
  Causal attention with forgetting, over the reals: what the kernel and the reference are both shown to compute.
-/
module

public import proofs.«01_k».proof.Proof.Value.Online

@[expose] public section

noncomputable section

namespace Cert.Proof.Value

/-- The lane of a row that lane `e` of head `h` is. -/
def lane (h : Fin 8) (e : Fin 64) : Fin 512 := ⟨h.val * 64 + e.val, by omega⟩

/-- The head a lane belongs to. -/
def headOf (l : Fin 512) : Fin 8 := ⟨l.val / 64, by omega⟩
/-- A lane's place in its head. -/
def placeOf (l : Fin 512) : Fin 64 := ⟨l.val % 64, Nat.mod_lt _ (by decide)⟩

theorem lane_of (l : Fin 512) : lane (headOf l) (placeOf l) = l := Fin.ext (by simp only [lane, headOf, placeOf]; omega)

variable (Q K : Fin 2 → Fin 8192 → Fin 512 → ℝ) (G : Fin 2 → Fin 8 → Fin 8192 → ℝ) (V : Fin 2 → Fin 8192 → Fin 512 → EReal)

/-- The score, in bits, of query `i` with key `j`: their product over the head's lanes, and the log gates between them. -/
def gscore (b : Fin 2) (h : Fin 8) (i j : Fin 8192) : ℝ := (G b h i - G b h j) + ∑ e, Q b i (lane h e) * K b j (lane h e)

/-- A key's unnormalized weight: zero when it comes after the query. -/
def gwt (b : Fin 2) (h : Fin 8) (i j : Fin 8192) : ℝ := if j.val ≤ i.val then two (gscore Q K G b h i j) else 0

/-- The attention: the values weighted, over the sum of the weights. -/
def attn (b : Fin 2) (i : Fin 8192) (h : Fin 8) (d : Fin 64) : EReal :=
  (((∑ j, gwt Q K G b h i j)⁻¹ : ℝ) : EReal) * ∑ j, (gwt Q K G b h i j : EReal) * V b j (lane h d)

/-- A query's weights sum to a positive number: its own key's is positive. -/
theorem sum_gwt_pos (b : Fin 2) (h : Fin 8) (i : Fin 8192) : 0 < ∑ j, gwt Q K G b h i j := by
  refine Finset.sum_pos' (fun j _ => ?_) ⟨i, Finset.mem_univ _, ?_⟩
  · unfold gwt; split
    · exact (two_pos _).le
    · exact le_rfl
  · unfold gwt; rw [if_pos le_rfl]; exact two_pos _

end Cert.Proof.Value
end
-- ==== Proof.Value.Array.lean ====
/-
  The array the kernel's run leaves: the attention of its arguments.
-/
module

public import proofs.«01_k».proof.Proof.Value.Point
public import proofs.«01_k».proof.Proof.Value.Attn

@[expose] public section

set_option maxRecDepth 16384

noncomputable section

namespace Cert.Proof.Value

open Cert.KernelIdeal Cert.KernelIdeal.Gen Cert.Proof.KernelIdeal
open Idealize.ShloMosaic Idealize.ShloMosaic.TcCoe Idealize.ShloMosaic.Tactic

variable (m : (ℓ : Loc nD τ sig) → Buf (Elt Ideal) ℓ) (c : Dev nD) (t : Fin cfg0.N)

theorem idx0 : ∀ t : Fin cfg0.N, win0_0.index t = ![(grid0.coords t 0).val, (grid0.coords t 2).val, (grid0.coords t 1).val] := by decide +kernel
theorem idx1 : ∀ t : Fin cfg0.N, win0_1.index t = ![(grid0.coords t 0).val, 0, (grid0.coords t 1).val] := by decide +kernel
theorem idx2 : ∀ t : Fin cfg0.N, win0_2.index t = ![(grid0.coords t 0).val, 0, (grid0.coords t 1).val] := by decide +kernel
theorem idx3 : ∀ t : Fin cfg0.N, win0_3.index t = ![(grid0.coords t 0).val, (grid0.coords t 1).val, 0, 0] := by decide +kernel
theorem idx4 : ∀ t : Fin cfg0.N, win0_4.index t = ![(grid0.coords t 0).val, (grid0.coords t 2).val, (grid0.coords t 1).val] := by decide +kernel

/-- The batch of a point. -/
abbrev bOf : Fin 2 := grid0.coords t 0
/-- The head pair of a point. -/
abbrev pOf : Fin 4 := grid0.coords t 1
/-- The row tile of a point. -/
abbrev qOf : Fin 8 := grid0.coords t 2

/-- The lane of a row that lane `d` of a pair's block is. -/
def pairLane (p : Fin 4) (d : Fin 128) : Fin 512 := ⟨p.val * 128 + d.val, by omega⟩
/-- The head that the first or the second of a pair is. -/
def pairHead (p : Fin 4) (h : Fin 2) : Fin 8 := ⟨p.val * 2 + h.val, by omega⟩

theorem pairLane_laneOf (p : Fin 4) (h : Fin 2) (e : Fin 64) : pairLane p (laneOf h e) = lane (pairHead p h) e :=
  Fin.ext (by simp only [pairLane, laneOf, lane, pairHead]; omega)

theorem blk0 (r : Fin 1024) (d : Fin 128) : iblk m c 0 t (ix3 0 r d) = m ((c.tc : Thread nD τ).loc main_arg0) (ix3 (bOf t) (rowIn (qOf t) r) (pairLane (pOf t) d)) := by
  blk_ext [iblk, V, idx0 t, rowIn, pairLane, pairHead]
  rfl

theorem blk1 (r : Fin 8192) (d : Fin 128) : iblk m c 1 t (ix3 0 r d) = m ((c.tc : Thread nD τ).loc main_arg1) (ix3 (bOf t) r (pairLane (pOf t) d)) := by
  blk_ext [iblk, V, idx1 t, rowIn, pairLane, pairHead]
  rfl

theorem blk2 (r : Fin 8192) (d : Fin 128) : iblk m c 2 t (ix3 0 r d) = m ((c.tc : Thread nD τ).loc main_arg2) (ix3 (bOf t) r (pairLane (pOf t) d)) := by
  blk_ext [iblk, V, idx2 t, rowIn, pairLane, pairHead]
  rfl

theorem blk3 (h : Fin 2) (j : Fin 8192) : iblk m c 3 t (ix4 0 h 0 j) = m ((c.tc : Thread nD τ).loc main_arg3) (ix4 (bOf t) (pairHead (pOf t) h) 0 j) := by
  blk_ext [iblk, V, idx3 t, rowIn, pairLane, pairHead]
  rfl

theorem emb4 (r : Fin 1024) (d : Fin 128) : (win0_4.blk t).view.emb (ix3 0 r d) = ix3 (bOf t) (rowIn (qOf t) r) (pairLane (pOf t) d) := by
  blk_ext [idx4 t, rowIn, pairLane]
  rfl

/-- The attention as the array of the results. -/
def attnArr (Q K : Fin 2 → Fin 8192 → Fin 512 → ℝ) (G : Fin 2 → Fin 8 → Fin 8192 → ℝ) : Vec Ideal S2x8192x512 .bf16 := fun j =>
  attn Q K G (fun b i l => m ((c.tc : Thread nD τ).loc main_arg2) (ix3 b i l)) (j 0) (j 1) (headOf (j 2)) (placeOf (j 2))

variable (Q K : Fin 2 → Fin 8192 → Fin 512 → ℝ) (G : Fin 2 → Fin 8 → Fin 8192 → ℝ)
    (hq : ∀ b i l, m ((c.tc : Thread nD τ).loc main_arg0) (ix3 b i l) = (Q b i l : EReal))
    (hk : ∀ b i l, m ((c.tc : Thread nD τ).loc main_arg1) (ix3 b i l) = (K b i l : EReal))
    (hg : ∀ b h i, m ((c.tc : Thread nD τ).loc main_arg3) (ix4 b h 0 i) = (G b h i : EReal))

include hq hk hg

/-- The block a point writes is the attention of its rows, for its head pair. -/
theorem outAt_apply (r : Fin 1024) (h : Fin 2) (d : Fin 64) :
    outAt m c t (ix3 0 r (laneOf h d))
      = attn Q K G (fun b i l => m ((c.tc : Thread nD τ).loc main_arg2) (ix3 b i l)) (bOf t) (rowIn (qOf t) r) (pairHead (pOf t) h) d := by
  have e := out_apply c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4))
    (Memref.whole cc0_scratch0) (Memref.isWhole_whole _) (Memref.whole cc0_scratch1) (Memref.isWhole_whole _)
    (iblk m c 0 t) (iblk m c 1 t) (iblk m c 2 t) (iblk m c 3 t) (chk_of_le (grid0.coords t) _ _ le_rfl le_rfl)
    (fun r d => Q (bOf t) (rowIn (qOf t) r) (pairLane (pOf t) d)) (fun j d => K (bOf t) j (pairLane (pOf t) d)) (fun h j => G (bOf t) (pairHead (pOf t) h) j)
    (fun r d => (blk0 m c t r d).trans (hq _ _ _)) (fun j d => (blk1 m c t j d).trans (hk _ _ _)) (fun h j => (blk3 m c t h j).trans (hg _ _ _)) r h d
  refine e.trans ?_
  have hw : ∀ j, wt (grid0.coords t) (fun r d => Q (bOf t) (rowIn (qOf t) r) (pairLane (pOf t) d)) (fun j d => K (bOf t) j (pairLane (pOf t) d))
      (fun h j => G (bOf t) (pairHead (pOf t) h) j) h r j = gwt Q K G (bOf t) (pairHead (pOf t) h) (rowIn (qOf t) r) j := fun j => by
    unfold wt score gwt gscore
    simp only [pairLane_laneOf]
  simp only [hw]
  unfold attn
  refine congrArg _ (Finset.sum_congr rfl fun j _ => congrArg _ ?_)
  rw [← pairLane_laneOf]
  exact blk2 m c t j (laneOf h d)

/-- The array the run leaves is the attention of the arguments. -/
theorem arr_eq : (dats m 0 c).arrAt 4 cfg0.N = attnArr m c Q K G := by
  refine (dats m 0 c).arrAt_eq_of_covers 4 _ (by decide +kernel) fun t hf y => ?_
  blk_simp
  rw [after0_4]
  have hr : (y 1).val < 1024 := (y 1).isLt
  have hd : (y 2).val < 128 := (y 2).isLt
  have hy : y = ix3 0 ⟨(y 1).val, hr⟩ (laneOf ⟨(y 2).val / 64, by omega⟩ ⟨(y 2).val % 64, Nat.mod_lt _ (by decide)⟩) := by
    have h0 : (y 0).val < 1 := (y 0).isLt
    funext a
    match a with
    | ⟨0, _⟩ => exact Fin.ext (show (y 0).val = 0 by omega)
    | ⟨1, _⟩ => exact Fin.ext rfl
    | ⟨2, _⟩ => exact Fin.ext (show (y 2).val = (y 2).val / 64 * 64 + (y 2).val % 64 by omega)
  rw [hy]
  generalize (⟨(y 2).val / 64, by omega⟩ : Fin 2) = h
  generalize (⟨(y 2).val % 64, Nat.mod_lt _ (by decide)⟩ : Fin 64) = d
  refine (outAt_apply m c t Q K G hq hk hg ⟨(y 1).val, hr⟩ h d).trans ?_
  refine Eq.trans ?_ (congrArg (attnArr m c Q K G) (emb4 t ⟨(y 1).val, hr⟩ (laneOf h d))).symm
  have e1 : headOf (pairLane (pOf t) (laneOf h d)) = pairHead (pOf t) h := Fin.ext (by simp only [headOf, pairLane, laneOf, pairHead]; omega)
  have e2 : placeOf (pairLane (pOf t) (laneOf h d)) = d := Fin.ext (by simp only [placeOf, pairLane, laneOf]; omega)
  show _ = attn Q K G _ (bOf t) (rowIn (qOf t) ⟨(y 1).val, hr⟩) (headOf (pairLane (pOf t) (laneOf h d))) (placeOf (pairLane (pOf t) (laneOf h d)))
  rw [e1, e2]

end Cert.Proof.Value
end
-- ==== Proof.Value.Ref.lean ====
/-
  The reference, read entry by entry: a softmax over all keys of the masked scores, times the values.
-/
module

public import proofs.«01_k».proof.Proof.Gen.ReferenceIdeal.Run
public import Idealize.ShloMosaic.Lib.Pipeline.ValueKit
public import proofs.«01_k».proof.Proof.Value.Scores
public import proofs.«01_k».proof.Proof.Value.Attn

@[expose] public section

set_option maxRecDepth 16384

noncomputable section

namespace Cert.Proof.Value.Ref

open Cert.ReferenceIdeal Cert.ReferenceIdeal.Gen Cert.ReferenceIdeal.Value
open Idealize.ShloMosaic Idealize.ShloMosaic.Tactic

/-- The reference's scores before the causal mask. -/
def raw (q k : Vec Ideal S2x8192x512 .bf16) (g : Vec Ideal S2x8x1x8192 .f32) : FVec Ideal S2x8x8192x8192 .f32 :=
  mulf (addf (Host.dotGeneral dot_S2x8192x8x64_S2x8192x8x64_S2x8x8192x8192_3_3_1_1_02_02 none (shapeCast _ (extf .f32 q bitsLt_bf16_f32) shapeCasts_S2x8192x512_S2x8192x8x64) (shapeCast _ (extf .f32 k bitsLt_bf16_f32) shapeCasts_S2x8192x512_S2x8192x8x64)) (subf (broadcastInDim S2x8x8192x8192 ![0, 1, 2, 3] bcast_S2x8x8192x1_S2x8x8192x8192_0_1_2_3 (broadcastInDim S2x8x8192x1 ![0, 1, 2] bcast_S2x8x8192_S2x8x8192x1_0_1_2 (shapeCast _ g shapeCasts_S2x8x1x8192_S2x8x8192))) (broadcastInDim S2x8x8192x8192 ![0, 1, 2, 3] bcast_S2x8x1x8192_S2x8x8192x8192_0_1_2_3 (broadcastInDim S2x8x1x8192 ![0, 1, 3] bcast_S2x8x8192_S2x8x1x8192_0_1_3 (shapeCast _ g shapeCasts_S2x8x1x8192_S2x8x8192))))) (broadcastInDim S2x8x8192x8192 ![] bcast_S_S2x8x8192x8192 (Host.log (constant S_ .f32 0x40000000#32)))

/-- A score tensor under the causal mask. -/
def masked (s : FVec Ideal S2x8x8192x8192 .f32) : FVec Ideal S2x8x8192x8192 .f32 :=
  select (broadcastInDim S2x8x8192x8192 ![2, 3] bcast_S8192x8192_S2x8x8192x8192_2_3 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) s (broadcastInDim S2x8x8192x8192 ![] bcast_S_S2x8x8192x8192 (id (constant S_ .f32 0xFF800000#32)))

/-- The exponentials of a score tensor less its rows' numbers `M`, these no less than minus infinity. -/
def expoOf (s : FVec Ideal S2x8x8192x8192 .f32) (M : FVec Ideal S2x8x8192 .f32) : FVec Ideal S2x8x8192x8192 .f32 :=
  Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (maximumf (broadcastInDim S2x8x8192 ![] bcast_S_S2x8x8192 (constant S_ .f32 0xFF800000#32)) M))))

/-- The exponentials of a score tensor less each row's maximum. -/
def expo (s : FVec Ideal S2x8x8192x8192 .f32) : FVec Ideal S2x8x8192x8192 .f32 :=
  expoOf s (Host.reduce FloatOps.maximumf s (constant S_ .f32 0xFF800000#32) reducesTo_S2x8x8192x8192_S2x8x8192_d3 h_S_)

/-- The rows normalized. -/
def probs (p : FVec Ideal S2x8x8192x8192 .f32) : FVec Ideal S2x8x8192x8192 .f32 :=
  Host.divf p (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd p (constant S_ .f32 0x00000000#32) reducesTo_S2x8x8192x8192_S2x8x8192_d3 h_S_)))

/-- The weighted values, in the arrays' layout. -/
def mixed (p : FVec Ideal S2x8x8192x8192 .f32) (v : Vec Ideal S2x8192x512 .bf16) : Vec Ideal S2x8192x512 .bf16 :=
  truncf .bf16 (shapeCast _ (transpose S2x8192x8x64 [0, 3, 1, 2] (Host.dotGeneral dot_S2x8192x8x64_S2x8x8192x8192_S2x8x64x8192_1_3_3_2_02_01 none (shapeCast _ (extf .f32 v bitsLt_bf16_f32) shapeCasts_S2x8192x512_S2x8192x8x64) p) transposes_S2x8x64x8192_S2x8192x8x64_0_3_1_2) shapeCasts_S2x8192x8x64_S2x8192x512) bitsLt_bf16_f32

theorem res_eq (m : (ℓ : Loc nD τ sig) → Buf (Elt Ideal) ℓ) (c : Dev nD) :
    res_out0 m c = mixed (probs (expo (masked (raw (m ((c.tc : Thread nD τ).loc main_arg0)) (m ((c.tc : Thread nD τ).loc main_arg1)) (m ((c.tc : Thread nD τ).loc main_arg3)))))) (m ((c.tc : Thread nD τ).loc main_arg2)) := rfl

theorem raw_apply (q k : Vec Ideal S2x8192x512 .bf16) (g : Vec Ideal S2x8x1x8192 .f32) (b : Fin 2) (h : Fin 8) (i j : Fin 8192) :
    raw q k g (ix4 b h i j) = (∑ x, q (ix3 b i (lane h x)) * k (ix3 b j (lane h x)) + (g (ix4 b h 0 i) - g (ix4 b h 0 j)))
      * Ideal.log (Ideal.ofBits .f32 0x40000000#32) := by
  unfold raw
  pointwise
  rfl

theorem masked_apply (s : FVec Ideal S2x8x8192x8192 .f32) (b : Fin 2) (h : Fin 8) (i j : Fin 8192) :
    masked s (ix4 b h i j) = if j.val ≤ i.val then s (ix4 b h i j) else ⊥ := by
  unfold masked
  pointwise
  rw [sge_words _ _ (by omega) (by omega), select_ite, ← neg_inf]
  rfl

/-- The maximum of a rank 4 array along its last axis. -/
theorem rowMax_apply {n0 n1 n2 n3 : ℕ} {u : Shape} (s : FVec Ideal ⟨4, ![n0, n1, n2, n3]⟩ .f32) (z : FVec Ideal u .f32)
    (hr : (⟨4, ![n0, n1, n2, n3]⟩ : Shape).ReducesTo [3] ⟨3, ![n0, n1, n2]⟩) (hu : 0 < u.numel) (b : Fin n0) (h : Fin n1) (i : Fin n2) :
    Host.reduce FloatOps.maximumf s z hr hu (ix3 b h i)
      = Finset.univ.fold max (z (Shape.Idx.first hu)) fun x => s (ix4 b h i x) := by
  rw [Host.reduce_eq_fold]
  exact hr.fold_fiber_r4_a3 (ix3 b h i) _ _ _

theorem expoOf_apply (s : FVec Ideal S2x8x8192x8192 .f32) (M : FVec Ideal S2x8x8192 .f32) (b : Fin 2) (h : Fin 8) (i j : Fin 8192) :
    expoOf s M (ix4 b h i j) = Ideal.exp (s (ix4 b h i j) - max ⊥ (M (ix3 b h i))) := by
  rw [← neg_inf]
  unfold expoOf
  pointwise

theorem expo_apply (s : FVec Ideal S2x8x8192x8192 .f32) (b : Fin 2) (h : Fin 8) (i j : Fin 8192) :
    expo s (ix4 b h i j) = Ideal.exp (s (ix4 b h i j) - max ⊥ (Finset.univ.fold max ⊥ fun x => s (ix4 b h i x))) := by
  unfold expo
  rw [expoOf_apply, rowMax_apply, ← neg_inf]
  rfl

theorem probs_apply (s : FVec Ideal S2x8x8192x8192 .f32) (b : Fin 2) (h : Fin 8) (i j : Fin 8192) :
    probs s (ix4 b h i j) = Ideal.div (s (ix4 b h i j)) (∑ x, s (ix4 b h i x)) := by
  unfold probs
  pointwise

theorem mixed_apply (p : FVec Ideal S2x8x8192x8192 .f32) (v : Vec Ideal S2x8192x512 .bf16) (b : Fin 2) (i : Fin 8192) (h : Fin 8) (d : Fin 64) :
    mixed p v (ix3 b i (lane h d)) = ∑ x, v (ix3 b x (lane h d)) * p (ix4 b h i x) := by
  unfold mixed
  pointwise
  have e : (⟨(lane h d).val / 64, by have := h.isLt; simp only [lane]; omega⟩ : Fin 8) = h := Fin.ext (by simp only [lane]; omega)
  refine Finset.sum_congr rfl fun x _ => ?_
  exact congrArg (fun z => v (ix3 b x (lane h d)) * p (ix4 b z i x)) e

/-- The reference's factor on its scores is the natural logarithm of two. -/
theorem ln_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

/-- From finite queries, keys and gate sums, the reference is the attention of `attn`. -/
theorem ref_attn (q k v : Vec Ideal S2x8192x512 .bf16) (g : Vec Ideal S2x8x1x8192 .f32)
    (Q K : Fin 2 → Fin 8192 → Fin 512 → ℝ) (G : Fin 2 → Fin 8 → Fin 8192 → ℝ)
    (hq : ∀ b i l, q (ix3 b i l) = (Q b i l : EReal)) (hk : ∀ b i l, k (ix3 b i l) = (K b i l : EReal))
    (hg : ∀ b h i, g (ix4 b h 0 i) = (G b h i : EReal)) (b : Fin 2) (i : Fin 8192) (h : Fin 8) (d : Fin 64) :
    mixed (probs (expo (masked (raw q k g)))) v (ix3 b i (lane h d)) = attn Q K G (fun b i l => v (ix3 b i l)) b i h d := by
  have hr : ∀ j, raw q k g (ix4 b h i j) = ((gscore Q K G b h i j * Real.log 2 : ℝ) : EReal) := fun j => by
    rw [raw_apply, ln_two, hg, hg, Finset.sum_congr rfl fun x _ => (congrArg₂ (· * ·) (hq b i (lane h x)) (hk b j (lane h x))).trans (EReal.coe_mul _ _).symm,
      coe_sum, ← EReal.coe_sub, ← EReal.coe_add, ← EReal.coe_mul, add_comm]
    rfl
  have hs : ∀ j, (∃ r : ℝ, masked (raw q k g) (ix4 b h i j) = r ∧ gwt Q K G b h i j = Real.exp r) ∨ (masked (raw q k g) (ix4 b h i j) = ⊥ ∧ gwt Q K G b h i j = 0) := fun j => by
    rw [masked_apply]
    unfold gwt
    by_cases hj : j.val ≤ i.val
    · rw [if_pos hj, if_pos hj]; exact .inl ⟨_, hr j, rfl⟩
    · rw [if_neg hj, if_neg hj]; exact .inr ⟨rfl, rfl⟩
  rw [mixed_apply]
  simp only [probs_apply, expo_apply]
  exact softmax_eq (fun j => masked (raw q k g) (ix4 b h i j)) (fun j => gwt Q K G b h i j) hs (sum_gwt_pos Q K G b h i) (fun j => v (ix3 b j (lane h d))) ⊥ bot_lt_top

end Cert.Proof.Value.Ref
end
-- ==== Proof.Value.Finite.lean ====
/-
  What the precondition says of the arguments: the queries, the keys and the log gates are real numbers.
-/
module

public import proofs.«01_k».proof.Proof.Gen.Pre_finite_scores
public import Idealize.ShloMosaic.Lib.ReduceAll
public import Idealize.ShloMosaic.Lib.Pipeline.ValueKit

@[expose] public section

noncomputable section

namespace Cert.Proof.Value

open Cert.Pre_finite_scores Idealize.ShloMosaic

theorem pos_inf : Ideal.ofBits .f32 0x7F800000#32 = ⊤ := by simp [Ideal.ofBits, Ideal.ieee]

/-- An extended real whose magnitude is below infinity is a real number. -/
theorem real_of_abs (x : EReal) (h : Ideal.cmp .olt (max x (-x)) ⊤ = 1#1) : x = ((x.toReal : ℝ) : EReal) := by
  have hlt : max x (-x) < ⊤ := by
    by_contra hn
    rw [Ideal.cmp] at h
    simp [hn] at h
  refine (EReal.coe_toReal ?_ ?_).symm
  · rintro rfl
    simp at hlt
  · rintro rfl
    simp at hlt

/-- Under the precondition every query, key and log gate is a real number. -/
theorem finite (q k v : FVec Ideal S2x8192x512 .bf16) (g : FVec Ideal S2x8x1x8192 .f32)
    (h : fn (F := Ideal) q k v g = fun _ => 1#1) :
    (∀ i, q i = (((q i : EReal).toReal : ℝ) : EReal)) ∧ (∀ i, k i = (((k i : EReal).toReal : ℝ) : EReal))
      ∧ ∀ i, g i = (((g i : EReal).toReal : ℝ) : EReal) := by
  have h0 := congrFun h (fun a => a.elim0)
  dsimp only [fn] at h0
  obtain ⟨h1, hg⟩ := IntOp.andi_eq_one.mp h0
  obtain ⟨hq, hk⟩ := IntOp.andi_eq_one.mp h1
  haveI : Subsingleton S_.Idx := ⟨fun a b => funext fun x => x.elim0⟩
  refine ⟨fun i => real_of_abs _ ?_, fun i => real_of_abs _ ?_, fun i => real_of_abs _ ?_⟩
  · exact pos_inf ▸ Host.reduce_andi_all _ _ _ _ _ hq i
  · exact pos_inf ▸ Host.reduce_andi_all _ _ _ _ _ hk i
  · exact pos_inf ▸ Host.reduce_andi_all _ _ _ _ _ hg i

end Cert.Proof.Value

end
-- ==== Proof.Value.Equal.lean ====
/-
  The value claim: from memories that agree on finite queries, keys and log gates (and on any values), the kernel
  and the reference leave the same array.
-/
module

public import proofs.«01_k».proof.Defs
public import proofs.«01_k».proof.Proof.Value.Array
public import proofs.«01_k».proof.Proof.Value.Ref
public import proofs.«01_k».proof.Proof.Value.Finite

@[expose] public section

set_option maxRecDepth 16384

noncomputable section

namespace Cert.Proof.Value

open Idealize.ShloMosaic Idealize.SL.Sem

/-- The reference's result, as an array, is the attention of its arguments. -/
theorem ref_arr (q k v : Vec Ideal Cert.KernelIdeal.S2x8192x512 .bf16) (g : Vec Ideal Cert.KernelIdeal.S2x8x1x8192 .f32)
    (Q K : Fin 2 → Fin 8192 → Fin 512 → ℝ) (G : Fin 2 → Fin 8 → Fin 8192 → ℝ)
    (hq : ∀ b i l, q (ix3 b i l) = (Q b i l : EReal)) (hk : ∀ b i l, k (ix3 b i l) = (K b i l : EReal))
    (hg : ∀ b h i, g (ix4 b h 0 i) = (G b h i : EReal)) :
    Ref.mixed (Ref.probs (Ref.expo (Ref.masked (Ref.raw q k g)))) v
      = fun j => attn Q K G (fun b i l => v (ix3 b i l)) (j 0) (j 1) (headOf (j 2)) (placeOf (j 2)) := by
  funext j
  have hj : j = ix3 (j 0) (j 1) (lane (headOf (j 2)) (placeOf (j 2))) :=
    (eq_ix3 j).trans (congrArg (ix3 (j 0) (j 1)) (lane_of (j 2)).symm)
  exact (congrArg _ hj).trans (Ref.ref_attn q k v g Q K G hq hk hg _ _ _ _)

/-- The kernel and the reference end with equal results whenever the queries, the keys and the log gates are finite. -/
theorem algebraic : Cert.algebraic_KernelIdeal_ReferenceIdeal_pre_finite_scores := fun m g m' g' hpre hag => by
  have hf := fun c => finite _ _ _ _ (hpre c)
  refine ⟨fun c => attnArr m c (fun b i l => EReal.toReal (m (c.tc.loc Cert.KernelIdeal.main_arg0) (ix3 b i l)))
    (fun b i l => EReal.toReal (m (c.tc.loc Cert.KernelIdeal.main_arg1) (ix3 b i l)))
    (fun b h i => EReal.toReal (m (c.tc.loc Cert.KernelIdeal.main_arg3) (ix4 b h 0 i))), ?_, ?_⟩
  · refine (θ_run _ _ _).mono (fun r h c => ?_) (Cert.Proof.KernelIdeal.run_main m g)
    have h := h.1
    exact ⟨((h c).1 4).trans (arr_eq m c _ _ _ (fun b i l => (hf c).1 _) (fun b i l => (hf c).2.1 _) fun b h i => (hf c).2.2 _),
      ((h c).1 0).trans (((Cert.Proof.KernelIdeal.dats m 0 c).arrAt_in 0 rfl _).trans (Cert.KernelIdeal.Gen.V_main_arg0 m c)),
      ((h c).1 1).trans (((Cert.Proof.KernelIdeal.dats m 0 c).arrAt_in 1 rfl _).trans (Cert.KernelIdeal.Gen.V_main_arg1 m c)),
      ((h c).1 2).trans (((Cert.Proof.KernelIdeal.dats m 0 c).arrAt_in 2 rfl _).trans (Cert.KernelIdeal.Gen.V_main_arg2 m c)),
      ((h c).1 3).trans (((Cert.Proof.KernelIdeal.dats m 0 c).arrAt_in 3 rfl _).trans (Cert.KernelIdeal.Gen.V_main_arg3 m c))⟩
  · refine (θ_run _ _ _).mono (fun r h c => ⟨(h c).1.trans ?_, (h c).2⟩) (Cert.ReferenceIdeal.Value.run m' g')
    refine (Ref.res_eq m' c).trans ?_
    rw [(hag c).1, (hag c).2.1, (hag c).2.2.1, (hag c).2.2.2]
    exact ref_arr _ _ _ _ _ _ _ (fun b i l => (hf c).1 _) (fun b i l => (hf c).2.1 _) fun b h i => (hf c).2.2 _

end Cert.Proof.Value

end
-- ==== Proof.Merge.Row.lean ====
/-
  One row of the merge of the two branches, the squared-ReLU MLP and the gated per-layer embedding, over the extended reals:
  what the kernel and the reference are both shown to compute.
-/
module

public import Idealize.ShloMosaic.PureOps.Ideal.Laws
public import Mathlib.Data.EReal.Operations
public import Mathlib.Analysis.SpecialFunctions.Trigonometric.DerivHyp

@[expose] public section

noncomputable section

namespace Cert.Proof.Merge

open Idealize.ShloMosaic

/-- One half, as the kernel writes it. -/
abbrev half : EReal := Ideal.ofBits .f32 0x3F000000#32
/-- The lanes of a row, 1024, as a number. -/
abbrev lanes : EReal := Ideal.ofBits .f32 0x44800000#32
/-- The norms' small constant. -/
abbrev eps : EReal := Ideal.ofBits .f32 0x358637BD#32

theorem half_eq : half = ((1 / 2 : ℝ) : EReal) := by
  simp [half, Ideal.ofBits, Ideal.ieee, -EReal.coe_mul]; norm_num

theorem one_eq : Ideal.ofBits .f32 0x3F800000#32 = 1 := by
  have h : Ideal.ofBits .f32 0x3F800000#32 = ((1 : ℝ) : EReal) := by
    simp [Ideal.ofBits, Ideal.ieee, -EReal.coe_mul, -EReal.coe_one]; norm_num
  exact h

/-- The logistic function. -/
def sigm (x : EReal) : EReal := Ideal.div 1 (1 + Ideal.exp (-x))

/-- The logistic function through the hyperbolic tangent of half the argument, at the infinities too. -/
theorem half_tanh (x : EReal) : half * Ideal.tanh (half * x) + half = sigm x := by
  rw [half_eq, show sigm x = Ideal.logistic x from rfl]
  induction x with
  | bot =>
    rw [EReal.coe_mul_bot_of_pos (by norm_num), Ideal.logistic_bot, show Ideal.tanh ⊥ = ((-1 : ℝ) : EReal) from rfl, ← EReal.coe_mul, ← EReal.coe_add]
    norm_num
  | top =>
    rw [EReal.coe_mul_top_of_pos (by norm_num), Ideal.logistic_top, show Ideal.tanh ⊤ = ((1 : ℝ) : EReal) from rfl, ← EReal.coe_mul, ← EReal.coe_add]
    norm_num
  | coe r =>
    rw [← EReal.coe_mul, Ideal.logistic_coe, show Ideal.tanh ((1 / 2 * r : ℝ) : EReal) = ((Real.tanh (1 / 2 * r) : ℝ) : EReal) from rfl, ← EReal.coe_mul, ← EReal.coe_add]
    congr 1
    have hp := Real.exp_pos (1 / 2 * r)
    have hn := Real.exp_pos (-(1 / 2 * r))
    have he : Real.exp (-r) = Real.exp (-(1 / 2 * r)) / Real.exp (1 / 2 * r) := by rw [← Real.exp_sub]; congr 1; ring
    rw [Real.tanh_eq_sinh_div_cosh, Real.sinh_eq, Real.cosh_eq, he]
    field_simp
    ring

variable (x g : Fin 1024 → EReal)

/-- A row over the root of its mean square, times a gain. -/
def rms (j : Fin 1024) : EReal := x j * Ideal.rsqrt (Ideal.div (∑ k, x k * x k) lanes + eps) * g j

/-- The two branches, projected and gated, merged and projected, added to the row. -/
def mid (oa ob : Fin 512 → EReal) (ga gb : Fin 1024 → EReal) (WA WB : Fin 512 → Fin 1024 → EReal) (WO : Fin 1024 → Fin 1024 → EReal)
    (j : Fin 1024) : EReal :=
  x j + ∑ k, (sigm (ga k) * (∑ l, oa l * WA l k) + sigm (gb k) * ∑ l, ob l * WB l k) * WO k j

/-- The squared-ReLU MLP of the row's norm, added to it. -/
def mlp (WU : Fin 1024 → Fin 4096 → EReal) (WD : Fin 4096 → Fin 1024 → EReal) (j : Fin 1024) : EReal :=
  x j + ∑ k, (max (∑ l, rms x g l * WU l k) 0 * max (∑ l, rms x g l * WU l k) 0) * WD k j

/-- The gated per-layer embedding, added to the row. -/
def embed (WG : Fin 1024 → Fin 1024 → EReal) (p : Fin 256 → EReal) (WP : Fin 256 → Fin 1024 → EReal) (j : Fin 1024) : EReal :=
  x j + sigm (∑ k, rms x g k * WG k j) * ∑ l, p l * WP l j

end Cert.Proof.Merge

end
-- ==== Proof.Merge.Pay.lean ====
/-
  The kernel's body, read entry by entry.
-/
module

public import proofs.«01_k».proof.Proof.Gen.Kernel2Ideal.Value
public import Idealize.ShloMosaic.Lib.Pipeline.ValueKit
public import proofs.«01_k».proof.Proof.Merge.Row

@[expose] public section

set_option maxRecDepth 16384

noncomputable section

namespace Cert.Proof.Merge

open Cert.Kernel2Ideal Cert.Kernel2Ideal.Gen
open Idealize.ShloMosaic Idealize.ShloMosaic.Tactic

/-- The first 1024 of a row's 2048 gates. -/
def lo (k : Fin 1024) : Fin 2048 := ⟨k.val, by omega⟩
/-- The last 1024 of them. -/
def hi (k : Fin 1024) : Fin 2048 := ⟨1024 + k.val, by omega⟩

variable (v0 : Vec Ideal S512x2048 .bf16) (v10 v17 : Vec Ideal S512x512 .bf16) (v12 v18 : Vec Ideal S512x1024 .bf16)
    (v23 : Vec Ideal S512x1024 .f32) (v26 : Vec Ideal S1024x1024 .bf16) (r : Fin 512)

/-- The row after the branches' merge. -/
theorem pay2_apply (j : Fin 1024) : k0_pay2 v0 v10 v12 v17 v18 v23 v26 (ix2 r j)
    = mid (fun k => v23 (ix2 r k)) (fun l => v10 (ix2 r l)) (fun l => v17 (ix2 r l)) (fun k => v0 (ix2 r (lo k)))
      (fun k => v0 (ix2 r (hi k))) (fun l k => v12 (ix2 l k)) (fun l k => v18 (ix2 l k)) (fun k j => v26 (ix2 k j)) j := by
  unfold k0_pay2
  pointwise
  simp only [mid, ← half_tanh]
  rfl

/-- The sum of its squares. -/
theorem pay4_apply : k0_pay4 v0 v10 v12 v17 v18 v23 v26 (ix2 r 0)
    = ∑ k, k0_pay2 v0 v10 v12 v17 v18 v23 v26 (ix2 r k) * k0_pay2 v0 v10 v12 v17 v18 v23 v26 (ix2 r k) := by
  unfold k0_pay4
  generalize k0_pay2 v0 v10 v12 v17 v18 v23 v26 = v
  pointwise

/-- The row after the MLP. -/
theorem pay5_apply (v29 : FVec Ideal S512x1024 .f32) (v31 : FVec Ideal S1x1024 .f32) (v34 : FVec Ideal S512x1 .f32)
    (v45 : Vec Ideal S1024x4096 .bf16) (v52 : Vec Ideal S4096x1024 .bf16) (h : v34 (ix2 r 0) = ∑ k, v29 (ix2 r k) * v29 (ix2 r k)) (j : Fin 1024) :
    k0_pay5 v29 v31 v34 (Scalar.ofBits .f32 0x44800000#32) v45 v52 (ix2 r j)
      = mlp (fun k => v29 (ix2 r k)) (fun k => v31 (ix2 0 k)) (fun l k => v45 (ix2 l k)) (fun k j => v52 (ix2 k j)) j := by
  unfold k0_pay5
  pointwise
  simp only [mlp, rms, h]

/-- The hyperbolic tangent of half of the row's per-layer gate. -/
theorem pay6_apply (v29 : FVec Ideal S512x1024 .f32) (v31 : FVec Ideal S1x1024 .f32) (v34 : FVec Ideal S512x1 .f32) (c : Ideal .f32)
    (v45 : Vec Ideal S1024x4096 .bf16) (v52 : Vec Ideal S4096x1024 .bf16) (v56 : Vec Ideal S1x1024 .f32) (v71 : Vec Ideal S1024x1024 .bf16) (j : Fin 1024) :
    k0_pay6 v29 v31 v34 c v45 v52 v56 v71 (ix2 r j)
      = Ideal.tanh (half * ∑ k, rms (fun k => k0_pay5 v29 v31 v34 c v45 v52 (ix2 r k)) (fun k => v56 (ix2 0 k)) k * v71 (ix2 k j)) := by
  unfold k0_pay6
  generalize k0_pay5 v29 v31 v34 c v45 v52 = v
  pointwise
  rfl

/-- The row the body stores. -/
theorem pay1_apply (v55 v76 : FVec Ideal S512x1024 .f32) (v81 : Vec Ideal S512x256 .f32) (v84 : Vec Ideal S256x1024 .bf16) (j : Fin 1024) :
    k0_pay1 v55 v76 (Scalar.ofBits .f32 0x3F000000#32) v81 v84 (ix2 r j)
      = v55 (ix2 r j) + (half * v76 (ix2 r j) + half) * ∑ l, v81 (ix2 r l) * v84 (ix2 l j) := by
  unfold k0_pay1
  pointwise

end Cert.Proof.Merge

end
-- ==== Proof.Merge.Out.lean ====
/-
  What the body stores, from the blocks it loads.
-/
module

public import proofs.«01_k».proof.Proof.Merge.Pay

@[expose] public section

set_option maxRecDepth 16384

noncomputable section

namespace Cert.Proof.Merge

open Cert.Kernel2Ideal Cert.Kernel2Ideal.Gen
open Idealize.ShloMosaic Idealize.ShloMosaic.Tactic

/-! A load of a whole block is the block. -/

theorem ld0 {e : EltTy} (x : Vec Ideal S512x2048 e) : View.ld x r0_0 = x := View.ld_unit_zero (S := S512x2048) (by decide) _ x
theorem ld1 {e : EltTy} (x : Vec Ideal S512x512 e) : View.ld x r0_1 = x := View.ld_unit_zero (S := S512x512) (by decide) _ x
theorem ld2 {e : EltTy} (x : Vec Ideal S512x1024 e) : View.ld x r0_2 = x := View.ld_unit_zero (S := S512x1024) (by decide) _ x
theorem ld3 {e : EltTy} (x : Vec Ideal S1024x1024 e) : View.ld x r0_3 = x := View.ld_unit_zero (S := S1024x1024) (by decide) _ x
theorem ld4 {e : EltTy} (x : Vec Ideal S1x1024 e) : View.ld x r0_4 = x := View.ld_unit_zero (S := S1x1024) (by decide) _ x
theorem ld5 {e : EltTy} (x : Vec Ideal S1024x4096 e) : View.ld x r0_5 = x := View.ld_unit_zero (S := S1024x4096) (by decide) _ x
theorem ld6 {e : EltTy} (x : Vec Ideal S4096x1024 e) : View.ld x r0_6 = x := View.ld_unit_zero (S := S4096x1024) (by decide) _ x
theorem ld7 {e : EltTy} (x : Vec Ideal S512x256 e) : View.ld x r0_7 = x := View.ld_unit_zero (S := S512x256) (by decide) _ x
theorem ld8 {e : EltTy} (x : Vec Ideal S256x1024 e) : View.ld x r0_8 = x := View.ld_unit_zero (S := S256x1024) (by decide) _ x

/-- The gain as the body reads it is the gain. -/
theorem pay3_eq (g : Vec Ideal S1x1024 .f32) (k : Fin 1024) : k0_pay3 g (ix2 0 k) = g (ix2 0 k) := by
  unfold k0_pay3
  pointwise

/-- A row of the block the body stores is that row merged, through the MLP and with its embedding added. -/
theorem out_apply (x0 : Vec Ideal S512x1024 .f32) (x1 x2 : Vec Ideal S512x512 .bf16) (x3 : Vec Ideal S512x2048 .bf16) (x4 : Vec Ideal S512x256 .f32)
    (x5 x6 : Vec Ideal S512x1024 .bf16) (x7 : Vec Ideal S1024x1024 .bf16) (x8 : Vec Ideal S1x1024 .f32) (x9 : Vec Ideal S1024x4096 .bf16)
    (x10 : Vec Ideal S4096x1024 .bf16) (x11 : Vec Ideal S1x1024 .f32) (x12 : Vec Ideal S1024x1024 .bf16) (x13 : Vec Ideal S256x1024 .bf16)
    (r : Fin 512) (j : Fin 1024) :
    out0_14 x0 x1 x2 x3 x4 x5 x6 x7 x8 x9 x10 x11 x12 x13 (ix2 r j)
      = embed (mlp (mid (fun k => x0 (ix2 r k)) (fun l => x1 (ix2 r l)) (fun l => x2 (ix2 r l)) (fun k => x3 (ix2 r (lo k))) (fun k => x3 (ix2 r (hi k)))
          (fun l k => x5 (ix2 l k)) (fun l k => x6 (ix2 l k)) (fun k j => x7 (ix2 k j))) (fun k => x8 (ix2 0 k)) (fun l k => x9 (ix2 l k)) (fun k j => x10 (ix2 k j)))
        (fun k => x11 (ix2 0 k)) (fun k j => x12 (ix2 k j)) (fun l => x4 (ix2 r l)) (fun l j => x13 (ix2 l j)) j := by
  unfold out0_14
  rw [View.canon_unit_zero (by decide)]
  unfold k0_pay7 k0_pay8 k0_pay9
  simp only [ld0, ld1, ld2, ld3, ld4, ld5, ld6, ld7, ld8]
  have h5 : ∀ k, k0_pay5 (k0_pay2 x3 x1 x5 x2 x6 x0 x7) (k0_pay3 x8) (k0_pay4 x3 x1 x5 x2 x6 x0 x7) (Scalar.ofBits .f32 0x44800000#32) x9 x10 (ix2 r k)
      = mlp (mid (fun k => x0 (ix2 r k)) (fun l => x1 (ix2 r l)) (fun l => x2 (ix2 r l)) (fun k => x3 (ix2 r (lo k))) (fun k => x3 (ix2 r (hi k)))
          (fun l k => x5 (ix2 l k)) (fun l k => x6 (ix2 l k)) (fun k j => x7 (ix2 k j))) (fun k => x8 (ix2 0 k)) (fun l k => x9 (ix2 l k)) (fun k j => x10 (ix2 k j)) k := fun k => by
    rw [pay5_apply r _ _ _ _ _ (pay4_apply x3 x1 x2 x5 x6 x0 x7 r)]
    simp only [pay2_apply, pay3_eq]
  rw [pay1_apply, pay6_apply, half_tanh]
  simp only [h5]
  rfl

end Cert.Proof.Merge

end
-- ==== Proof.Merge.Blocks.lean ====
/-
  The arrays the call is given, and the blocks of them that a point reads.
-/
module

public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.Proof.Merge

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD) (t : Fin cfg0.N)

/-! The arguments, with the batches' rows one after another and the layer's axis dropped. -/

abbrev arrX : Vec Ideal S16384x1024 .f32 := shapeCast S16384x1024 (m ((c.tc : Thread nD τ).loc main_arg0)) shapeCasts_S2x8192x1024_S16384x1024
abbrev arrA : Vec Ideal S16384x512 .bf16 := shapeCast S16384x512 (m ((c.tc : Thread nD τ).loc main_arg1)) shapeCasts_S2x8192x512_S16384x512
abbrev arrP : Vec Ideal S16384x256 .f32 := shapeCast S16384x256 (m ((c.tc : Thread nD τ).loc main_arg4)) shapeCasts_S2x8192x256_S16384x256
abbrev arrWA : FVec Ideal S512x1024 .f32 := shapeCast S512x1024 (m ((c.tc : Thread nD τ).loc main_arg5)) shapeCasts_S1x512x1024_S512x1024
abbrev arrWB : FVec Ideal S512x1024 .f32 := shapeCast S512x1024 (m ((c.tc : Thread nD τ).loc main_arg6)) shapeCasts_S1x512x1024_S512x1024
abbrev arrWO : FVec Ideal S1024x1024 .f32 := shapeCast S1024x1024 (m ((c.tc : Thread nD τ).loc main_arg7)) shapeCasts_S1x1024x1024_S1024x1024
abbrev arrWU : FVec Ideal S1024x4096 .f32 := shapeCast S1024x4096 (m ((c.tc : Thread nD τ).loc main_arg9)) shapeCasts_S1x1024x4096_S1024x4096
abbrev arrWD : FVec Ideal S4096x1024 .f32 := shapeCast S4096x1024 (m ((c.tc : Thread nD τ).loc main_arg10)) shapeCasts_S1x4096x1024_S4096x1024
abbrev arrWG : FVec Ideal S1024x1024 .f32 := shapeCast S1024x1024 (m ((c.tc : Thread nD τ).loc main_arg12)) shapeCasts_S1x1024x1024_S1024x1024
abbrev arrWP : FVec Ideal S256x1024 .f32 := shapeCast S256x1024 (m ((c.tc : Thread nD τ).loc main_arg13)) shapeCasts_S1x256x1024_S256x1024
abbrev arrG1 : FVec Ideal S1024 .f32 := shapeCast S1024 (m ((c.tc : Thread nD τ).loc main_arg8)) shapeCasts_S1x1024_S1024
abbrev arrG2 : FVec Ideal S1024 .f32 := shapeCast S1024 (m ((c.tc : Thread nD τ).loc main_arg11)) shapeCasts_S1x1024_S1024
abbrev arrB : Vec Ideal S16384x512 .bf16 := m ((c.tc : Thread nD τ).loc main_arg2)
abbrev arrT : Vec Ideal S16384x2048 .bf16 := m ((c.tc : Thread nD τ).loc main_arg3)

/-! What the host code before the call leaves in its operands. -/

theorem V_X : V m c main_v18 = arrX m c := by entry_read; rfl
theorem V_A : V m c main_v19 = arrA m c := by entry_read; rfl
theorem V_P : V m c main_v20 = arrP m c := by entry_read; rfl
theorem V_WA : V m c main_v1 = truncf .bf16 (arrWA m c) bitsLt_bf16_f32 := by entry_read; rfl
theorem V_WB : V m c main_v3 = truncf .bf16 (arrWB m c) bitsLt_bf16_f32 := by entry_read; rfl
theorem V_WO : V m c main_v5 = truncf .bf16 (arrWO m c) bitsLt_bf16_f32 := by entry_read; rfl
theorem V_WU : V m c main_v9 = truncf .bf16 (arrWU m c) bitsLt_bf16_f32 := by entry_read; rfl
theorem V_WD : V m c main_v11 = truncf .bf16 (arrWD m c) bitsLt_bf16_f32 := by entry_read; rfl
theorem V_WG : V m c main_v15 = truncf .bf16 (arrWG m c) bitsLt_bf16_f32 := by entry_read; rfl
theorem V_WP : V m c main_v17 = truncf .bf16 (arrWP m c) bitsLt_bf16_f32 := by entry_read; rfl
theorem V_G1 : V m c main_v7 = shapeCast S1x1024 (arrG1 m c) shapeCasts_S1024_S1x1024 := by entry_read; rfl
theorem V_G2 : V m c main_v13 = shapeCast S1x1024 (arrG2 m c) shapeCasts_S1024_S1x1024 := by entry_read; rfl
theorem V_B : V m c main_arg2 = arrB m c := V_main_arg2 m c
theorem V_T : V m c main_arg3 = arrT m c := V_main_arg3 m c

/-! Where the blocks lie. -/

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx14 : ∀ t : Fin cfg0.N, win0_14.index t = ![t.val, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx9 : ∀ t : Fin cfg0.N, win0_9.index t = ![0, 0] := by decide +kernel
theorem idx10 : ∀ t : Fin cfg0.N, win0_10.index t = ![0, 0] := by decide +kernel
theorem idx12 : ∀ t : Fin cfg0.N, win0_12.index t = ![0, 0] := by decide +kernel
theorem idx13 : ∀ t : Fin cfg0.N, win0_13.index t = ![0, 0] := by decide +kernel
theorem idx8 : ∀ t : Fin cfg0.N, win0_8.index t = ![0, 0] := by decide +kernel
theorem idx11 : ∀ t : Fin cfg0.N, win0_11.index t = ![0, 0] := by decide +kernel

/-- The row of the arrays that row `r` of a point's blocks is. -/
def rowOf (t : Fin cfg0.N) (r : Fin 512) : Fin 16384 := ⟨t.val * 512 + r.val, by have h : t.val < 32 := t.isLt; omega⟩

theorem blk0 (r : Fin 512) (l : Fin 1024) : iblk m c 0 t (ix2 r l) = V m c main_v18 (ix2 (rowOf t r) l) := by
  blk_ext [iblk, idx0 t, rowOf]

theorem blk1 (r : Fin 512) (l : Fin 512) : iblk m c 1 t (ix2 r l) = V m c main_v19 (ix2 (rowOf t r) l) := by
  blk_ext [iblk, idx1 t, rowOf]

theorem blk4 (r : Fin 512) (l : Fin 256) : iblk m c 4 t (ix2 r l) = V m c main_v20 (ix2 (rowOf t r) l) := by
  blk_ext [iblk, idx4 t, rowOf]

theorem blk2 (r : Fin 512) (l : Fin 512) : iblk m c 2 t (ix2 r l) = V m c main_arg2 (ix2 (rowOf t r) l) := by
  blk_ext [iblk, idx2 t, rowOf]

theorem blk3 (r : Fin 512) (l : Fin 2048) : iblk m c 3 t (ix2 r l) = V m c main_arg3 (ix2 (rowOf t r) l) := by
  blk_ext [iblk, idx3 t, rowOf]

theorem blk5 (r : Fin 512) (l : Fin 1024) : iblk m c 5 t (ix2 r l) = V m c main_v1 (ix2 r l) := by
  blk_ext [iblk, idx5 t, rowOf]

theorem blk6 (r : Fin 512) (l : Fin 1024) : iblk m c 6 t (ix2 r l) = V m c main_v3 (ix2 r l) := by
  blk_ext [iblk, idx6 t, rowOf]

theorem blk7 (r : Fin 1024) (l : Fin 1024) : iblk m c 7 t (ix2 r l) = V m c main_v5 (ix2 r l) := by
  blk_ext [iblk, idx7 t, rowOf]

theorem blk9 (r : Fin 1024) (l : Fin 4096) : iblk m c 9 t (ix2 r l) = V m c main_v9 (ix2 r l) := by
  blk_ext [iblk, idx9 t, rowOf]

theorem blk10 (r : Fin 4096) (l : Fin 1024) : iblk m c 10 t (ix2 r l) = V m c main_v11 (ix2 r l) := by
  blk_ext [iblk, idx10 t, rowOf]

theorem blk12 (r : Fin 1024) (l : Fin 1024) : iblk m c 12 t (ix2 r l) = V m c main_v15 (ix2 r l) := by
  blk_ext [iblk, idx12 t, rowOf]

theorem blk13 (r : Fin 256) (l : Fin 1024) : iblk m c 13 t (ix2 r l) = V m c main_v17 (ix2 r l) := by
  blk_ext [iblk, idx13 t, rowOf]

theorem blk8 (r : Fin 1) (l : Fin 1024) : iblk m c 8 t (ix2 r l) = V m c main_v7 (ix2 r l) := by
  blk_ext [iblk, idx8 t, rowOf]

theorem blk11 (r : Fin 1) (l : Fin 1024) : iblk m c 11 t (ix2 r l) = V m c main_v13 (ix2 r l) := by
  blk_ext [iblk, idx11 t, rowOf]

theorem emb14 (r : Fin 512) (l : Fin 1024) : (win0_14.blk t).view.emb (ix2 r l) = ix2 (rowOf t r) l := by
  blk_ext [idx14 t, rowOf]

end Cert.Proof.Merge

end
-- ==== Proof.Merge.Whole.lean ====
/-
  The merge, the MLP and the embedding of every row of the layer, as one array.
-/
module

public import proofs.«01_k».proof.Proof.Merge.Pay

@[expose] public section

noncomputable section

namespace Cert.Proof.Merge

open Cert.Kernel2Ideal
open Idealize.ShloMosaic Idealize.ShloMosaic.Tactic

variable (X : Vec Ideal S16384x1024 .f32) (A B : Vec Ideal S16384x512 .bf16) (T : Vec Ideal S16384x2048 .bf16) (P : Vec Ideal S16384x256 .f32)
    (WA WB : FVec Ideal S512x1024 .f32) (WO : FVec Ideal S1024x1024 .f32) (g : Fin 1024 → EReal)
    (WU : FVec Ideal S1024x4096 .f32) (WD : FVec Ideal S4096x1024 .f32) (g' : Fin 1024 → EReal)
    (WG : FVec Ideal S1024x1024 .f32) (WP : FVec Ideal S256x1024 .f32) (i : Fin 16384)

/-- Row `i` after the merge of the two branches. -/
def midRow : Fin 1024 → EReal :=
  mid (fun k => X (ix2 i k)) (fun l => A (ix2 i l)) (fun l => B (ix2 i l)) (fun k => T (ix2 i (lo k))) (fun k => T (ix2 i (hi k)))
    (fun l k => WA (ix2 l k)) (fun l k => WB (ix2 l k)) (fun k j => WO (ix2 k j))

/-- Row `i` after the MLP. -/
def mlpRow : Fin 1024 → EReal := mlp (midRow X A B T WA WB WO i) g (fun l k => WU (ix2 l k)) (fun k j => WD (ix2 k j))

/-- Row `i` after the embedding. -/
def postRow : Fin 1024 → EReal :=
  embed (mlpRow X A B T WA WB WO g WU WD i) g' (fun k j => WG (ix2 k j)) (fun l => P (ix2 i l)) (fun l j => WP (ix2 l j))

/-- All rows. -/
def postArr : Vec Ideal S16384x1024 .f32 := fun j => postRow X A B T P WA WB WO g WU WD g' WG WP (j 0) (j 1)

end Cert.Proof.Merge

end
-- ==== Proof.Merge.Array.lean ====
/-
  The array the call's run leaves: every row merged, through the MLP and with its embedding added.
-/
module

public import proofs.«01_k».proof.Proof.Merge.Out
public import proofs.«01_k».proof.Proof.Merge.Blocks
public import proofs.«01_k».proof.Proof.Merge.Whole

@[expose] public section

set_option maxRecDepth 16384

noncomputable section

namespace Cert.Proof.Merge

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD) (t : Fin cfg0.N)

/-- The row the arguments stand for. -/
abbrev rowAt (i : Fin 16384) : Fin 1024 → EReal :=
  postRow (arrX m c) (arrA m c) (arrB m c) (arrT m c) (arrP m c) (arrWA m c) (arrWB m c) (arrWO m c) (fun k => arrG1 m c (ix1 k)) (arrWU m c) (arrWD m c)
    (fun k => arrG2 m c (ix1 k)) (arrWG m c) (arrWP m c) i

/-- A gain with a unit axis put before it. -/
theorem gain_apply (g : FVec Ideal S1024 .f32) (k : Fin 1024) : shapeCast S1x1024 g shapeCasts_S1024_S1x1024 (ix2 0 k) = g (ix1 k) := by
  pointwise

/-- The block a point writes holds its rows. -/
theorem out_at (r : Fin 512) (j : Fin 1024) :
    out0_14 (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (ix2 r j) = rowAt m c (rowOf t r) j := by
  rw [out_apply]
  simp only [blk0, blk1, blk2, blk3, blk4, blk5, blk6, blk7, blk8, blk9, blk10, blk11, blk12, blk13]
  rw [V_X, V_A, V_B, V_T, V_P, V_WA, V_WB, V_WO, V_G1, V_WU, V_WD, V_G2, V_WG, V_WP]
  simp only [gain_apply]
  rfl

/-- All rows, as the array the run leaves. -/
def rowsArr : Vec Ideal S16384x1024 .f32 := fun j => rowAt m c (j 0) (j 1)

theorem arr_eq : (dats m 0 c).arrAt 14 cfg0.N = rowsArr m c := by
  refine (dats m 0 c).arrAt_eq_of_covers 14 _ (by decide +kernel) fun t hf y => ?_
  blk_simp
  rw [after0_14]
  have h0 : (y 0).val < 512 := (y 0).isLt
  have h1 : (y 1).val < 1024 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 512) = r
  generalize (⟨(y 1).val, h1⟩ : Fin 1024) = j
  exact (out_at m c t r j).trans (congrArg (rowsArr m c) (emb14 t r j)).symm

end Cert.Proof.Merge

end
-- ==== Proof.Merge.Ref.lean ====
/-
  The reference of the merge, the MLP and the embedding, read entry by entry.
-/
module

public import proofs.«01_k».proof.Proof.Gen.Reference2Ideal.Run
public import Idealize.ShloMosaic.Lib.Pipeline.ValueKit
public import proofs.«01_k».proof.Proof.Merge.Whole

@[expose] public section

set_option maxRecDepth 16384

noncomputable section

namespace Cert.Proof.Merge.Ref

open Cert.Reference2Ideal Cert.Reference2Ideal.Gen Cert.Reference2Ideal.Value
open Idealize.ShloMosaic Idealize.ShloMosaic.Tactic

/-- The two branches' gates. -/
def gate (T : Vec Ideal S16384x2048 .bf16) : FVec Ideal S16384x2048 .f32 :=
  Host.divf (broadcastInDim S16384x2048 ![] bcast_S_S16384x2048 (constant S_ .f32 0x3F800000#32)) (addf (broadcastInDim S16384x2048 ![] bcast_S_S16384x2048 (constant S_ .f32 0x3F800000#32)) (Host.exp (Host.negf (extf .f32 T bitsLt_bf16_f32))))

/-- The two projected branches under their gates, added. -/
def merged (s : FVec Ideal S16384x2048 .f32) (A B : FVec Ideal S16384x512 .f32) (WA WB : FVec Ideal S512x1024 .f32) : FVec Ideal S16384x1024 .f32 :=
  addf (mulf (extractStridedSlice S16384x1024 ![0, 0] s slices_S16384x2048_S16384x1024_0_0) (Host.dotGeneral dot_S16384x512_S512x1024_S16384x1024_1_0_0_1_n_n none A WA))
    (mulf (extractStridedSlice S16384x1024 ![0, 1024] s slices_S16384x2048_S16384x1024_0_1024) (Host.dotGeneral dot_S16384x512_S512x1024_S16384x1024_1_0_0_1_n_n none B WB))

/-- The merged branches projected and added to the rows. -/
def added (X M : FVec Ideal S16384x1024 .f32) (WO : FVec Ideal S1024x1024 .f32) : FVec Ideal S16384x1024 .f32 :=
  addf X (Host.dotGeneral dot_S16384x1024_S1024x1024_S16384x1024_1_0_0_1_n_n none M WO)

/-- The rows over the roots of their mean squares, times a gain. -/
def norm (X : FVec Ideal S16384x1024 .f32) (g : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The MLP's hidden units before the square. -/
def hidden (N : FVec Ideal S16384x1024 .f32) (WU : FVec Ideal S1024x4096 .f32) : FVec Ideal S16384x4096 .f32 :=
  maximumf (Host.dotGeneral dot_S16384x1024_S1024x4096_S16384x4096_1_0_0_1_n_n none N WU) (broadcastInDim S16384x4096 ![] bcast_S_S16384x4096 (constant S_ .f32 0x00000000#32))

/-- The squared hidden units projected and added to the rows. -/
def squared (X : FVec Ideal S16384x1024 .f32) (H : FVec Ideal S16384x4096 .f32) (WD : FVec Ideal S4096x1024 .f32) : FVec Ideal S16384x1024 .f32 :=
  addf X (Host.dotGeneral dot_S16384x4096_S4096x1024_S16384x1024_1_0_0_1_n_n none (mulf H H) WD)

/-- The gated embedding added to the rows. -/
def embedded (X N : FVec Ideal S16384x1024 .f32) (WG : FVec Ideal S1024x1024 .f32) (P : FVec Ideal S16384x256 .f32) (WP : FVec Ideal S256x1024 .f32) : FVec Ideal S16384x1024 .f32 :=
  addf X (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (Host.dotGeneral dot_S16384x1024_S1024x1024_S16384x1024_1_0_0_1_n_n none N WG)))))
    (Host.dotGeneral dot_S16384x256_S256x1024_S16384x1024_1_0_0_1_n_n none P WP))

section entries

variable (i : Fin 16384)

theorem gate_apply (T : Vec Ideal S16384x2048 .bf16) (k : Fin 2048) : gate T (ix2 i k) = sigm (T (ix2 i k)) := by
  unfold gate sigm
  simp only [← one_eq]
  pointwise

theorem merged_apply (s : FVec Ideal S16384x2048 .f32) (A B : FVec Ideal S16384x512 .f32) (WA WB : FVec Ideal S512x1024 .f32) (j : Fin 1024) :
    merged s A B WA WB (ix2 i j) = s (ix2 i (lo j)) * (∑ l, A (ix2 i l) * WA (ix2 l j)) + s (ix2 i (hi j)) * ∑ l, B (ix2 i l) * WB (ix2 l j) := by
  unfold merged
  pointwise
  rfl

theorem added_apply (X M : FVec Ideal S16384x1024 .f32) (WO : FVec Ideal S1024x1024 .f32) (j : Fin 1024) :
    added X M WO (ix2 i j) = X (ix2 i j) + ∑ k, M (ix2 i k) * WO (ix2 k j) := by
  unfold added
  pointwise

theorem norm_apply (X : FVec Ideal S16384x1024 .f32) (g : FVec Ideal S1024 .f32) (j : Fin 1024) :
    norm X g (ix2 i j) = rms (fun k => X (ix2 i k)) (fun k => g (ix1 k)) j := by
  unfold norm
  pointwise
  rfl

theorem hidden_apply (N : FVec Ideal S16384x1024 .f32) (WU : FVec Ideal S1024x4096 .f32) (k : Fin 4096) :
    hidden N WU (ix2 i k) = max (∑ l, N (ix2 i l) * WU (ix2 l k)) 0 := by
  unfold hidden
  pointwise

theorem squared_apply (X : FVec Ideal S16384x1024 .f32) (H : FVec Ideal S16384x4096 .f32) (WD : FVec Ideal S4096x1024 .f32) (j : Fin 1024) :
    squared X H WD (ix2 i j) = X (ix2 i j) + ∑ k, (H (ix2 i k) * H (ix2 i k)) * WD (ix2 k j) := by
  unfold squared
  pointwise

theorem embedded_apply (X N : FVec Ideal S16384x1024 .f32) (WG : FVec Ideal S1024x1024 .f32) (P : FVec Ideal S16384x256 .f32) (WP : FVec Ideal S256x1024 .f32) (j : Fin 1024) :
    embedded X N WG P WP (ix2 i j) = X (ix2 i j) + sigm (∑ k, N (ix2 i k) * WG (ix2 k j)) * ∑ l, P (ix2 i l) * WP (ix2 l j) := by
  unfold embedded sigm
  simp only [← one_eq]
  pointwise

end entries

/-- The reference from its reshaped arguments. -/
def whole (X : FVec Ideal S16384x1024 .f32) (A B : FVec Ideal S16384x512 .f32) (T : Vec Ideal S16384x2048 .bf16) (P : FVec Ideal S16384x256 .f32)
    (WA WB : FVec Ideal S512x1024 .f32) (WO : FVec Ideal S1024x1024 .f32) (g : FVec Ideal S1024 .f32)
    (WU : FVec Ideal S1024x4096 .f32) (WD : FVec Ideal S4096x1024 .f32) (g' : FVec Ideal S1024 .f32)
    (WG : FVec Ideal S1024x1024 .f32) (WP : FVec Ideal S256x1024 .f32) : FVec Ideal S16384x1024 .f32 :=
  let Y := added X (merged (gate T) A B WA WB) WO
  let Z := squared Y (hidden (norm Y g) WU) WD
  embedded Z (norm Z g') WG P WP

/-- The reference's result is that. -/
theorem res_eq (m : (ℓ : Loc nD τ sig) → Buf (Elt Ideal) ℓ) (c : Dev nD) :
    res_main_v70 m c = whole (shapeCast _ (m ((c.tc : Thread nD τ).loc main_arg0)) shapeCasts_S2x8192x1024_S16384x1024)
      (shapeCast _ (extf .f32 (m ((c.tc : Thread nD τ).loc main_arg1)) bitsLt_bf16_f32) shapeCasts_S2x8192x512_S16384x512)
      (extf .f32 (m ((c.tc : Thread nD τ).loc main_arg2)) bitsLt_bf16_f32) (m ((c.tc : Thread nD τ).loc main_arg3))
      (shapeCast _ (m ((c.tc : Thread nD τ).loc main_arg4)) shapeCasts_S2x8192x256_S16384x256)
      (shapeCast _ (m ((c.tc : Thread nD τ).loc main_arg5)) shapeCasts_S1x512x1024_S512x1024)
      (shapeCast _ (m ((c.tc : Thread nD τ).loc main_arg6)) shapeCasts_S1x512x1024_S512x1024)
      (shapeCast _ (m ((c.tc : Thread nD τ).loc main_arg7)) shapeCasts_S1x1024x1024_S1024x1024)
      (shapeCast _ (m ((c.tc : Thread nD τ).loc main_arg8)) shapeCasts_S1x1024_S1024)
      (shapeCast _ (m ((c.tc : Thread nD τ).loc main_arg9)) shapeCasts_S1x1024x4096_S1024x4096)
      (shapeCast _ (m ((c.tc : Thread nD τ).loc main_arg10)) shapeCasts_S1x4096x1024_S4096x1024)
      (shapeCast _ (m ((c.tc : Thread nD τ).loc main_arg11)) shapeCasts_S1x1024_S1024)
      (shapeCast _ (m ((c.tc : Thread nD τ).loc main_arg12)) shapeCasts_S1x1024x1024_S1024x1024)
      (shapeCast _ (m ((c.tc : Thread nD τ).loc main_arg13)) shapeCasts_S1x256x1024_S256x1024) := rfl

/-- Entry by entry, it is the row the kernel is shown to compute. -/
theorem whole_apply (X : FVec Ideal S16384x1024 .f32) (A B : Vec Ideal S16384x512 .bf16) (T : Vec Ideal S16384x2048 .bf16) (P : FVec Ideal S16384x256 .f32)
    (WA WB : FVec Ideal S512x1024 .f32) (WO : FVec Ideal S1024x1024 .f32) (g : FVec Ideal S1024 .f32)
    (WU : FVec Ideal S1024x4096 .f32) (WD : FVec Ideal S4096x1024 .f32) (g' : FVec Ideal S1024 .f32)
    (WG : FVec Ideal S1024x1024 .f32) (WP : FVec Ideal S256x1024 .f32) (i : Fin 16384) (j : Fin 1024) :
    whole X (extf .f32 A bitsLt_bf16_f32) (extf .f32 B bitsLt_bf16_f32) T P WA WB WO g WU WD g' WG WP (ix2 i j)
      = postRow X A B T P WA WB WO (fun k => g (ix1 k)) WU WD (fun k => g' (ix1 k)) WG WP i j := by
  unfold whole
  have hY : ∀ k, added X (merged (gate T) (extf .f32 A bitsLt_bf16_f32) (extf .f32 B bitsLt_bf16_f32) WA WB) WO (ix2 i k) = midRow X A B T WA WB WO i k := fun k => by
    simp only [added_apply, merged_apply, gate_apply]
    rfl
  generalize added X (merged (gate T) (extf .f32 A bitsLt_bf16_f32) (extf .f32 B bitsLt_bf16_f32) WA WB) WO = Y at hY ⊢
  have hZ : ∀ k, squared Y (hidden (norm Y g) WU) WD (ix2 i k) = mlpRow X A B T WA WB WO (fun k => g (ix1 k)) WU WD i k := fun k => by
    simp only [squared_apply, hidden_apply, norm_apply, hY]
    rfl
  generalize squared Y (hidden (norm Y g) WU) WD = Z at hZ ⊢
  simp only [embedded_apply, norm_apply, hZ]
  rfl

end Cert.Proof.Merge.Ref

end
-- ==== Proof.Merge.Equal.lean ====
/-
  The value claim of the merge, the MLP and the embedding: from memories that agree on the arguments, whatever these hold,
  the kernel and the reference leave the same array.
-/
module

public import proofs.«01_k».proof.Defs
public import proofs.«01_k».proof.Proof.Merge.Array
public import proofs.«01_k».proof.Proof.Merge.Ref

@[expose] public section

set_option maxRecDepth 16384

noncomputable section

namespace Cert.Proof.Merge

open Idealize.ShloMosaic Idealize.SL.Sem

/-- The kernel and the reference end with equal results. -/
theorem algebraic : Cert.algebraic_Kernel2Ideal_Reference2Ideal := fun m g m' g' _ hag => by
  refine ⟨fun c => rowsArr m c, ?_, ?_⟩
  · exact (θ_run _ _ _).mono (fun r h c => ⟨(h c).1.trans (arr_eq m c), (h c).2⟩) (Cert.Kernel2Ideal.Value.run_blocks m g)
  · refine (θ_run _ _ _).mono (fun r h c => ⟨(h c).1.trans ?_, (h c).2⟩) (Cert.Reference2Ideal.Value.run m' g')
    refine (Ref.res_eq m' c).trans ?_
    obtain ⟨h0, h1, h2, h3, h4, h5, h6, h7, h8, h9, h10, h11, h12, h13⟩ := hag c
    rw [h0, h1, h2, h3, h4, h5, h6, h7, h8, h9, h10, h11, h12, h13]
    funext j
    exact (congrArg _ (eq_ix2 j)).trans (Ref.whole_apply (arrX m c) (arrA m c) (arrB m c) (arrT m c) (arrP m c) (arrWA m c) (arrWB m c) (arrWO m c) (arrG1 m c)
      (arrWU m c) (arrWD m c) (arrG2 m c) (arrWG m c) (arrWP m c) (j 0) (j 1))

end Cert.Proof.Merge

end
-- ==== Proof.Inputs.Blocks.lean ====
/-
  The arrays the input projection's call is given, and the blocks of them that a point reads and writes.
-/
module

public import proofs.«01_k».proof.Proof.Gen.Kernel3Ideal.Value
public import Idealize.ShloMosaic.Lib.Pipeline.ValueKit
public import Idealize.ShloMosaic.Lib.Claim

@[expose] public section

set_option maxRecDepth 16384

noncomputable section

namespace Cert.Proof.Inputs

open Cert.Kernel3Ideal Cert.Kernel3Ideal.Gen
open Idealize.ShloMosaic Idealize.ShloMosaic.TcCoe Idealize.ShloMosaic.Tactic

variable (m : (ℓ : Loc nD τ sig) → Buf (Elt Ideal) ℓ) (c : Dev nD) (t : Fin cfg0.N)

/-! The arguments, with the batches' rows one after another and the layer's axis dropped. -/

abbrev arrX : FVec Ideal S16384x1024 .f32 := shapeCast S16384x1024 (m ((c.tc : Thread nD τ).loc main_arg0)) shapeCasts_S2x8192x1024_S16384x1024
abbrev arrG : FVec Ideal S1024 .f32 := shapeCast S1024 (m ((c.tc : Thread nD τ).loc main_arg1)) shapeCasts_S1x1024_S1024
abbrev arrW : FVec Ideal S1024x5648 .f32 := shapeCast S1024x5648 (m ((c.tc : Thread nD τ).loc main_arg2)) shapeCasts_S1x1024x5648_S1024x5648
abbrev arrFB : FVec Ideal S8 .f32 := shapeCast S8 (m ((c.tc : Thread nD τ).loc main_arg3)) shapeCasts_S1x8_S8
abbrev arrQG : FVec Ideal S64 .f32 := shapeCast S64 (m ((c.tc : Thread nD τ).loc main_arg4)) shapeCasts_S1x64_S64
abbrev arrKG : FVec Ideal S64 .f32 := shapeCast S64 (m ((c.tc : Thread nD τ).loc main_arg5)) shapeCasts_S1x64_S64
abbrev arrAL : FVec Ideal S4 .f32 := shapeCast S4 (m ((c.tc : Thread nD τ).loc main_arg6)) shapeCasts_S1x4_S4
abbrev arrDT : FVec Ideal S4 .f32 := shapeCast S4 (m ((c.tc : Thread nD τ).loc main_arg7)) shapeCasts_S1x4_S4

/-! The arrays the host code makes of them. -/

/-- The large weight: the columns of queries, keys, values, the second branch's inputs, its output gate and the merge gates. -/
def mainW (W : FVec Ideal S1024x5648 .f32) : FVec Ideal S1024x5632 .f32 :=
  concatenate S1024x5632 1 [⟨S1024x1536, extractStridedSlice S1024x1536 ![0, 0] W slices_S1024x5648_S1024x1536_0_0⟩,
    ⟨S1024x1536, extractStridedSlice S1024x1536 ![0, 1544] W slices_S1024x5648_S1024x1536_0_1544⟩,
    ⟨S1024x2560, extractStridedSlice S1024x2560 ![0, 3088] W slices_S1024x5648_S1024x2560_0_3088⟩] concatenates_S1024x1536_S1024x1536_S1024x2560_S1024x5632_d1

/-- The small weight: the columns of forget gates, decays and betas, padded. -/
def smallW (W : FVec Ideal S1024x5648 .f32) : FVec Ideal S1024x128 .f32 :=
  pad S1024x128 ![0, 0] ![0, 112] ![0, 0] (concatenate S1024x16 1 [⟨S1024x8, extractStridedSlice S1024x8 ![0, 1536] W slices_S1024x5648_S1024x8_0_1536⟩,
    ⟨S1024x8, extractStridedSlice S1024x8 ![0, 3080] W slices_S1024x5648_S1024x8_0_3080⟩] concatenates_S1024x8_S1024x8_S1024x16_d1)
    (sitofp (F := Ideal) .f32 (constantI S_ 32 0#32)) pads_S1024x16_S1024x128_000_01120 h_S_

/-- The four zeros of a padded column. -/
abbrev zeros4 : FVec Ideal S4 .f32 := broadcastInDim S4 ![] bcast_S_S4 (constant S_ .f32 0x00000000#32)

/-- A padded column of eight numbers and four. -/
def padCol (a : FVec Ideal S8 .f32) (b : FVec Ideal S4 .f32) : FVec Ideal S128x1 .f32 :=
  shapeCast S128x1 (pad S128 ![0] ![112] ![0] (concatenate S16 0 [⟨S8, a⟩, ⟨S4, b⟩, ⟨S4, zeros4⟩] concatenates_S8_S4_S4_S16_d0)
    (sitofp (F := Ideal) .f32 (constantI S_ 32 0#32)) pads_S16_S128_01120 h_S_) shapeCasts_S128_S128x1

/-- A head's gain, once for every head. -/
def tiled (g : FVec Ideal S64 .f32) : FVec Ideal S1x512 .f32 :=
  shapeCast S1x512 (shapeCast S512 (broadcastInDim S8x64 ![0, 1] bcast_S1x64_S8x64_0_1 (shapeCast S1x64 g shapeCasts_S64_S1x64)) shapeCasts_S8x64_S512) shapeCasts_S512_S1x512

/-- The head of a lane: its number over 64, rounded down. -/
def headOf : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32))) (broadcastInDim S512 ![] bcast_S_S512 (constantI S_ 32 0#32))))
    (subi (Host.divsi (iotaInDim S512 32 0) (broadcastInDim S512 ![] bcast_S_S512 (constantI S_ 32 64#32))) (broadcastInDim S512 ![] bcast_S_S512 (constantI S_ 32 1#32)))
    (Host.divsi (iotaInDim S512 32 0) (broadcastInDim S512 ![] bcast_S_S512 (constantI S_ 32 64#32)))

/-- The table of the heads: whether two lanes are of one head, over 64. -/
def headTable : FVec Ideal S512x512 .f32 :=
  Host.divf (uitofp .f32 (cmpi .eq (broadcastInDim S512x512 ![0, 1] bcast_S512x1_S512x512_0_1 (broadcastInDim S512x1 ![0] bcast_S512_S512x1_0 headOf))
      (broadcastInDim S512x512 ![0, 1] bcast_S1x512_S512x512_0_1 (broadcastInDim S1x512 ![1] bcast_S512_S1x512_1 headOf))))
    (broadcastInDim S512x512 ![] bcast_S_S512x512 (constant S_ .f32 0x42800000#32))

/-! What the host code before the call leaves in its operands. -/

theorem V_X : V m c main_v45 = arrX m c := by entry_read; rfl
theorem V_G : V m c main_v15 = shapeCast S1x1024 (arrG m c) shapeCasts_S1024_S1x1024 := by entry_read; rfl
theorem V_WM : V m c main_v5 = truncf .bf16 (mainW (arrW m c)) bitsLt_bf16_f32 := by entry_read; rfl
theorem V_WS : V m c main_v10 = truncf .bf16 (smallW (arrW m c)) bitsLt_bf16_f32 := by entry_read; rfl
theorem V_T : V m c main_v24 = truncf .bf16 headTable bitsLt_bf16_f32 := by entry_read; rfl
theorem V_QG : V m c main_v29 = tiled (arrQG m c) := by entry_read; rfl
theorem V_KG : V m c main_v34 = tiled (arrKG m c) := by entry_read; rfl
theorem V_SB : V m c main_v39 = padCol (arrFB m c) (arrDT m c) := by entry_read; rfl
theorem V_AL : V m c main_v44 = padCol (broadcastInDim S8 ![] bcast_S_S8 (constant S_ .f32 0x00000000#32)) (arrAL m c) := by entry_read; rfl

/-! Where the blocks lie. -/

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![t.val, 0] := by decide +kernel
theorem idx10 : ∀ t : Fin cfg0.N, win0_10.index t = ![t.val / 16, 0, t.val % 16] := by decide +kernel
theorem idx11 : ∀ t : Fin cfg0.N, win0_11.index t = ![t.val, 0] := by decide +kernel
theorem idx12 : ∀ t : Fin cfg0.N, win0_12.index t = ![t.val / 16, 0, t.val % 16] := by decide +kernel
theorem idx13 : ∀ t : Fin cfg0.N, win0_13.index t = ![t.val, 0] := by decide +kernel
theorem idx14 : ∀ t : Fin cfg0.N, win0_14.index t = ![t.val, 0] := by decide +kernel
theorem idx15 : ∀ t : Fin cfg0.N, win0_15.index t = ![t.val, 0] := by decide +kernel
theorem idx16 : ∀ t : Fin cfg0.N, win0_16.index t = ![t.val, 0] := by decide +kernel
theorem idx17 : ∀ t : Fin cfg0.N, win0_17.index t = ![t.val, 0] := by decide +kernel
theorem idx18 : ∀ t : Fin cfg0.N, win0_18.index t = ![0, t.val] := by decide +kernel

/-- The row of the arrays that row `r` of a point's blocks is. -/
def rowOf (t : Fin cfg0.N) (r : Fin 512) : Fin 16384 := ⟨t.val * 512 + r.val, by have h : t.val < 32 := t.isLt; omega⟩
/-- The batch a point's rows are of. -/
def batchOf (t : Fin cfg0.N) : Fin 2 := ⟨t.val / 16, by have h : t.val < 32 := t.isLt; omega⟩
/-- The position in its batch of row `r` of a point's rows. -/
def posOf (t : Fin cfg0.N) (r : Fin 512) : Fin 8192 := ⟨t.val % 16 * 512 + r.val, by omega⟩

theorem blk0 (r : Fin 512) (l : Fin 1024) : iblk m c 0 t (ix2 r l) = V m c main_v45 (ix2 (rowOf t r) l) := by
  blk_ext [iblk, idx0 t, rowOf]

theorem blk1 (r : Fin 1) (l : Fin 1024) : iblk m c 1 t (ix2 r l) = V m c main_v15 (ix2 r l) := by
  blk_ext [iblk, idx1 t, rowOf]

theorem blk2 (r : Fin 1024) (l : Fin 5632) : iblk m c 2 t (ix2 r l) = V m c main_v5 (ix2 r l) := by
  blk_ext [iblk, idx2 t, rowOf]

theorem blk3 (r : Fin 1024) (l : Fin 128) : iblk m c 3 t (ix2 r l) = V m c main_v10 (ix2 r l) := by
  blk_ext [iblk, idx3 t, rowOf]

theorem blk4 (r : Fin 512) (l : Fin 512) : iblk m c 4 t (ix2 r l) = V m c main_v24 (ix2 r l) := by
  blk_ext [iblk, idx4 t, rowOf]

theorem blk5 (r : Fin 1) (l : Fin 512) : iblk m c 5 t (ix2 r l) = V m c main_v29 (ix2 r l) := by
  blk_ext [iblk, idx5 t, rowOf]

theorem blk6 (r : Fin 1) (l : Fin 512) : iblk m c 6 t (ix2 r l) = V m c main_v34 (ix2 r l) := by
  blk_ext [iblk, idx6 t, rowOf]

theorem blk7 (r : Fin 128) (l : Fin 1) : iblk m c 7 t (ix2 r l) = V m c main_v39 (ix2 r l) := by
  blk_ext [iblk, idx7 t, rowOf]

theorem blk8 (r : Fin 128) (l : Fin 1) : iblk m c 8 t (ix2 r l) = V m c main_v44 (ix2 r l) := by
  blk_ext [iblk, idx8 t, rowOf]

theorem emb9 (r : Fin 512) (l : Fin 512) : (win0_9.blk t).view.emb (ix2 r l) = ix2 (rowOf t r) l := by
  blk_ext [idx9 t, rowOf]

theorem emb10 (l : Fin 512) (r : Fin 512) : (win0_10.blk t).view.emb (ix3 0 l r) = ix3 (batchOf t) l (posOf t r) := by
  blk_ext [idx10 t, batchOf, posOf]

theorem emb11 (r : Fin 512) (l : Fin 512) : (win0_11.blk t).view.emb (ix2 r l) = ix2 (rowOf t r) l := by
  blk_ext [idx11 t, rowOf]

theorem emb12 (l : Fin 512) (r : Fin 512) : (win0_12.blk t).view.emb (ix3 0 l r) = ix3 (batchOf t) l (posOf t r) := by
  blk_ext [idx12 t, batchOf, posOf]

theorem emb13 (r : Fin 512) (l : Fin 512) : (win0_13.blk t).view.emb (ix2 r l) = ix2 (rowOf t r) l := by
  blk_ext [idx13 t, rowOf]

theorem emb14 (r : Fin 512) (l : Fin 1536) : (win0_14.blk t).view.emb (ix2 r l) = ix2 (rowOf t r) l := by
  blk_ext [idx14 t, rowOf]

theorem emb15 (r : Fin 512) (l : Fin 512) : (win0_15.blk t).view.emb (ix2 r l) = ix2 (rowOf t r) l := by
  blk_ext [idx15 t, rowOf]

theorem emb16 (r : Fin 512) (l : Fin 2048) : (win0_16.blk t).view.emb (ix2 r l) = ix2 (rowOf t r) l := by
  blk_ext [idx16 t, rowOf]

theorem emb17 (r : Fin 512) (l : Fin 128) : (win0_17.blk t).view.emb (ix2 r l) = ix2 (rowOf t r) l := by
  blk_ext [idx17 t, rowOf]

theorem emb18 (l : Fin 16) (r : Fin 512) : (win0_18.blk t).view.emb (ix2 l r) = ix2 l (rowOf t r) := by
  blk_ext [idx18 t, rowOf]

end Cert.Proof.Inputs

end
-- ==== Proof.Inputs.Row.lean ====
/-
  One position of the input projection, over the extended reals: what the kernel and the reference are both shown to compute.
-/
module

public import proofs.«01_k».proof.Proof.Merge.Row
public import Mathlib.Algebra.BigOperators.Fin

@[expose] public section

noncomputable section

namespace Cert.Proof.Inputs

open Idealize.ShloMosaic Cert.Proof.Merge

/-- A head's lanes, 64, as a number. -/
abbrev headLanes : EReal := Ideal.ofBits .f32 0x42800000#32
/-- What the queries are scaled by. -/
abbrev scale : EReal := Ideal.ofBits .f32 0x3E38AA3B#32

/-- The normalized row times a column of the projection. -/
def proj (x g : Fin 1024 → EReal) (w : Fin 1024 → EReal) : EReal := ∑ k, rms x g k * w k

/-- Lane `d` of the head that lane `j` of the eight heads lies in. -/
def mate (j : Fin 512) (d : Fin 64) : Fin 512 := ⟨j.val / 64 * 64 + d.val, by omega⟩

/-- Eight heads, each over the root of its own mean square, times a gain. -/
def headNorm (p : Fin 512 → EReal) (g : Fin 64 → EReal) (j : Fin 512) : EReal :=
  p j * Ideal.rsqrt (Ideal.div (∑ d, p (mate j d) * p (mate j d)) headLanes + eps) * g ⟨j.val % 64, by omega⟩

/-- The softplus function. -/
def softplus (x : EReal) : EReal := max x 0 + Ideal.log1p (Ideal.exp (-max x (-x)))

/-- The softplus function's second part is finite. -/
theorem tail_real (x : EReal) : ∃ r : ℝ, Ideal.log1p (Ideal.exp (-max x (-x))) = (r : EReal) := by
  have hz : Ideal.log1p 0 = ((0 : ℝ) : EReal) := by
    rw [show Ideal.log1p 0 = Ideal.log ((1 : ℝ) : EReal) from congrArg Ideal.log (add_zero _)]
    show (if (1 : ℝ) ≤ 0 then ⊥ else ((Real.log 1 : ℝ) : EReal)) = _
    rw [if_neg (by norm_num), Real.log_one]
  induction x with
  | bot => exact ⟨0, by rw [EReal.neg_bot, max_eq_right bot_le, EReal.neg_top, Ideal.exp_bot, hz]⟩
  | top => exact ⟨0, by rw [max_eq_left le_top, EReal.neg_top, Ideal.exp_bot, hz]⟩
  | coe r =>
    refine ⟨Real.log (1 + Real.exp (-max r (-r))), ?_⟩
    have h : -max (r : EReal) (-r) = ((-max r (-r) : ℝ) : EReal) := by
      rw [← EReal.coe_neg, ← EReal.coe_strictMono.monotone.map_max, ← EReal.coe_neg]
    rw [h]
    show Ideal.log (((1 : ℝ) : EReal) + ((Real.exp (-max r (-r)) : ℝ) : EReal)) = _
    rw [← EReal.coe_add]
    show (if (1 : ℝ) + Real.exp (-max r (-r)) ≤ 0 then ⊥ else _) = _
    rw [if_neg (by have := Real.exp_pos (-max r (-r)); linarith)]

/-- The logarithm of the logistic function, by the sign of its argument. -/
theorem log_sigm (x : EReal) : min x 0 - Ideal.log1p (Ideal.exp (-max x (-x))) = -softplus (-x) := by
  unfold softplus
  rw [neg_neg, max_comm (-x) x]
  obtain ⟨r, hr⟩ := tail_real x
  rw [hr, EReal.neg_add (.inr (EReal.coe_ne_top r)) (.inr (EReal.coe_ne_bot r)), ← EReal.min_neg_neg, neg_neg, neg_zero]

/-- The products of nonnegative numbers with a table that holds `1 / 64` for two lanes of one head and zero for others add up to
    the head's mean. -/
theorem sum_heads (a : Fin 512 → EReal) (h0 : ∀ k, 0 ≤ a k) (G : Fin 512 → EReal) (j : Fin 512)
    (hG : ∀ k, G k = Ideal.div (if k.val / 64 = j.val / 64 then 1 else 0) headLanes) :
    ∑ k, a k * G k = Ideal.div (∑ d, a (mate j d)) headLanes := by
  have hl : headLanes = ((64 : ℝ) : EReal) := by
    simp [headLanes, Ideal.ofBits, Ideal.ieee, -EReal.coe_mul]; norm_num
  have hne : headLanes ≠ 0 := by rw [hl]; exact_mod_cast (by norm_num : (64 : ℝ) ≠ 0)
  have hd : ∀ y, Ideal.div y headLanes = y * headLanes⁻¹ := fun y => by unfold Ideal.div; rw [if_neg hne]
  have hs : ∀ (s : Finset (Fin 64)) (f : Fin 64 → EReal) (c : EReal), (∀ d, 0 ≤ f d) → ∑ d ∈ s, f d * c = (∑ d ∈ s, f d) * c := by
    intro s f c hf
    induction s using Finset.induction_on with
    | empty => simp
    | insert b s hb ih =>
      rw [Finset.sum_insert hb, Finset.sum_insert hb, ih, EReal.right_distrib_of_nonneg (hf b) (Finset.sum_nonneg fun i _ => hf i)]
  rw [hd, ← hs _ _ _ (fun d => h0 _)]
  have he : ∑ k, a k * G k = ∑ p : Fin 8 × Fin 64, a (finProdFinEquiv p) * G (finProdFinEquiv p) :=
    (Fintype.sum_equiv (finProdFinEquiv (m := 8) (n := 64)) _ _ fun _ => rfl).symm
  rw [he, Fintype.sum_prod_type, Finset.sum_eq_single (⟨j.val / 64, by omega⟩ : Fin 8)]
  · refine Finset.sum_congr rfl fun d _ => ?_
    have hm : finProdFinEquiv ((⟨j.val / 64, by omega⟩ : Fin 8), d) = mate j d := Fin.ext (by simp [finProdFinEquiv, mate]; omega)
    rw [hm, hG, if_pos (by simp [mate]; omega), hd, one_mul]
  · intro b _ hb
    refine Finset.sum_eq_zero fun d _ => ?_
    rw [hG, if_neg, hd, zero_mul, mul_zero]
    intro hc
    apply hb
    apply Fin.ext
    simp [finProdFinEquiv] at hc
    show b.val = j.val / 64
    omega
  · simp

/-- A square is not negative. -/
theorem square_nonneg (x : EReal) : 0 ≤ x * x := by
  rcases le_total 0 x with h | h
  · exact mul_nonneg h h
  · exact EReal.mul_nonneg_iff.mpr (.inr ⟨h, h⟩)

end Cert.Proof.Inputs

end
-- ==== Proof.Inputs.Pay.lean ====
/-
  The input projection's body, read entry by entry.
-/
module

public import proofs.«01_k».proof.Proof.Gen.Kernel3Ideal.Value
public import Idealize.ShloMosaic.Lib.Pipeline.ValueKit
public import proofs.«01_k».proof.Proof.Inputs.Row

@[expose] public section

set_option maxRecDepth 16384

noncomputable section

namespace Cert.Proof.Inputs

open Cert.Kernel3Ideal Cert.Kernel3Ideal.Gen Cert.Proof.Merge
open Idealize.ShloMosaic Idealize.ShloMosaic.Tactic

variable (v0 : Vec Ideal S512x1024 .f32) (v12 : Vec Ideal S1x1024 .f32) (v16 : FVec Ideal S512x1024 .bf16) (r : Fin 512)

/-- The normalized row. -/
theorem pay5_apply (k : Fin 1024) : k0_pay5 v0 v12 (ix2 r k) = rms (fun k => v0 (ix2 r k)) (fun k => v12 (ix2 0 k)) k := by
  unfold k0_pay5
  pointwise
  rfl

theorem pay2_apply (w : Vec Ideal S1024x1536 .bf16) (j : Fin 1536) : k0_pay2 v16 w (ix2 r j) = ∑ k, v16 (ix2 r k) * w (ix2 k j) := by
  unfold k0_pay2
  pointwise

theorem pay3_apply (w : Vec Ideal S1024x512 .bf16) (j : Fin 512) : k0_pay3 v16 w (ix2 r j) = ∑ k, v16 (ix2 r k) * w (ix2 k j) := by
  unfold k0_pay3
  pointwise

theorem pay4_apply (w : Vec Ideal S1024x2048 .bf16) (j : Fin 2048) : k0_pay4 v16 w (ix2 r j) = ∑ k, v16 (ix2 r k) * w (ix2 k j) := by
  unfold k0_pay4
  pointwise

theorem pay21_apply (w : Vec Ideal S1024x512 .bf16) (j : Fin 512) : k0_pay21 v16 w (ix2 r j) = ∑ k, v16 (ix2 r k) * w (ix2 k j) := by
  unfold k0_pay21 k0_pay20
  pointwise

theorem pay1_apply (w : Vec Ideal S1024x512 .bf16) (j : Fin 512) : k0_pay1 (k0_pay23 v16 w) (ix3 0 j r) = ∑ k, v16 (ix2 r k) * w (ix2 k j) := by
  unfold k0_pay1 k0_pay23 k0_pay20
  pointwise

/-- The projected row of a head's lanes over the root of its mean square, as the table of the heads gives it. -/
def tabled (t : Fin 512 → EReal) (G : Vec Ideal S512x512 .bf16) (j : Fin 512) : EReal :=
  t j * Ideal.rsqrt ((∑ k, t k * t k * G (ix2 k j)) + eps)

theorem pay17_apply (G : Vec Ideal S512x512 .bf16) (w : Vec Ideal S1024x512 .bf16) (g : Vec Ideal S1x512 .f32) (j : Fin 512) :
    k0_pay17 (k0_pay15 g) (k0_pay16 v16 G w) (ix2 r j) = tabled (fun j => ∑ k, v16 (ix2 r k) * w (ix2 k j)) G j * g (ix2 0 j) * scale := by
  unfold k0_pay17 k0_pay15 k0_pay16 k0_pay14
  pointwise
  rfl

theorem pay18_apply (G : Vec Ideal S512x512 .bf16) (w : Vec Ideal S1024x512 .bf16) (g : Vec Ideal S1x512 .f32) (j : Fin 512) :
    k0_pay18 v16 (k0_pay14 G) w g (ix2 r j) = tabled (fun j => ∑ k, v16 (ix2 r k) * w (ix2 k j)) G j * g (ix2 0 j) := by
  unfold k0_pay18 k0_pay14
  pointwise
  rfl

theorem pay19_apply (G : FVec Ideal S512x512 .bf16) (w : Vec Ideal S1024x512 .bf16) (g : Vec Ideal S1x512 .f32) (j : Fin 512) :
    k0_pay19 v16 G w g (ix2 r j) = k0_pay18 v16 G w g (ix2 r j) := by
  unfold k0_pay19
  pointwise

theorem pay22_apply (G : FVec Ideal S512x512 .bf16) (w : Vec Ideal S1024x512 .bf16) (g : Vec Ideal S1x512 .f32) (j : Fin 512) :
    k0_pay22 v16 G w g (ix3 0 j r) = k0_pay18 v16 G w g (ix2 r j) := by
  unfold k0_pay22
  pointwise

/-- The small columns' sums, before their functions. -/
theorem pay6_apply (w : Vec Ideal S1024x128 .bf16) (b : Vec Ideal S128x1 .f32) (l : Fin 128) :
    k0_pay6 v0 v12 w b (ix2 l r) = (∑ k, k0_pay5 v0 v12 (ix2 r k) * w (ix2 k l)) + b (ix2 l 0) := by
  unfold k0_pay6
  pointwise

/-- The function of a small column: the log of the logistic, the decay, the logistic, and zero in what pads the columns. -/
def smallFn (l : Nat) (z a : EReal) : EReal :=
  if l < 8 then -softplus (-z) else if l < 12 then -Ideal.exp a * softplus z else if l < 16 then sigm z else 0

/-- The small columns. -/
theorem pay11_apply (w : Vec Ideal S1024x128 .bf16) (b a : Vec Ideal S128x1 .f32) (l : Fin 128) :
    k0_pay11 (k0_pay6 v0 v12 w b) (iota .tc S128x512 32 [0] iota_S128x512_d0_w32) (k0_pay7 v0 v12 w b) (k0_pay8 v0 v12 w b) (k0_pay9 a) (k0_pay10 v0 v12 w b) (ix2 l r)
      = smallFn l.val (k0_pay6 v0 v12 w b (ix2 l r)) (a (ix2 l 0)) := by
  unfold k0_pay11 k0_pay8 k0_pay7 k0_pay9 k0_pay10
  generalize k0_pay6 v0 v12 w b = z
  have hc : ∀ n : Fin 128, ∀ x y : EReal, Scalar.select (IntOp.cmpi CmpIPredicate.slt (BitVec.ofNat 32 l.val) (BitVec.ofNat 32 n.val)) x y
      = if l.val < n.val then x else y := by
    intro n x y
    have h : ∀ l n : Fin 128, IntOp.cmpi CmpIPredicate.slt (BitVec.ofNat 32 l.val) (BitVec.ofNat 32 n.val) = BitVec.ofBool (decide (l.val < n.val)) := by
      decide +kernel
    rw [h l n]
    by_cases hl : l.val < n.val
    · rw [if_pos hl, decide_eq_true hl]; rfl
    · rw [if_neg hl, decide_eq_false hl]; rfl
  pointwise
  refine (hc 8 _ _).trans ?_
  unfold smallFn
  refine if_congr Iff.rfl ?_ ?_
  · rw [← log_sigm, zero_sub]
    rfl
  refine (hc 12 _ _).trans (if_congr Iff.rfl ?_ ?_)
  · rw [zero_sub, zero_sub]
    rfl
  refine (hc 16 _ _).trans (if_congr Iff.rfl ?_ rfl)
  exact half_tanh _

theorem pay13_apply (v24 : FVec Ideal S128x512 .f32) (v25 : IVec S128x512 32) (v30 v33 : FVec Ideal S128x512 .f32) (v38 : FVec Ideal S128x1 .f32)
    (v40 : FVec Ideal S128x512 .f32) (l : Fin 128) :
    k0_pay13 v24 v25 v30 v33 v38 v40 (ix2 r l) = k0_pay11 v24 v25 v30 v33 v38 v40 (ix2 l r) := by
  unfold k0_pay13
  pointwise

theorem pay12_apply (v24 : FVec Ideal S128x512 .f32) (v25 : IVec S128x512 32) (v30 v33 : FVec Ideal S128x512 .f32) (v38 : FVec Ideal S128x1 .f32)
    (v40 : FVec Ideal S128x512 .f32) (l : Fin 16) :
    k0_pay12 v24 v25 v30 v33 v38 v40 (ix2 l r) = k0_pay11 v24 v25 v30 v33 v38 v40 (ix2 ⟨l.val, by omega⟩ r) := by
  unfold k0_pay12
  pointwise

end Cert.Proof.Inputs

end
-- ==== Proof.Inputs.Out.lean ====
/-
  What the input projection's body stores, from the blocks it loads.
-/
module

public import proofs.«01_k».proof.Proof.Inputs.Pay

@[expose] public section

set_option maxRecDepth 16384

noncomputable section

namespace Cert.Proof.Inputs

open Cert.Kernel3Ideal Cert.Kernel3Ideal.Gen Cert.Proof.Merge
open Idealize.ShloMosaic Idealize.ShloMosaic.Tactic

/-! A load of a whole block is the block. -/

theorem ld0 {e : EltTy} (x : Vec Ideal S512x1024 e) : View.ld x r0_0 = x := View.ld_unit_zero (S := S512x1024) (by decide) _ x
theorem ld1 {e : EltTy} (x : Vec Ideal S1x1024 e) : View.ld x r0_1 = x := View.ld_unit_zero (S := S1x1024) (by decide) _ x
theorem ld2 {e : EltTy} (x : Vec Ideal S1024x128 e) : View.ld x r0_2 = x := View.ld_unit_zero (S := S1024x128) (by decide) _ x
theorem ld3 {e : EltTy} (x : Vec Ideal S128x1 e) : View.ld x r0_3 = x := View.ld_unit_zero (S := S128x1) (by decide) _ x
theorem ld6 {e : EltTy} (x : Vec Ideal S512x512 e) : View.ld x r0_6 = x := View.ld_unit_zero (S := S512x512) (by decide) _ x
theorem ld8 {e : EltTy} (x : Vec Ideal S1x512 e) : View.ld x r0_8 = x := View.ld_unit_zero (S := S1x512) (by decide) _ x

/-- Column `j` of the `n` columns of the large weight that begin at column `o`. -/
def mcol (o : Nat) {n : Nat} (h : o + n ≤ 5632) (j : Fin n) : Fin 5632 := ⟨o + j.val, by omega⟩

/-! A load of some columns of the large weight. -/

theorem ld7 (x : Vec Ideal S1024x5632 .bf16) (k : Fin 1024) (j : Fin 512) : View.ld x r0_7 (ix2 k j) = x (ix2 k (mcol 0 (by omega) j)) :=
  View.ld_unit_apply_of x _ _ _ _ _ fun a => by match a with | ⟨0, _⟩ => exact (Nat.zero_add _).symm | ⟨1, _⟩ => rfl
theorem ld9 (x : Vec Ideal S1024x5632 .bf16) (k : Fin 1024) (j : Fin 512) : View.ld x r0_9 (ix2 k j) = x (ix2 k (mcol 512 (by omega) j)) :=
  View.ld_unit_apply_of x _ _ _ _ _ fun a => by match a with | ⟨0, _⟩ => exact (Nat.zero_add _).symm | ⟨1, _⟩ => rfl
theorem ld10 (x : Vec Ideal S1024x5632 .bf16) (k : Fin 1024) (j : Fin 512) : View.ld x r0_10 (ix2 k j) = x (ix2 k (mcol 1024 (by omega) j)) :=
  View.ld_unit_apply_of x _ _ _ _ _ fun a => by match a with | ⟨0, _⟩ => exact (Nat.zero_add _).symm | ⟨1, _⟩ => rfl
theorem ld12 (x : Vec Ideal S1024x5632 .bf16) (k : Fin 1024) (j : Fin 1536) : View.ld x r0_12 (ix2 k j) = x (ix2 k (mcol 1536 (by omega) j)) :=
  View.ld_unit_apply_of x _ _ _ _ _ fun a => by match a with | ⟨0, _⟩ => exact (Nat.zero_add _).symm | ⟨1, _⟩ => rfl
theorem ld14 (x : Vec Ideal S1024x5632 .bf16) (k : Fin 1024) (j : Fin 512) : View.ld x r0_14 (ix2 k j) = x (ix2 k (mcol 3072 (by omega) j)) :=
  View.ld_unit_apply_of x _ _ _ _ _ fun a => by match a with | ⟨0, _⟩ => exact (Nat.zero_add _).symm | ⟨1, _⟩ => rfl
theorem ld15 (x : Vec Ideal S1024x5632 .bf16) (k : Fin 1024) (j : Fin 2048) : View.ld x r0_15 (ix2 k j) = x (ix2 k (mcol 3584 (by omega) j)) :=
  View.ld_unit_apply_of x _ _ _ _ _ fun a => by match a with | ⟨0, _⟩ => exact (Nat.zero_add _).symm | ⟨1, _⟩ => rfl

section outs

variable (x0 : Vec Ideal S512x1024 .f32) (x1 : Vec Ideal S1x1024 .f32) (x2 : Vec Ideal S1024x5632 .bf16) (x3 : Vec Ideal S1024x128 .bf16)
    (x4 : Vec Ideal S512x512 .bf16) (x5 x6 : Vec Ideal S1x512 .f32) (x7 x8 : Vec Ideal S128x1 .f32) (r : Fin 512)

/-- Row `r` of a point's block times a column of the large weight. -/
abbrev part (c : Fin 5632) : EReal := proj (fun k => x0 (ix2 r k)) (fun k => x1 (ix2 0 k)) (fun k => x2 (ix2 k c))

/-- The row as the body normalizes it. -/
theorem row_apply (k : Fin 1024) : k0_pay25 x0 x1 x2 x3 x4 x5 x6 x7 x8 (ix2 r k) = rms (fun k => x0 (ix2 r k)) (fun k => x1 (ix2 0 k)) k := by
  unfold k0_pay25
  rw [ld0, ld1, pay5_apply]

theorem out9_apply (j : Fin 512) : out0_9 x0 x1 x2 x3 x4 x5 x6 x7 x8 (ix2 r j)
    = tabled (fun j => part x0 x1 x2 r (mcol 0 (by omega) j)) x4 j * x5 (ix2 0 j) * scale := by
  unfold out0_9
  rw [View.canon_unit_zero (by decide), ld6, ld8]
  exact (pay17_apply _ r _ _ _ j).trans (congrArg (fun t => tabled t x4 j * x5 (ix2 0 j) * scale)
    (funext fun j => Finset.sum_congr rfl fun k _ => congrArg₂ (fun a b : EReal => a * b) (row_apply x0 x1 x2 x3 x4 x5 x6 x7 x8 r k) (ld7 x2 k j)))

theorem key_apply (j : Fin 512) : k0_pay18 (k0_pay25 x0 x1 x2 x3 x4 x5 x6 x7 x8) (k0_pay31 x0 x1 x2 x3 x4 x5 x6 x7 x8) (View.ld x2 r0_9) (View.ld x6 r0_8) (ix2 r j)
    = tabled (fun j => part x0 x1 x2 r (mcol 512 (by omega) j)) x4 j * x6 (ix2 0 j) := by
  unfold k0_pay31
  rw [ld6, ld8]
  exact (pay18_apply _ r _ _ _ j).trans (congrArg (fun t => tabled t x4 j * x6 (ix2 0 j))
    (funext fun j => Finset.sum_congr rfl fun k _ => congrArg₂ (fun a b : EReal => a * b) (row_apply x0 x1 x2 x3 x4 x5 x6 x7 x8 r k) (ld9 x2 k j)))

theorem out11_apply (j : Fin 512) : out0_11 x0 x1 x2 x3 x4 x5 x6 x7 x8 (ix2 r j)
    = tabled (fun j => part x0 x1 x2 r (mcol 512 (by omega) j)) x4 j * x6 (ix2 0 j) := by
  unfold out0_11
  rw [View.canon_unit_zero (by decide)]
  exact (pay19_apply _ r _ _ _ j).trans (key_apply x0 x1 x2 x3 x4 x5 x6 x7 x8 r j)

theorem out10_apply (j : Fin 512) : out0_10 x0 x1 x2 x3 x4 x5 x6 x7 x8 (ix3 0 j r)
    = tabled (fun j => part x0 x1 x2 r (mcol 512 (by omega) j)) x4 j * x6 (ix2 0 j) := by
  unfold out0_10
  rw [View.canon_unit_zero (by decide)]
  exact (pay22_apply _ r _ _ _ j).trans (key_apply x0 x1 x2 x3 x4 x5 x6 x7 x8 r j)

theorem out12_apply (j : Fin 512) : out0_12 x0 x1 x2 x3 x4 x5 x6 x7 x8 (ix3 0 j r) = part x0 x1 x2 r (mcol 1024 (by omega) j) := by
  unfold out0_12
  rw [View.canon_unit_zero (by decide)]
  exact (pay1_apply _ r _ j).trans (Finset.sum_congr rfl fun k _ => congrArg₂ (fun a b : EReal => a * b) (row_apply x0 x1 x2 x3 x4 x5 x6 x7 x8 r k) (ld10 x2 k j))

theorem out13_apply (j : Fin 512) : out0_13 x0 x1 x2 x3 x4 x5 x6 x7 x8 (ix2 r j) = part x0 x1 x2 r (mcol 1024 (by omega) j) := by
  unfold out0_13
  rw [View.canon_unit_zero (by decide)]
  exact (pay21_apply _ r _ j).trans (Finset.sum_congr rfl fun k _ => congrArg₂ (fun a b : EReal => a * b) (row_apply x0 x1 x2 x3 x4 x5 x6 x7 x8 r k) (ld10 x2 k j))

theorem out14_apply (j : Fin 1536) : out0_14 x0 x1 x2 x3 x4 x5 x6 x7 x8 (ix2 r j) = part x0 x1 x2 r (mcol 1536 (by omega) j) := by
  unfold out0_14
  rw [View.canon_unit_zero (by decide)]
  exact (pay2_apply _ r _ j).trans (Finset.sum_congr rfl fun k _ => congrArg₂ (fun a b : EReal => a * b) (row_apply x0 x1 x2 x3 x4 x5 x6 x7 x8 r k) (ld12 x2 k j))

theorem out15_apply (j : Fin 512) : out0_15 x0 x1 x2 x3 x4 x5 x6 x7 x8 (ix2 r j) = part x0 x1 x2 r (mcol 3072 (by omega) j) := by
  unfold out0_15
  rw [View.canon_unit_zero (by decide)]
  exact (pay3_apply _ r _ j).trans (Finset.sum_congr rfl fun k _ => congrArg₂ (fun a b : EReal => a * b) (row_apply x0 x1 x2 x3 x4 x5 x6 x7 x8 r k) (ld14 x2 k j))

theorem out16_apply (j : Fin 2048) : out0_16 x0 x1 x2 x3 x4 x5 x6 x7 x8 (ix2 r j) = part x0 x1 x2 r (mcol 3584 (by omega) j) := by
  unfold out0_16
  rw [View.canon_unit_zero (by decide)]
  exact (pay4_apply _ r _ j).trans (Finset.sum_congr rfl fun k _ => congrArg₂ (fun a b : EReal => a * b) (row_apply x0 x1 x2 x3 x4 x5 x6 x7 x8 r k) (ld15 x2 k j))

/-- A small column before its function. -/
abbrev smallPart (l : Fin 128) : EReal := proj (fun k => x0 (ix2 r k)) (fun k => x1 (ix2 0 k)) (fun k => x3 (ix2 k l)) + x7 (ix2 l 0)

theorem small_at (l : Fin 128) : k0_pay11 (k0_pay26 x0 x1 x2 x3 x4 x5 x6 x7 x8) (k0_pay24 x0 x1 x2 x3 x4 x5 x6 x7 x8) (k0_pay27 x0 x1 x2 x3 x4 x5 x6 x7 x8)
    (k0_pay28 x0 x1 x2 x3 x4 x5 x6 x7 x8) (k0_pay29 x0 x1 x2 x3 x4 x5 x6 x7 x8) (k0_pay30 x0 x1 x2 x3 x4 x5 x6 x7 x8) (ix2 l r)
      = smallFn l.val (smallPart x0 x1 x3 x7 r l) (x8 (ix2 l 0)) := by
  unfold k0_pay26 k0_pay24 k0_pay27 k0_pay28 k0_pay29 k0_pay30
  simp only [ld0, ld1, ld2, ld3]
  rw [pay11_apply, pay6_apply]
  simp only [pay5_apply]
  rfl

theorem out17_apply (l : Fin 128) : out0_17 x0 x1 x2 x3 x4 x5 x6 x7 x8 (ix2 r l) = smallFn l.val (smallPart x0 x1 x3 x7 r l) (x8 (ix2 l 0)) := by
  unfold out0_17
  rw [View.canon_unit_zero (by decide), pay13_apply, small_at]

theorem out18_apply (l : Fin 16) : out0_18 x0 x1 x2 x3 x4 x5 x6 x7 x8 (ix2 l r)
    = smallFn l.val (smallPart x0 x1 x3 x7 r ⟨l.val, by omega⟩) (x8 (ix2 ⟨l.val, by omega⟩ 0)) := by
  unfold out0_18
  rw [View.canon_unit_zero (by decide), pay12_apply, small_at]

end outs

end Cert.Proof.Inputs

end
-- ==== Proof.Inputs.Whole.lean ====
/-
  The ten results of the input projection at a position, from the layer's input and its weights.
-/
module

public import Idealize.ShloMosaic.Lib.Pipeline.ValueKit
public import proofs.«01_k».proof.Proof.Inputs.Row

@[expose] public section

noncomputable section

namespace Cert.Proof.Inputs

open Idealize.ShloMosaic Cert.Proof.Merge

/-- Column `j` of the `n` columns of the projection that begin at column `o`. -/
def col (o : Nat) {n : Nat} (h : o + n ≤ 5648) (j : Fin n) : Fin 5648 := ⟨o + j.val, by omega⟩

/-- A small column of a projected row: eight log forget gates, four log decays, four betas. -/
def smallCol (p : Fin 5648 → EReal) (fb : Fin 8 → EReal) (al dt : Fin 4 → EReal) (l : Fin 16) : EReal :=
  if h : l.val < 8 then -softplus (-(p ⟨1536 + l.val, by omega⟩ + fb ⟨l.val, h⟩))
  else if h' : l.val - 8 < 4 then -Ideal.exp (al ⟨l.val - 8, h'⟩) * softplus (p ⟨3080 + (l.val - 8), by omega⟩ + dt ⟨l.val - 8, h'⟩)
  else sigm (p ⟨3084 + (l.val - 8 - 4), by omega⟩)

end Cert.Proof.Inputs

end
-- ==== Proof.Inputs.Host.lean ====
/-
  The arrays that the host code makes of the weights, read entry by entry.
-/
module

public import proofs.«01_k».proof.Proof.Inputs.Blocks
public import proofs.«01_k».proof.Proof.Inputs.Out
public import proofs.«01_k».proof.Proof.Inputs.Whole

@[expose] public section

set_option maxRecDepth 16384

noncomputable section

namespace Cert.Proof.Inputs

open Cert.Kernel3Ideal Cert.Kernel3Ideal.Gen Cert.Proof.Merge
open Idealize.ShloMosaic Idealize.ShloMosaic.TcCoe Idealize.ShloMosaic.Tactic

/-- A column of the large weight. -/
theorem mainW_apply (W : FVec Ideal S1024x5648 .f32) (k : Fin 1024) (c : Fin 5632) :
    mainW W (ix2 k c) = if h : c.val < 1536 then W (ix2 k ⟨c.val, by omega⟩)
      else if h' : c.val - 1536 < 1536 then W (ix2 k ⟨1544 + (c.val - 1536), by omega⟩) else W (ix2 k ⟨3088 + (c.val - 1536 - 1536), by omega⟩) := by
  unfold mainW
  pointwise

/-! Which columns of the projection the large weight's six groups are. -/

theorem mainW_low (W : FVec Ideal S1024x5648 .f32) (k : Fin 1024) (o : Nat) {n : Nat} (h : o + n ≤ 1536) (j : Fin n) :
    mainW W (ix2 k (mcol o (by omega) j)) = W (ix2 k (col o (by omega) j)) := by
  rw [mainW_apply, dif_pos (show (mcol o _ j).val < 1536 by simp only [mcol]; omega)]
  rfl

theorem mainW_mid (W : FVec Ideal S1024x5648 .f32) (k : Fin 1024) (j : Fin 1536) :
    mainW W (ix2 k (mcol 1536 (by omega) j)) = W (ix2 k (col 1544 (by omega) j)) := by
  rw [mainW_apply, dif_neg (show ¬(mcol 1536 _ j).val < 1536 by simp only [mcol]; omega),
    dif_pos (show (mcol 1536 _ j).val - 1536 < 1536 by simp only [mcol]; omega)]
  exact congrArg (fun c => W (ix2 k c)) (Fin.ext (by simp only [mcol, col]; omega))

theorem mainW_high (W : FVec Ideal S1024x5648 .f32) (k : Fin 1024) (o : Nat) {n : Nat} (h : 3072 ≤ o) (h' : o + n ≤ 5632) (j : Fin n) :
    mainW W (ix2 k (mcol o h' j)) = W (ix2 k (col (o + 16) (by omega) j)) := by
  rw [mainW_apply, dif_neg (show ¬(mcol o _ j).val < 1536 by simp only [mcol]; omega),
    dif_neg (show ¬(mcol o _ j).val - 1536 < 1536 by simp only [mcol]; omega)]
  exact congrArg (fun c => W (ix2 k c)) (Fin.ext (by simp only [mcol, col]; omega))

/-- A column of the small weight. -/
theorem smallW_apply (W : FVec Ideal S1024x5648 .f32) (k : Fin 1024) (l : Fin 16) :
    smallW W (ix2 k ⟨l.val, by omega⟩) = if h : l.val < 8 then W (ix2 k ⟨1536 + l.val, by omega⟩) else W (ix2 k ⟨3080 + (l.val - 8), by omega⟩) := by
  unfold smallW
  pointwise

theorem padCol_apply (a : FVec Ideal S8 .f32) (b : FVec Ideal S4 .f32) (l : Fin 16) :
    padCol a b (ix2 ⟨l.val, by omega⟩ 0) = if h : l.val < 8 then a (ix1 ⟨l.val, h⟩) else if h' : l.val - 8 < 4 then b (ix1 ⟨l.val - 8, h'⟩) else 0 := by
  unfold padCol
  pointwise

/-- A tiled gain. -/
theorem tiled_apply (g : FVec Ideal S64 .f32) (j : Fin 512) : tiled g (ix2 0 j) = g (ix1 ⟨j.val % 64, by omega⟩) := by
  unfold tiled
  pointwise

/-- The head of a lane, as a word. -/
theorem headOf_apply (j : Fin 512) : headOf (ix1 j) = BitVec.ofNat 32 (j.val / 64) := by
  unfold headOf
  pointwise
  revert j
  decide +kernel

/-- The table of the heads. -/
theorem headTable_apply (k j : Fin 512) : headTable (ix2 k j) = Ideal.div (if k.val / 64 = j.val / 64 then 1 else 0) headLanes := by
  unfold headTable
  have h := headOf_apply
  generalize headOf = H at h ⊢
  pointwise
  simp only [h]
  have hw : ∀ a b : Fin 8, IntOp.cmpi CmpIPredicate.eq (BitVec.ofNat 32 a.val) (BitVec.ofNat 32 b.val) = BitVec.ofBool (decide (a.val = b.val)) := by decide +kernel
  have hc : IntOp.cmpi CmpIPredicate.eq (BitVec.ofNat 32 (k.val / 64)) (BitVec.ofNat 32 (j.val / 64)) = BitVec.ofBool (decide (k.val / 64 = j.val / 64)) :=
    hw ⟨k.val / 64, by omega⟩ ⟨j.val / 64, by omega⟩
  rw [hc]
  by_cases hk : k.val / 64 = j.val / 64
  · rw [if_pos hk, decide_eq_true hk]
    refine congrArg (fun x => Ideal.div x headLanes) ?_
    show (((BitVec.ofBool true).toNat : ℝ) : EReal) = 1
    simp
  · rw [if_neg hk, decide_eq_false hk]
    refine congrArg (fun x => Ideal.div x headLanes) ?_
    show (((BitVec.ofBool false).toNat : ℝ) : EReal) = 0
    simp

/-- A head's lanes over the root of the table's mean of their squares, times a tiled gain, are the head's norm. -/
theorem tabled_eq (p : Fin 512 → EReal) (g : FVec Ideal S64 .f32) (j : Fin 512) :
    tabled p (truncf .bf16 headTable bitsLt_bf16_f32) j * tiled g (ix2 0 j) = headNorm p (fun d => g (ix1 d)) j := by
  unfold tabled headNorm
  rw [tiled_apply]
  have h := sum_heads (fun k => p k * p k) (fun k => square_nonneg _) (fun k => headTable (ix2 k j)) j (fun k => headTable_apply k j)
  exact congrArg (fun s => p j * Ideal.rsqrt (s + eps) * g (ix1 ⟨j.val % 64, by omega⟩)) h

/-- The small column that the kernel computes from the padded arrays. -/
theorem smallFn_eq (x g : Fin 1024 → EReal) (W : FVec Ideal S1024x5648 .f32) (fb : FVec Ideal S8 .f32) (al dt : FVec Ideal S4 .f32) (l : Fin 16) :
    smallFn l.val (proj x g (fun k => smallW W (ix2 k ⟨l.val, by omega⟩)) + padCol fb dt (ix2 ⟨l.val, by omega⟩ 0))
        (padCol (broadcastInDim S8 ![] bcast_S_S8 (constant S_ .f32 0x00000000#32)) al (ix2 ⟨l.val, by omega⟩ 0))
      = smallCol (fun c => proj x g (fun k => W (ix2 k c))) (fun l => fb (ix1 l)) (fun l => al (ix1 l)) (fun l => dt (ix1 l)) l := by
  simp only [smallW_apply, padCol_apply]
  unfold smallFn smallCol
  by_cases h : l.val < 8
  · simp only [h, if_true, dif_pos]
  · by_cases h' : l.val - 8 < 4
    · simp only [h, h', show l.val < 12 by omega, if_true, if_false, dif_pos, dif_neg, not_false_eq_true]
    · simp only [h, h', show ¬l.val < 12 by omega, l.isLt, if_true, if_false, dif_neg, not_false_eq_true, add_zero]
      refine congrArg (fun c => sigm (proj x g (fun k => W (ix2 k c)))) (Fin.ext ?_)
      show 3080 + (l.val - 8) = 3084 + (l.val - 8 - 4)
      omega

end Cert.Proof.Inputs

end
-- ==== Proof.Inputs.Array.lean ====
/-
  The arrays that the input projection's run leaves.
-/
module

public import proofs.«01_k».proof.Proof.Inputs.Host

@[expose] public section

set_option maxRecDepth 16384

noncomputable section

namespace Cert.Proof.Inputs

open Cert.Kernel3Ideal Cert.Kernel3Ideal.Gen Cert.Proof.Merge
open Idealize.ShloMosaic Idealize.ShloMosaic.TcCoe Idealize.ShloMosaic.Tactic

variable (m : (ℓ : Loc nD τ sig) → Buf (Elt Ideal) ℓ) (c : Dev nD) (t : Fin cfg0.N)

/-- Row `i` of the input, normalized and projected. -/
def rowP (i : Fin 16384) (c' : Fin 5648) : EReal :=
  proj (fun k => arrX m c (ix2 i k)) (fun k => arrG m c (ix1 k)) (fun k => arrW m c (ix2 k c'))

/-- A row's queries. -/
abbrev queryAt (i : Fin 16384) (j : Fin 512) : EReal := headNorm (fun j => rowP m c i (col 0 (by omega) j)) (fun d => arrQG m c (ix1 d)) j * scale
/-- A row's keys. -/
abbrev keyAt (i : Fin 16384) (j : Fin 512) : EReal := headNorm (fun j => rowP m c i (col 512 (by omega) j)) (fun d => arrKG m c (ix1 d)) j
/-- A row's values. -/
abbrev valueAt (i : Fin 16384) (j : Fin 512) : EReal := rowP m c i (col 1024 (by omega) j)
/-- A row's small columns. -/
abbrev smallAt (i : Fin 16384) (l : Fin 16) : EReal :=
  smallCol (rowP m c i) (fun l => arrFB m c (ix1 l)) (fun l => arrAL m c (ix1 l)) (fun l => arrDT m c (ix1 l)) l
/-- The row of both batches' rows that position `s` of batch `b` is. -/
def flat (b : Fin 2) (s : Fin 8192) : Fin 16384 := ⟨b.val * 8192 + s.val, by omega⟩

/-! The ten results. -/

def qArr : Vec Ideal S16384x512 .bf16 := fun y => queryAt m c (y 0) (y 1)
def ktArr : Vec Ideal S2x512x8192 .f32 := fun y => keyAt m c (flat (y 0) (y 2)) (y 1)
def kArr : Vec Ideal S16384x512 .bf16 := fun y => keyAt m c (y 0) (y 1)
def vtArr : Vec Ideal S2x512x8192 .f32 := fun y => valueAt m c (flat (y 0) (y 2)) (y 1)
def vArr : Vec Ideal S16384x512 .bf16 := fun y => valueAt m c (y 0) (y 1)
def gqkvArr : Vec Ideal S16384x1536 .f32 := fun y => rowP m c (y 0) (col 1544 (n := 1536) (by omega) (y 1))
def gzArr : Vec Ideal S16384x512 .f32 := fun y => rowP m c (y 0) (col 3088 (n := 512) (by omega) (y 1))
def gatesArr : Vec Ideal S16384x2048 .bf16 := fun y => rowP m c (y 0) (col 3600 (n := 2048) (by omega) (y 1))
def sArr : Vec Ideal S16384x128 .f32 := fun y => if h : (y 1).val < 16 then smallAt m c (y 0) ⟨(y 1).val, h⟩ else 0
def stArr : Vec Ideal S16x16384 .f32 := fun y => smallAt m c (y 1) (y 0)

/-- A gain with a unit axis put before it. -/
theorem gain_apply (g : FVec Ideal S1024 .f32) (k : Fin 1024) : shapeCast S1x1024 g shapeCasts_S1024_S1x1024 (ix2 0 k) = g (ix1 k) := by
  pointwise

/-- A column of a point's block is a column of the large weight's projection of its row. -/
theorem part_eq (r : Fin 512) (c' : Fin 5632) : part (iblk m c 0 t) (iblk m c 1 t) (iblk m c 2 t) r c'
    = proj (fun k => arrX m c (ix2 (rowOf t r) k)) (fun k => arrG m c (ix1 k)) (fun k => mainW (arrW m c) (ix2 k c')) := by
  unfold part
  simp only [blk0, blk1, blk2]
  rw [V_X, V_G, V_WM]
  simp only [gain_apply]
  rfl

theorem part_low (r : Fin 512) (o : Nat) {n : Nat} (h : o + n ≤ 1536) (j : Fin n) :
    part (iblk m c 0 t) (iblk m c 1 t) (iblk m c 2 t) r (mcol o (by omega) j) = rowP m c (rowOf t r) (col o (by omega) j) := by
  rw [part_eq]
  simp only [mainW_low _ _ o h j]
  rfl

theorem part_mid (r : Fin 512) (j : Fin 1536) :
    part (iblk m c 0 t) (iblk m c 1 t) (iblk m c 2 t) r (mcol 1536 (by omega) j) = rowP m c (rowOf t r) (col 1544 (by omega) j) := by
  rw [part_eq]
  simp only [mainW_mid]
  rfl

theorem part_high (r : Fin 512) (o : Nat) {n : Nat} (h : 3072 ≤ o) (h' : o + n ≤ 5632) (j : Fin n) :
    part (iblk m c 0 t) (iblk m c 1 t) (iblk m c 2 t) r (mcol o h' j) = rowP m c (rowOf t r) (col (o + 16) (by omega) j) := by
  rw [part_eq]
  simp only [mainW_high _ _ o h h' j]
  rfl

/-- The heads of a point's block, from the table it reads. -/
theorem table_eq : iblk m c 4 t = truncf .bf16 headTable bitsLt_bf16_f32 := by
  funext y
  have hy : y = ix2 ⟨(y 0).val, (y 0).isLt⟩ ⟨(y 1).val, (y 1).isLt⟩ := by
    funext a
    match a with
    | ⟨0, _⟩ => exact Fin.ext rfl
    | ⟨1, _⟩ => exact Fin.ext rfl
  rw [hy]
  exact (blk4 m c t _ _).trans (congrFun (V_T m c) _)

/-- A small column of a point's block. -/
theorem small_eq (r : Fin 512) (l : Fin 16) :
    smallFn l.val (smallPart (iblk m c 0 t) (iblk m c 1 t) (iblk m c 3 t) (iblk m c 7 t) r ⟨l.val, by omega⟩) (iblk m c 8 t (ix2 ⟨l.val, by omega⟩ 0))
      = smallAt m c (rowOf t r) l := by
  unfold smallPart
  simp only [blk0, blk1, blk3, blk7, blk8]
  rw [V_X, V_G, V_WS, V_SB, V_AL]
  simp only [gain_apply]
  exact smallFn_eq _ _ _ _ _ _ l

/-- A point's rows are its batch's. -/
theorem flat_eq (r : Fin 512) : flat (batchOf t) (posOf t r) = rowOf t r := by
  refine Fin.ext ?_
  show t.val / 16 * 8192 + (t.val % 16 * 512 + r.val) = t.val * 512 + r.val
  omega

/-! Each result: what a point's block of it holds, and the array the run leaves. -/

theorem at9 (r : Fin 512) (j : Fin 512) : out0_9 (iblk m c 0 t) (iblk m c 1 t) (iblk m c 2 t) (iblk m c 3 t) (iblk m c 4 t) (iblk m c 5 t) (iblk m c 6 t) (iblk m c 7 t) (iblk m c 8 t) (ix2 r j) = queryAt m c (rowOf t r) j := by
  rw [out9_apply, blk5, V_QG, table_eq]
  simp only [part_low m c t r 0 (n := 512) (by omega)]
  rw [tabled_eq]

theorem arr9 : (dats m 0 c).arrAt 9 cfg0.N = qArr m c := by
  refine (dats m 0 c).arrAt_eq_of_covers 9 _ (by decide +kernel) fun t hf y => ?_
  blk_simp
  rw [after0_9]
  have h0 : (y 0).val < 512 := (y 0).isLt
  have h1 : (y 1).val < 512 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 512) = r
  generalize (⟨(y 1).val, h1⟩ : Fin 512) = j
  exact (at9 m c t r j).trans (congrArg (qArr m c) (emb9 t r j)).symm

theorem at10 (j r : Fin 512) : out0_10 (iblk m c 0 t) (iblk m c 1 t) (iblk m c 2 t) (iblk m c 3 t) (iblk m c 4 t) (iblk m c 5 t) (iblk m c 6 t) (iblk m c 7 t) (iblk m c 8 t) (ix3 0 j r) = keyAt m c (flat (batchOf t) (posOf t r)) j := by
  rw [out10_apply, blk6, V_KG, table_eq, flat_eq]
  simp only [part_low m c t r 512 (n := 512) (by omega)]
  rw [tabled_eq]

theorem arr10 : (dats m 0 c).arrAt 10 cfg0.N = ktArr m c := by
  refine (dats m 0 c).arrAt_eq_of_covers 10 _ (by decide +kernel) fun t hf y => ?_
  blk_simp
  rw [after0_10]
  have h0 : (y 0).val < 1 := (y 0).isLt
  have h1 : (y 1).val < 512 := (y 1).isLt
  have h2 : (y 2).val < 512 := (y 2).isLt
  have hy : y = ix3 (0 : Fin 1) ⟨(y 1).val, h1⟩ ⟨(y 2).val, h2⟩ := by
    funext a
    match a with
    | ⟨0, _⟩ => exact Fin.ext (by show (y 0).val = 0; omega)
    | ⟨1, _⟩ => exact Fin.ext rfl
    | ⟨2, _⟩ => exact Fin.ext rfl
  rw [hy]
  generalize (⟨(y 1).val, h1⟩ : Fin 512) = j
  generalize (⟨(y 2).val, h2⟩ : Fin 512) = r
  exact (at10 m c t j r).trans (congrArg (ktArr m c) (emb10 t j r)).symm

theorem at11 (r : Fin 512) (j : Fin 512) : out0_11 (iblk m c 0 t) (iblk m c 1 t) (iblk m c 2 t) (iblk m c 3 t) (iblk m c 4 t) (iblk m c 5 t) (iblk m c 6 t) (iblk m c 7 t) (iblk m c 8 t) (ix2 r j) = keyAt m c (rowOf t r) j := by
  rw [out11_apply, blk6, V_KG, table_eq]
  simp only [part_low m c t r 512 (n := 512) (by omega)]
  rw [tabled_eq]

theorem arr11 : (dats m 0 c).arrAt 11 cfg0.N = kArr m c := by
  refine (dats m 0 c).arrAt_eq_of_covers 11 _ (by decide +kernel) fun t hf y => ?_
  blk_simp
  rw [after0_11]
  have h0 : (y 0).val < 512 := (y 0).isLt
  have h1 : (y 1).val < 512 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 512) = r
  generalize (⟨(y 1).val, h1⟩ : Fin 512) = j
  exact (at11 m c t r j).trans (congrArg (kArr m c) (emb11 t r j)).symm

theorem at12 (j r : Fin 512) : out0_12 (iblk m c 0 t) (iblk m c 1 t) (iblk m c 2 t) (iblk m c 3 t) (iblk m c 4 t) (iblk m c 5 t) (iblk m c 6 t) (iblk m c 7 t) (iblk m c 8 t) (ix3 0 j r) = valueAt m c (flat (batchOf t) (posOf t r)) j := by
  rw [out12_apply, flat_eq]
  exact part_low m c t r 1024 (n := 512) (by omega) j

theorem arr12 : (dats m 0 c).arrAt 12 cfg0.N = vtArr m c := by
  refine (dats m 0 c).arrAt_eq_of_covers 12 _ (by decide +kernel) fun t hf y => ?_
  blk_simp
  rw [after0_12]
  have h0 : (y 0).val < 1 := (y 0).isLt
  have h1 : (y 1).val < 512 := (y 1).isLt
  have h2 : (y 2).val < 512 := (y 2).isLt
  have hy : y = ix3 (0 : Fin 1) ⟨(y 1).val, h1⟩ ⟨(y 2).val, h2⟩ := by
    funext a
    match a with
    | ⟨0, _⟩ => exact Fin.ext (by show (y 0).val = 0; omega)
    | ⟨1, _⟩ => exact Fin.ext rfl
    | ⟨2, _⟩ => exact Fin.ext rfl
  rw [hy]
  generalize (⟨(y 1).val, h1⟩ : Fin 512) = j
  generalize (⟨(y 2).val, h2⟩ : Fin 512) = r
  exact (at12 m c t j r).trans (congrArg (vtArr m c) (emb12 t j r)).symm

theorem at13 (r : Fin 512) (j : Fin 512) : out0_13 (iblk m c 0 t) (iblk m c 1 t) (iblk m c 2 t) (iblk m c 3 t) (iblk m c 4 t) (iblk m c 5 t) (iblk m c 6 t) (iblk m c 7 t) (iblk m c 8 t) (ix2 r j) = valueAt m c (rowOf t r) j := by
  rw [out13_apply]
  exact part_low m c t r 1024 (n := 512) (by omega) j

theorem arr13 : (dats m 0 c).arrAt 13 cfg0.N = vArr m c := by
  refine (dats m 0 c).arrAt_eq_of_covers 13 _ (by decide +kernel) fun t hf y => ?_
  blk_simp
  rw [after0_13]
  have h0 : (y 0).val < 512 := (y 0).isLt
  have h1 : (y 1).val < 512 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 512) = r
  generalize (⟨(y 1).val, h1⟩ : Fin 512) = j
  exact (at13 m c t r j).trans (congrArg (vArr m c) (emb13 t r j)).symm

theorem at14 (r : Fin 512) (j : Fin 1536) : out0_14 (iblk m c 0 t) (iblk m c 1 t) (iblk m c 2 t) (iblk m c 3 t) (iblk m c 4 t) (iblk m c 5 t) (iblk m c 6 t) (iblk m c 7 t) (iblk m c 8 t) (ix2 r j) = rowP m c (rowOf t r) (col 1544 (by omega) j) := by
  rw [out14_apply]
  exact part_mid m c t r j

theorem arr14 : (dats m 0 c).arrAt 14 cfg0.N = gqkvArr m c := by
  refine (dats m 0 c).arrAt_eq_of_covers 14 _ (by decide +kernel) fun t hf y => ?_
  blk_simp
  rw [after0_14]
  have h0 : (y 0).val < 512 := (y 0).isLt
  have h1 : (y 1).val < 1536 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 512) = r
  generalize (⟨(y 1).val, h1⟩ : Fin 1536) = j
  exact (at14 m c t r j).trans (congrArg (gqkvArr m c) (emb14 t r j)).symm

theorem at15 (r : Fin 512) (j : Fin 512) : out0_15 (iblk m c 0 t) (iblk m c 1 t) (iblk m c 2 t) (iblk m c 3 t) (iblk m c 4 t) (iblk m c 5 t) (iblk m c 6 t) (iblk m c 7 t) (iblk m c 8 t) (ix2 r j) = rowP m c (rowOf t r) (col 3088 (by omega) j) := by
  rw [out15_apply]
  exact part_high m c t r 3072 (n := 512) (by omega) (by omega) j

theorem arr15 : (dats m 0 c).arrAt 15 cfg0.N = gzArr m c := by
  refine (dats m 0 c).arrAt_eq_of_covers 15 _ (by decide +kernel) fun t hf y => ?_
  blk_simp
  rw [after0_15]
  have h0 : (y 0).val < 512 := (y 0).isLt
  have h1 : (y 1).val < 512 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 512) = r
  generalize (⟨(y 1).val, h1⟩ : Fin 512) = j
  exact (at15 m c t r j).trans (congrArg (gzArr m c) (emb15 t r j)).symm

theorem at16 (r : Fin 512) (j : Fin 2048) : out0_16 (iblk m c 0 t) (iblk m c 1 t) (iblk m c 2 t) (iblk m c 3 t) (iblk m c 4 t) (iblk m c 5 t) (iblk m c 6 t) (iblk m c 7 t) (iblk m c 8 t) (ix2 r j) = rowP m c (rowOf t r) (col 3600 (by omega) j) := by
  rw [out16_apply]
  exact part_high m c t r 3584 (n := 2048) (by omega) (by omega) j

theorem arr16 : (dats m 0 c).arrAt 16 cfg0.N = gatesArr m c := by
  refine (dats m 0 c).arrAt_eq_of_covers 16 _ (by decide +kernel) fun t hf y => ?_
  blk_simp
  rw [after0_16]
  have h0 : (y 0).val < 512 := (y 0).isLt
  have h1 : (y 1).val < 2048 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 512) = r
  generalize (⟨(y 1).val, h1⟩ : Fin 2048) = j
  exact (at16 m c t r j).trans (congrArg (gatesArr m c) (emb16 t r j)).symm

theorem at17 (r : Fin 512) (j : Fin 128) : out0_17 (iblk m c 0 t) (iblk m c 1 t) (iblk m c 2 t) (iblk m c 3 t) (iblk m c 4 t) (iblk m c 5 t) (iblk m c 6 t) (iblk m c 7 t) (iblk m c 8 t) (ix2 r j) = if h : j.val < 16 then smallAt m c (rowOf t r) ⟨j.val, h⟩ else 0 := by
  rw [out17_apply]
  by_cases h : j.val < 16
  · rw [dif_pos h]
    exact small_eq m c t r ⟨j.val, h⟩
  · rw [dif_neg h]
    unfold smallFn
    rw [if_neg (by omega), if_neg (by omega), if_neg h]

theorem arr17 : (dats m 0 c).arrAt 17 cfg0.N = sArr m c := by
  refine (dats m 0 c).arrAt_eq_of_covers 17 _ (by decide +kernel) fun t hf y => ?_
  blk_simp
  rw [after0_17]
  have h0 : (y 0).val < 512 := (y 0).isLt
  have h1 : (y 1).val < 128 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 512) = r
  generalize (⟨(y 1).val, h1⟩ : Fin 128) = j
  exact (at17 m c t r j).trans (congrArg (sArr m c) (emb17 t r j)).symm

theorem at18 (r : Fin 16) (j : Fin 512) : out0_18 (iblk m c 0 t) (iblk m c 1 t) (iblk m c 2 t) (iblk m c 3 t) (iblk m c 4 t) (iblk m c 5 t) (iblk m c 6 t) (iblk m c 7 t) (iblk m c 8 t) (ix2 r j) = smallAt m c (rowOf t j) r := by
  rw [out18_apply]
  exact small_eq m c t j r

theorem arr18 : (dats m 0 c).arrAt 18 cfg0.N = stArr m c := by
  refine (dats m 0 c).arrAt_eq_of_covers 18 _ (by decide +kernel) fun t hf y => ?_
  blk_simp
  rw [after0_18]
  have h0 : (y 0).val < 16 := (y 0).isLt
  have h1 : (y 1).val < 512 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 16) = r
  generalize (⟨(y 1).val, h1⟩ : Fin 512) = j
  exact (at18 m c t r j).trans (congrArg (stArr m c) (emb18 t r j)).symm

end Cert.Proof.Inputs

end
-- ==== Proof.Inputs.Ref.lean ====
/-
  The reference of the input projection, read entry by entry.
-/
module

public import proofs.«01_k».proof.Proof.Gen.Reference3Ideal.Run
public import Idealize.ShloMosaic.Lib.Pipeline.ValueKit
public import proofs.«01_k».proof.Proof.Inputs.Whole

@[expose] public section

set_option maxRecDepth 16384

noncomputable section

namespace Cert.Proof.Inputs.Ref

open Cert.Reference3Ideal Cert.Reference3Ideal.Gen Cert.Reference3Ideal.Value Cert.Proof.Merge
open Idealize.ShloMosaic Idealize.ShloMosaic.Tactic

/-- The rows over the roots of their mean squares, times a gain. -/
def norm (X : FVec Ideal S16384x1024 .f32) (g : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The projection of the normalized rows. -/
def projected (X : FVec Ideal S16384x1024 .f32) (g : FVec Ideal S1024 .f32) (W : FVec Ideal S1024x5648 .f32) : FVec Ideal S16384x5648 .f32 :=
  Host.dotGeneral dot_S16384x1024_S1024x5648_S16384x5648_1_0_0_1_n_n none (norm X g) W

/-- Eight heads of 64 lanes, each over the root of its mean square, times a gain. -/
def heads (A : FVec Ideal S16384x512 .f32) (g : FVec Ideal S64 .f32) : FVec Ideal S16384x512 .f32 :=
  shapeCast _ (mulf (mulf (shapeCast _ A shapeCasts_S16384x512_S16384x8x64) (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf (shapeCast _ A shapeCasts_S16384x512_S16384x8x64) (shapeCast _ A shapeCasts_S16384x512_S16384x8x64)) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x358637BD#32)))))) (broadcastInDim S16384x8x64 ![0, 1, 2] bcast_S1x1x64_S16384x8x64_0_1_2 (broadcastInDim S1x1x64 ![2] bcast_S64_S1x1x64_2 g))) shapeCasts_S16384x8x64_S16384x512

/-- The softplus function, as it is written for eight columns. -/
def soft8 (A : FVec Ideal S16384x8 .f32) : FVec Ideal S16384x8 .f32 :=
  select (cmpf .une (subf A (broadcastInDim S16384x8 ![] bcast_S_S16384x8 (constant S_ .f32 0x00000000#32))) (subf A (broadcastInDim S16384x8 ![] bcast_S_S16384x8 (constant S_ .f32 0x00000000#32)))) (addf A (broadcastInDim S16384x8 ![] bcast_S_S16384x8 (constant S_ .f32 0x00000000#32))) (addf (maximumf A (broadcastInDim S16384x8 ![] bcast_S_S16384x8 (constant S_ .f32 0x00000000#32))) (Host.log1p (Host.exp (Host.negf (Host.absf (subf A (broadcastInDim S16384x8 ![] bcast_S_S16384x8 (constant S_ .f32 0x00000000#32))))))))

/-- The softplus function, as it is written for four columns. -/
def soft4 (A : FVec Ideal S16384x4 .f32) : FVec Ideal S16384x4 .f32 :=
  select (cmpf .une (subf A (broadcastInDim S16384x4 ![] bcast_S_S16384x4 (constant S_ .f32 0x00000000#32))) (subf A (broadcastInDim S16384x4 ![] bcast_S_S16384x4 (constant S_ .f32 0x00000000#32)))) (addf A (broadcastInDim S16384x4 ![] bcast_S_S16384x4 (constant S_ .f32 0x00000000#32))) (addf (maximumf A (broadcastInDim S16384x4 ![] bcast_S_S16384x4 (constant S_ .f32 0x00000000#32))) (Host.log1p (Host.exp (Host.negf (Host.absf (subf A (broadcastInDim S16384x4 ![] bcast_S_S16384x4 (constant S_ .f32 0x00000000#32))))))))

/-- The log forget gates. -/
def logf (P : FVec Ideal S16384x5648 .f32) (fb : FVec Ideal S8 .f32) : FVec Ideal S16384x8 .f32 :=
  Host.negf (soft8 (Host.negf (addf (extractStridedSlice S16384x8 ![0, 1536] P slices_S16384x5648_S16384x8_0_1536) (broadcastInDim S16384x8 ![0, 1] bcast_S1x8_S16384x8_0_1 (broadcastInDim S1x8 ![1] bcast_S8_S1x8_1 fb)))))

/-- The log decays. -/
def decay (P : FVec Ideal S16384x5648 .f32) (al dt : FVec Ideal S4 .f32) : FVec Ideal S16384x4 .f32 :=
  mulf (broadcastInDim S16384x4 ![0, 1] bcast_S1x4_S16384x4_0_1 (broadcastInDim S1x4 ![1] bcast_S4_S1x4_1 (Host.negf (Host.exp al)))) (soft4 (addf (extractStridedSlice S16384x4 ![0, 3080] P slices_S16384x5648_S16384x4_0_3080) (broadcastInDim S16384x4 ![0, 1] bcast_S1x4_S16384x4_0_1 (broadcastInDim S1x4 ![1] bcast_S4_S1x4_1 dt))))

/-- The betas. -/
def beta (P : FVec Ideal S16384x5648 .f32) : FVec Ideal S16384x4 .f32 :=
  Host.divf (broadcastInDim S16384x4 ![] bcast_S_S16384x4 (constant S_ .f32 0x3F800000#32)) (addf (broadcastInDim S16384x4 ![] bcast_S_S16384x4 (constant S_ .f32 0x3F800000#32)) (Host.exp (Host.negf (extractStridedSlice S16384x4 ![0, 3084] P slices_S16384x5648_S16384x4_0_3084))))

/-- The sixteen small columns. -/
def small (P : FVec Ideal S16384x5648 .f32) (fb : FVec Ideal S8 .f32) (al dt : FVec Ideal S4 .f32) : FVec Ideal S16384x16 .f32 :=
  concatenate S16384x16 1 [⟨S16384x8, logf P fb⟩, ⟨S16384x4, decay P al dt⟩, ⟨S16384x4, beta P⟩] concatenates_S16384x8_S16384x4_S16384x4_S16384x16_d1

/-- The feature-major form of rows of two batches. -/
def featureMajor (A : FVec Ideal S16384x512 .f32) : FVec Ideal S2x512x8192 .f32 :=
  transpose S2x512x8192 [0, 2, 1] (shapeCast _ A shapeCasts_S16384x512_S2x8192x512) transposes_S2x8192x512_S2x512x8192_0_2_1

section entries

variable (i : Fin 16384)

theorem norm_apply (X : FVec Ideal S16384x1024 .f32) (g : FVec Ideal S1024 .f32) (j : Fin 1024) :
    norm X g (ix2 i j) = rms (fun k => X (ix2 i k)) (fun k => g (ix1 k)) j := by
  unfold norm
  pointwise
  rfl

theorem projected_apply (X : FVec Ideal S16384x1024 .f32) (g : FVec Ideal S1024 .f32) (W : FVec Ideal S1024x5648 .f32) (c : Fin 5648) :
    projected X g W (ix2 i c) = proj (fun k => X (ix2 i k)) (fun k => g (ix1 k)) (fun k => W (ix2 k c)) := by
  unfold projected proj
  simp only [← norm_apply]
  generalize norm X g = N
  pointwise

theorem heads_apply (A : FVec Ideal S16384x512 .f32) (g : FVec Ideal S64 .f32) (j : Fin 512) :
    heads A g (ix2 i j) = headNorm (fun j => A (ix2 i j)) (fun d => g (ix1 d)) j := by
  unfold heads headNorm
  pointwise
  rfl

theorem featureMajor_apply (A : FVec Ideal S16384x512 .f32) (b : Fin 2) (s : Fin 8192) (j : Fin 512) :
    featureMajor A (ix3 b j s) = A (ix2 ⟨b.val * 8192 + s.val, by omega⟩ j) := by
  unfold featureMajor
  pointwise

theorem soft8_apply (A : FVec Ideal S16384x8 .f32) (l : Fin 8) : soft8 A (ix2 i l) = softplus (A (ix2 i l)) := by
  unfold soft8 softplus
  pointwise
  exact if_neg fun h => h rfl

theorem soft4_apply (A : FVec Ideal S16384x4 .f32) (l : Fin 4) : soft4 A (ix2 i l) = softplus (A (ix2 i l)) := by
  unfold soft4 softplus
  pointwise
  exact if_neg fun h => h rfl

theorem logf_apply (P : FVec Ideal S16384x5648 .f32) (fb : FVec Ideal S8 .f32) (l : Fin 8) :
    logf P fb (ix2 i l) = -softplus (-(P (ix2 i ⟨1536 + l.val, by omega⟩) + fb (ix1 l))) := by
  unfold logf
  refine (congrArg Neg.neg (soft8_apply i _ l)).trans ?_
  pointwise

theorem decay_apply (P : FVec Ideal S16384x5648 .f32) (al dt : FVec Ideal S4 .f32) (l : Fin 4) :
    decay P al dt (ix2 i l) = -Ideal.exp (al (ix1 l)) * softplus (P (ix2 i ⟨3080 + l.val, by omega⟩) + dt (ix1 l)) := by
  unfold decay
  refine (congrArg₂ (fun a b : EReal => a * b) rfl (soft4_apply i _ l)).trans ?_
  pointwise

theorem beta_apply (P : FVec Ideal S16384x5648 .f32) (l : Fin 4) :
    beta P (ix2 i l) = sigm (P (ix2 i ⟨3084 + l.val, by omega⟩)) := by
  unfold beta sigm
  simp only [← one_eq]
  pointwise

theorem small_apply (P : FVec Ideal S16384x5648 .f32) (fb : FVec Ideal S8 .f32) (al dt : FVec Ideal S4 .f32) (l : Fin 16) :
    small P fb al dt (ix2 i l) = smallCol (fun c => P (ix2 i c)) (fun l => fb (ix1 l)) (fun l => al (ix1 l)) (fun l => dt (ix1 l)) l := by
  unfold small smallCol
  have hA := fun l => logf_apply i P fb l
  have hB := fun l => decay_apply i P al dt l
  have hC := fun l => beta_apply i P l
  generalize logf P fb = A at hA ⊢
  generalize decay P al dt = B at hB ⊢
  generalize beta P = C at hC ⊢
  pointwise
  simp only [hA, hB, hC]

/-- The small columns with zeros after them. -/
def padded (S : FVec Ideal S16384x16 .f32) : FVec Ideal S16384x128 .f32 :=
  concatenate S16384x128 1 [⟨S16384x16, S⟩, ⟨S16384x112, broadcastInDim S16384x112 ![] bcast_S_S16384x112 (constant S_ .f32 0x00000000#32)⟩] concatenates_S16384x16_S16384x112_S16384x128_d1

theorem padded_apply (S : FVec Ideal S16384x16 .f32) (l : Fin 128) :
    padded S (ix2 i l) = if h : l.val < 16 then S (ix2 i ⟨l.val, h⟩) else 0 := by
  unfold padded
  pointwise

theorem turned_apply (S : FVec Ideal S16384x16 .f32) (l : Fin 16) :
    transpose S16x16384 [1, 0] S transposes_S16384x16_S16x16384_1_0 (ix2 l i) = S (ix2 i l) := by
  pointwise

/-- The columns of the queries. -/
theorem slice_q (P : FVec Ideal S16384x5648 .f32) (j : Fin 512) :
    extractStridedSlice S16384x512 ![0, 0] P slices_S16384x5648_S16384x512_0_0 (ix2 i j) = P (ix2 i (col 0 (by omega) j)) := by
  pointwise
  exact congrArg (fun c => P (ix2 i c)) (Fin.ext (Nat.zero_add _).symm)

/-- The columns of the keys. -/
theorem slice_k (P : FVec Ideal S16384x5648 .f32) (j : Fin 512) :
    extractStridedSlice S16384x512 ![0, 512] P slices_S16384x5648_S16384x512_0_512 (ix2 i j) = P (ix2 i (col 512 (by omega) j)) := by
  pointwise
  rfl

/-- The columns of the values. -/
theorem slice_v (P : FVec Ideal S16384x5648 .f32) (j : Fin 512) :
    extractStridedSlice S16384x512 ![0, 1024] P slices_S16384x5648_S16384x512_0_1024 (ix2 i j) = P (ix2 i (col 1024 (by omega) j)) := by
  pointwise
  rfl

/-- The columns of the delta branch's inputs. -/
theorem slice_gqkv (P : FVec Ideal S16384x5648 .f32) (j : Fin 1536) :
    extractStridedSlice S16384x1536 ![0, 1544] P slices_S16384x5648_S16384x1536_0_1544 (ix2 i j) = P (ix2 i (col 1544 (by omega) j)) := by
  pointwise
  rfl

/-- The columns of the delta branch's output gate. -/
theorem slice_gz (P : FVec Ideal S16384x5648 .f32) (j : Fin 512) :
    extractStridedSlice S16384x512 ![0, 3088] P slices_S16384x5648_S16384x512_0_3088 (ix2 i j) = P (ix2 i (col 3088 (by omega) j)) := by
  pointwise
  rfl

/-- The columns of the merge gates. -/
theorem slice_gates (P : FVec Ideal S16384x5648 .f32) (j : Fin 2048) :
    extractStridedSlice S16384x2048 ![0, 3600] P slices_S16384x5648_S16384x2048_0_3600 (ix2 i j) = P (ix2 i (col 3600 (by omega) j)) := by
  pointwise
  rfl

/-! The results, from the reshaped arguments. -/

variable (X : FVec Ideal S16384x1024 .f32) (g : FVec Ideal S1024 .f32) (W : FVec Ideal S1024x5648 .f32) (hg : FVec Ideal S64 .f32)
    (fb : FVec Ideal S8 .f32) (al dt : FVec Ideal S4 .f32)

/-- Row `i` normalized and projected. -/
abbrev rowOfP (c : Fin 5648) : EReal := proj (fun k => X (ix2 i k)) (fun k => g (ix1 k)) (fun k => W (ix2 k c))

/-- The queries, normalized and scaled. -/
def resQ : Vec Ideal S16384x512 .bf16 :=
  truncf .bf16 (mulf (heads (extractStridedSlice S16384x512 ![0, 0] (projected X g W) slices_S16384x5648_S16384x512_0_0) hg) (broadcastInDim S16384x512 ![] bcast_S_S16384x512 (constant S_ .f32 0x3E38AA3B#32))) bitsLt_bf16_f32
/-- The keys, normalized. -/
def keys : FVec Ideal S16384x512 .f32 := heads (extractStridedSlice S16384x512 ![0, 512] (projected X g W) slices_S16384x5648_S16384x512_0_512) hg
/-- The values. -/
def values : FVec Ideal S16384x512 .f32 := extractStridedSlice S16384x512 ![0, 1024] (projected X g W) slices_S16384x5648_S16384x512_0_1024

/-- A key's entry, from its row. -/
theorem keys_apply (j : Fin 512) : keys X g W hg (ix2 i j) = headNorm (fun j => rowOfP i X g W (col 512 (by omega) j)) (fun d => hg (ix1 d)) j := by
  unfold keys
  rw [heads_apply]
  simp only [slice_k, projected_apply]

/-- A value's entry, from its row. -/
theorem values_apply (j : Fin 512) : values X g W (ix2 i j) = rowOfP i X g W (col 1024 (by omega) j) := by
  unfold values
  rw [slice_v, projected_apply]

/-- A query's entry, from its row. -/
theorem resQ_apply (j : Fin 512) : resQ X g W hg (ix2 i j) = headNorm (fun j => rowOfP i X g W (col 0 (by omega) j)) (fun d => hg (ix1 d)) j * scale := by
  unfold resQ
  refine (congrArg (fun a : EReal => a * scale) (heads_apply i _ hg j)).trans ?_
  simp only [slice_q, projected_apply]

/-- A key's entry, feature by feature. -/
theorem resKt_apply (b : Fin 2) (s : Fin 8192) (j : Fin 512) : featureMajor (keys X g W hg) (ix3 b j s)
    = headNorm (fun j => rowOfP ⟨b.val * 8192 + s.val, by omega⟩ X g W (col 512 (by omega) j)) (fun d => hg (ix1 d)) j := by
  rw [featureMajor_apply, keys_apply]

/-- A value's entry, feature by feature. -/
theorem resVt_apply (b : Fin 2) (s : Fin 8192) (j : Fin 512) : featureMajor (values X g W) (ix3 b j s)
    = rowOfP ⟨b.val * 8192 + s.val, by omega⟩ X g W (col 1024 (by omega) j) := by
  rw [featureMajor_apply, values_apply]

/-- A log gate, log decay or beta, from its row. -/
theorem smalls_apply (l : Fin 16) : small (projected X g W) fb al dt (ix2 i l)
    = smallCol (rowOfP i X g W) (fun l => fb (ix1 l)) (fun l => al (ix1 l)) (fun l => dt (ix1 l)) l := by
  rw [small_apply]
  simp only [projected_apply]

end entries

end Cert.Proof.Inputs.Ref

end
-- ==== Proof.Inputs.Results.lean ====
/-
  What the reference of the input projection leaves, by the functions it is read through.
-/
module

public import proofs.«01_k».proof.Proof.Inputs.Ref

@[expose] public section

set_option maxRecDepth 16384

noncomputable section

namespace Cert.Proof.Inputs.Ref

open Cert.Reference3Ideal Cert.Reference3Ideal.Gen Cert.Reference3Ideal.Value
open Idealize.ShloMosaic Idealize.SL.Sem

variable (m : (ℓ : Loc nD τ sig) → Buf (Elt Ideal) ℓ) (c : Dev nD)

/-! The arguments, with the batches' rows one after another and the layer's axis dropped. -/

def refX : FVec Ideal S16384x1024 .f32 := shapeCast S16384x1024 (m ((c.tc : Thread nD τ).loc main_arg0)) shapeCasts_S2x8192x1024_S16384x1024
def refG : FVec Ideal S1024 .f32 := shapeCast S1024 (m ((c.tc : Thread nD τ).loc main_arg1)) shapeCasts_S1x1024_S1024
def refW : FVec Ideal S1024x5648 .f32 := shapeCast S1024x5648 (m ((c.tc : Thread nD τ).loc main_arg2)) shapeCasts_S1x1024x5648_S1024x5648
def refFB : FVec Ideal S8 .f32 := shapeCast S8 (m ((c.tc : Thread nD τ).loc main_arg3)) shapeCasts_S1x8_S8
def refQG : FVec Ideal S64 .f32 := shapeCast S64 (m ((c.tc : Thread nD τ).loc main_arg4)) shapeCasts_S1x64_S64
def refKG : FVec Ideal S64 .f32 := shapeCast S64 (m ((c.tc : Thread nD τ).loc main_arg5)) shapeCasts_S1x64_S64
def refAL : FVec Ideal S4 .f32 := shapeCast S4 (m ((c.tc : Thread nD τ).loc main_arg6)) shapeCasts_S1x4_S4
def refDT : FVec Ideal S4 .f32 := shapeCast S4 (m ((c.tc : Thread nD τ).loc main_arg7)) shapeCasts_S1x4_S4

/-- The reference's run, with its ten results so written. -/
theorem run_results (g : Dev nD → PrngReg) :
    θ_run (defs (F := Ideal)) (onTc (τ := τ) (main (F := Ideal))) ⟨m, fun _ => 0, g⟩ fun r => ∀ c : Dev nD,
      r.2.mem ((c.tc : Thread nD τ).loc main_v83) = resQ (refX m c) (refG m c) (refW m c) (refQG m c)
      ∧ r.2.mem ((c.tc : Thread nD τ).loc main_v85) = featureMajor (keys (refX m c) (refG m c) (refW m c) (refKG m c))
      ∧ r.2.mem ((c.tc : Thread nD τ).loc main_v86) = truncf .bf16 (keys (refX m c) (refG m c) (refW m c) (refKG m c)) bitsLt_bf16_f32
      ∧ r.2.mem ((c.tc : Thread nD τ).loc main_v88) = featureMajor (values (refX m c) (refG m c) (refW m c))
      ∧ r.2.mem ((c.tc : Thread nD τ).loc main_v89) = truncf .bf16 (values (refX m c) (refG m c) (refW m c)) bitsLt_bf16_f32
      ∧ r.2.mem ((c.tc : Thread nD τ).loc main_v21) = extractStridedSlice S16384x1536 ![0, 1544] (projected (refX m c) (refG m c) (refW m c)) slices_S16384x5648_S16384x1536_0_1544
      ∧ r.2.mem ((c.tc : Thread nD τ).loc main_v24) = extractStridedSlice S16384x512 ![0, 3088] (projected (refX m c) (refG m c) (refW m c)) slices_S16384x5648_S16384x512_0_3088
      ∧ r.2.mem ((c.tc : Thread nD τ).loc main_v90) = truncf .bf16 (extractStridedSlice S16384x2048 ![0, 3600] (projected (refX m c) (refG m c) (refW m c)) slices_S16384x5648_S16384x2048_0_3600) bitsLt_bf16_f32
      ∧ r.2.mem ((c.tc : Thread nD τ).loc main_v92) = padded (small (projected (refX m c) (refG m c) (refW m c)) (refFB m c) (refAL m c) (refDT m c))
      ∧ r.2.mem ((c.tc : Thread nD τ).loc main_v93) = transpose S16x16384 [1, 0] (small (projected (refX m c) (refG m c) (refW m c)) (refFB m c) (refAL m c) (refDT m c)) transposes_S16384x16_S16x16384_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (Cert.Reference3Ideal.Value.run m g)
  obtain ⟨h0, h1, h2, h3, h4, h5, h6, h7, h8, h9, hr⟩ := h c
  exact ⟨h0, h1, h2, h3, h4, h5, h6, h7, h8, h9, hr⟩

end Cert.Proof.Inputs.Ref

end
-- ==== Proof.Inputs.Equal.lean ====
/-
  The value claim of the input projection: from memories that agree on the arguments, whatever these hold, the kernel and the
  reference leave the same ten arrays.
-/
module

public import proofs.«01_k».proof.Defs
public import proofs.«01_k».proof.Proof.Inputs.Array
public import proofs.«01_k».proof.Proof.Inputs.Results

@[expose] public section

set_option maxRecDepth 16384

noncomputable section

namespace Cert.Proof.Inputs

open Idealize.ShloMosaic Idealize.SL.Sem

section results

variable (m : (ℓ : Loc Cert.Kernel3Ideal.nD Cert.Kernel3Ideal.τ Cert.Kernel3Ideal.sig) → Buf (Elt Ideal) ℓ) (c : Dev Cert.Kernel3Ideal.nD)

/-- The queries: the reference's array is the kernel's. -/
theorem q_eq : Ref.resQ (arrX m c) (arrG m c) (arrW m c) (arrQG m c)
    = qArr m c := by
  funext y
  exact (congrArg _ (eq_ix2 y)).trans (Ref.resQ_apply (y 0) (arrX m c) (arrG m c) (arrW m c) (arrQG m c) (y 1))

/-- The keys, feature by feature: the reference's array is the kernel's. -/
theorem kt_eq : Ref.featureMajor (Ref.keys (arrX m c) (arrG m c) (arrW m c) (arrKG m c))
    = ktArr m c := by
  funext y
  exact (congrArg _ (eq_ix3 y)).trans (Ref.resKt_apply (arrX m c) (arrG m c) (arrW m c) (arrKG m c) (y 0) (y 2) (y 1))

/-- The keys, row by row: the reference's array is the kernel's. -/
theorem k_eq : truncf .bf16 (Ref.keys (arrX m c) (arrG m c) (arrW m c) (arrKG m c)) Cert.Reference3Ideal.Gen.bitsLt_bf16_f32
    = kArr m c := by
  funext y
  exact (congrArg _ (eq_ix2 y)).trans (Ref.keys_apply (y 0) (arrX m c) (arrG m c) (arrW m c) (arrKG m c) (y 1))

/-- The values, feature by feature: the reference's array is the kernel's. -/
theorem vt_eq : Ref.featureMajor (Ref.values (arrX m c) (arrG m c) (arrW m c))
    = vtArr m c := by
  funext y
  exact (congrArg _ (eq_ix3 y)).trans (Ref.resVt_apply (arrX m c) (arrG m c) (arrW m c) (y 0) (y 2) (y 1))

/-- The values, row by row: the reference's array is the kernel's. -/
theorem v_eq : truncf .bf16 (Ref.values (arrX m c) (arrG m c) (arrW m c)) Cert.Reference3Ideal.Gen.bitsLt_bf16_f32
    = vArr m c := by
  funext y
  exact (congrArg _ (eq_ix2 y)).trans (Ref.values_apply (y 0) (arrX m c) (arrG m c) (arrW m c) (y 1))

/-- The delta branch's inputs: the reference's array is the kernel's. -/
theorem gqkv_eq : extractStridedSlice Cert.Reference3Ideal.S16384x1536 ![0, 1544] (Ref.projected (arrX m c) (arrG m c) (arrW m c)) Cert.Reference3Ideal.Gen.slices_S16384x5648_S16384x1536_0_1544
    = gqkvArr m c := by
  funext y
  exact (congrArg _ (eq_ix2 y)).trans ((Ref.slice_gqkv (y 0) _ (y 1)).trans (Ref.projected_apply (y 0) (arrX m c) (arrG m c) (arrW m c) _))

/-- The delta branch's output gate: the reference's array is the kernel's. -/
theorem gz_eq : extractStridedSlice Cert.Reference3Ideal.S16384x512 ![0, 3088] (Ref.projected (arrX m c) (arrG m c) (arrW m c)) Cert.Reference3Ideal.Gen.slices_S16384x5648_S16384x512_0_3088
    = gzArr m c := by
  funext y
  exact (congrArg _ (eq_ix2 y)).trans ((Ref.slice_gz (y 0) _ (y 1)).trans (Ref.projected_apply (y 0) (arrX m c) (arrG m c) (arrW m c) _))

/-- The merge gates: the reference's array is the kernel's. -/
theorem gates_eq : truncf .bf16 (extractStridedSlice Cert.Reference3Ideal.S16384x2048 ![0, 3600] (Ref.projected (arrX m c) (arrG m c) (arrW m c)) Cert.Reference3Ideal.Gen.slices_S16384x5648_S16384x2048_0_3600) Cert.Reference3Ideal.Gen.bitsLt_bf16_f32
    = gatesArr m c := by
  funext y
  exact (congrArg _ (eq_ix2 y)).trans ((Ref.slice_gates (y 0) _ (y 1)).trans (Ref.projected_apply (y 0) (arrX m c) (arrG m c) (arrW m c) _))

/-- The log gates, log decays and betas, padded: the reference's array is the kernel's. -/
theorem s_eq : Ref.padded (Ref.small (Ref.projected (arrX m c) (arrG m c) (arrW m c)) (arrFB m c) (arrAL m c) (arrDT m c))
    = sArr m c := by
  funext y
  refine (congrArg _ (eq_ix2 y)).trans ((Ref.padded_apply (y 0) _ (y 1)).trans ?_)
  have hs := fun l => Ref.smalls_apply (y 0) (arrX m c) (arrG m c) (arrW m c) (arrFB m c) (arrAL m c) (arrDT m c) l
  show _ = if h : (y 1).val < 16 then smallAt m c (y 0) ⟨(y 1).val, h⟩ else 0
  exact dite_congr rfl (fun h => hs ⟨(y 1).val, h⟩) fun _ => rfl

/-- The log gates, log decays and betas, one row each: the reference's array is the kernel's. -/
theorem st_eq : transpose Cert.Reference3Ideal.S16x16384 [1, 0] (Ref.small (Ref.projected (arrX m c) (arrG m c) (arrW m c)) (arrFB m c) (arrAL m c) (arrDT m c)) Cert.Reference3Ideal.Gen.transposes_S16384x16_S16x16384_1_0
    = stArr m c := by
  funext y
  exact (congrArg _ (eq_ix2 y)).trans ((Ref.turned_apply (y 1) _ (y 0)).trans
    (Ref.smalls_apply (y 1) (arrX m c) (arrG m c) (arrW m c) (arrFB m c) (arrAL m c) (arrDT m c) (y 0)))

end results

set_option maxHeartbeats 4000000 in
/-- The kernel and the reference end with equal results. -/
theorem algebraic : Cert.algebraic_Kernel3Ideal_Reference3Ideal := fun m g m' g' _ hag => by
  refine ⟨fun c => qArr m c, fun c => ktArr m c, fun c => kArr m c, fun c => vtArr m c, fun c => vArr m c, fun c => gqkvArr m c, fun c => gzArr m c,
    fun c => gatesArr m c, fun c => sArr m c, fun c => stArr m c, ?_, ?_⟩
  · refine (θ_run _ _ _).mono (fun r h c => ?_) (Cert.Kernel3Ideal.Value.run_blocks m g)
    obtain ⟨h9, h10, h11, h12, h13, h14, h15, h16, h17, h18, hr⟩ := h c
    exact ⟨h9.trans (arr9 m c), h10.trans (arr10 m c), h11.trans (arr11 m c), h12.trans (arr12 m c), h13.trans (arr13 m c), h14.trans (arr14 m c),
      h15.trans (arr15 m c), h16.trans (arr16 m c), h17.trans (arr17 m c), h18.trans (arr18 m c), hr⟩
  · refine (θ_run _ _ _).mono (fun r h c => ?_) (Ref.run_results m' g')
    obtain ⟨e0, e1, e2, e3, e4, e5, e6, e7⟩ := hag c
    have hX : Ref.refX m' c = arrX m c := congrArg (fun a => shapeCast _ a Cert.Reference3Ideal.Gen.shapeCasts_S2x8192x1024_S16384x1024) e0
    have hG : Ref.refG m' c = arrG m c := congrArg (fun a => shapeCast _ a Cert.Reference3Ideal.Gen.shapeCasts_S1x1024_S1024) e1
    have hW : Ref.refW m' c = arrW m c := congrArg (fun a => shapeCast _ a Cert.Reference3Ideal.Gen.shapeCasts_S1x1024x5648_S1024x5648) e2
    have hFB : Ref.refFB m' c = arrFB m c := congrArg (fun a => shapeCast _ a Cert.Reference3Ideal.Gen.shapeCasts_S1x8_S8) e3
    have hQG : Ref.refQG m' c = arrQG m c := congrArg (fun a => shapeCast _ a Cert.Reference3Ideal.Gen.shapeCasts_S1x64_S64) e4
    have hKG : Ref.refKG m' c = arrKG m c := congrArg (fun a => shapeCast _ a Cert.Reference3Ideal.Gen.shapeCasts_S1x64_S64) e5
    have hAL : Ref.refAL m' c = arrAL m c := congrArg (fun a => shapeCast _ a Cert.Reference3Ideal.Gen.shapeCasts_S1x4_S4) e6
    have hDT : Ref.refDT m' c = arrDT m c := congrArg (fun a => shapeCast _ a Cert.Reference3Ideal.Gen.shapeCasts_S1x4_S4) e7
    exact ⟨(h c).1.trans (by rw [hX, hG, hW, hQG]; exact q_eq m c),
      (h c).2.1.trans (by rw [hX, hG, hW, hKG]; exact kt_eq m c),
      (h c).2.2.1.trans (by rw [hX, hG, hW, hKG]; exact k_eq m c),
      (h c).2.2.2.1.trans (by rw [hX, hG, hW]; exact vt_eq m c),
      (h c).2.2.2.2.1.trans (by rw [hX, hG, hW]; exact v_eq m c),
      (h c).2.2.2.2.2.1.trans (by rw [hX, hG, hW]; exact gqkv_eq m c),
      (h c).2.2.2.2.2.2.1.trans (by rw [hX, hG, hW]; exact gz_eq m c),
      (h c).2.2.2.2.2.2.2.1.trans (by rw [hX, hG, hW]; exact gates_eq m c),
      (h c).2.2.2.2.2.2.2.2.1.trans (by rw [hX, hG, hW, hFB, hAL, hDT]; exact s_eq m c),
      (h c).2.2.2.2.2.2.2.2.2.1.trans (by rw [hX, hG, hW, hFB, hAL, hDT]; exact st_eq m c),
      (h c).2.2.2.2.2.2.2.2.2.2⟩

end Cert.Proof.Inputs

end
-- ==== Proof.SampleInputs.Blocks.lean ====
/-
  The arrays the input projection's call for the sample is given, and the blocks of them that a point reads and writes.
-/
module

public import proofs.«01_k».proof.Proof.Gen.Kernel4Ideal.Value
public import Idealize.ShloMosaic.Lib.Pipeline.ValueKit
public import proofs.«01_k».proof.Proof.Inputs.Blocks
public import Idealize.ShloMosaic.Lib.Claim

@[expose] public section

set_option maxRecDepth 16384

noncomputable section

namespace Cert.Proof.SampleInputs

open Cert.Kernel4Ideal Cert.Kernel4Ideal.Gen Cert.Proof.Inputs
open Idealize.ShloMosaic Idealize.ShloMosaic.TcCoe Idealize.ShloMosaic.Tactic

variable (m : (ℓ : Loc nD τ sig) → Buf (Elt Ideal) ℓ) (c : Dev nD) (t : Fin cfg0.N)

/-! The arguments, with the sequences' rows one after another and the layer's axis dropped. -/

abbrev arrX : FVec Ideal S128x1024 .f32 := shapeCast S128x1024 (m ((c.tc : Thread nD τ).loc main_arg0)) shapeCasts_S32x4x1024_S128x1024
abbrev arrG : FVec Ideal S1024 .f32 := shapeCast S1024 (m ((c.tc : Thread nD τ).loc main_arg1)) shapeCasts_S1x1024_S1024
abbrev arrW : FVec Ideal S1024x5648 .f32 := shapeCast S1024x5648 (m ((c.tc : Thread nD τ).loc main_arg2)) shapeCasts_S1x1024x5648_S1024x5648
abbrev arrFB : FVec Ideal S8 .f32 := shapeCast S8 (m ((c.tc : Thread nD τ).loc main_arg3)) shapeCasts_S1x8_S8
abbrev arrQG : FVec Ideal S64 .f32 := shapeCast S64 (m ((c.tc : Thread nD τ).loc main_arg4)) shapeCasts_S1x64_S64
abbrev arrKG : FVec Ideal S64 .f32 := shapeCast S64 (m ((c.tc : Thread nD τ).loc main_arg5)) shapeCasts_S1x64_S64
abbrev arrAL : FVec Ideal S4 .f32 := shapeCast S4 (m ((c.tc : Thread nD τ).loc main_arg6)) shapeCasts_S1x4_S4
abbrev arrDT : FVec Ideal S4 .f32 := shapeCast S4 (m ((c.tc : Thread nD τ).loc main_arg7)) shapeCasts_S1x4_S4

/-! What the host code before the call leaves in its operands. -/

theorem V_X : V m c main_v45 = arrX m c := by entry_read; rfl
theorem V_G : V m c main_v15 = shapeCast S1x1024 (arrG m c) shapeCasts_S1024_S1x1024 := by entry_read; rfl
theorem V_WM : V m c main_v5 = truncf .bf16 (mainW (arrW m c)) bitsLt_bf16_f32 := by entry_read; rfl
theorem V_WS : V m c main_v10 = truncf .bf16 (smallW (arrW m c)) bitsLt_bf16_f32 := by entry_read; rfl
theorem V_T : V m c main_v24 = truncf .bf16 headTable bitsLt_bf16_f32 := by entry_read; rfl
theorem V_QG : V m c main_v29 = tiled (arrQG m c) := by entry_read; rfl
theorem V_KG : V m c main_v34 = tiled (arrKG m c) := by entry_read; rfl
theorem V_SB : V m c main_v39 = padCol (arrFB m c) (arrDT m c) := by entry_read; rfl
theorem V_AL : V m c main_v44 = padCol (broadcastInDim S8 ![] bcast_S_S8 (constant S_ .f32 0x00000000#32)) (arrAL m c) := by entry_read; rfl

/-! Where the blocks lie. -/

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel
theorem idx12 : ∀ t : Fin cfg0.N, win0_12.index t = ![t.val, 0] := by decide +kernel
theorem idx13 : ∀ t : Fin cfg0.N, win0_13.index t = ![t.val, 0] := by decide +kernel
theorem idx14 : ∀ t : Fin cfg0.N, win0_14.index t = ![t.val, 0] := by decide +kernel
theorem idx15 : ∀ t : Fin cfg0.N, win0_15.index t = ![t.val, 0] := by decide +kernel
theorem idx16 : ∀ t : Fin cfg0.N, win0_16.index t = ![t.val, 0] := by decide +kernel
theorem idx17 : ∀ t : Fin cfg0.N, win0_17.index t = ![t.val, 0] := by decide +kernel
theorem idx18 : ∀ t : Fin cfg0.N, win0_18.index t = ![0, t.val] := by decide +kernel

/-- The row of the arrays that row `r` of a point's blocks is. -/
def rowOf (t : Fin cfg0.N) (r : Fin 128) : Fin 128 := ⟨t.val * 128 + r.val, by have h : t.val < 1 := t.isLt; omega⟩

theorem blk0 (r : Fin 128) (l : Fin 1024) : iblk m c 0 t (ix2 r l) = V m c main_v45 (ix2 (rowOf t r) l) := by
  blk_ext [iblk, idx0 t, rowOf]

theorem blk1 (r : Fin 1) (l : Fin 1024) : iblk m c 1 t (ix2 r l) = V m c main_v15 (ix2 r l) := by
  blk_ext [iblk, idx1 t, rowOf]

theorem blk2 (r : Fin 1024) (l : Fin 5632) : iblk m c 2 t (ix2 r l) = V m c main_v5 (ix2 r l) := by
  blk_ext [iblk, idx2 t, rowOf]

theorem blk3 (r : Fin 1024) (l : Fin 128) : iblk m c 3 t (ix2 r l) = V m c main_v10 (ix2 r l) := by
  blk_ext [iblk, idx3 t, rowOf]

theorem blk4 (r : Fin 512) (l : Fin 512) : iblk m c 4 t (ix2 r l) = V m c main_v24 (ix2 r l) := by
  blk_ext [iblk, idx4 t, rowOf]

theorem blk5 (r : Fin 1) (l : Fin 512) : iblk m c 5 t (ix2 r l) = V m c main_v29 (ix2 r l) := by
  blk_ext [iblk, idx5 t, rowOf]

theorem blk6 (r : Fin 1) (l : Fin 512) : iblk m c 6 t (ix2 r l) = V m c main_v34 (ix2 r l) := by
  blk_ext [iblk, idx6 t, rowOf]

theorem blk7 (r : Fin 128) (l : Fin 1) : iblk m c 7 t (ix2 r l) = V m c main_v39 (ix2 r l) := by
  blk_ext [iblk, idx7 t, rowOf]

theorem blk8 (r : Fin 128) (l : Fin 1) : iblk m c 8 t (ix2 r l) = V m c main_v44 (ix2 r l) := by
  blk_ext [iblk, idx8 t, rowOf]

theorem emb9 (r : Fin 128) (l : Fin 512) : (win0_9.blk t).view.emb (ix2 r l) = ix2 (rowOf t r) l := by
  blk_ext [idx9 t, rowOf]

theorem emb10 (r : Fin 128) (l : Fin 512) : (win0_10.blk t).view.emb (ix2 r l) = ix2 (rowOf t r) l := by
  blk_ext [idx10 t, rowOf]

theorem emb11 (r : Fin 128) (l : Fin 512) : (win0_11.blk t).view.emb (ix2 r l) = ix2 (rowOf t r) l := by
  blk_ext [idx11 t, rowOf]

theorem emb12 (r : Fin 128) (l : Fin 512) : (win0_12.blk t).view.emb (ix2 r l) = ix2 (rowOf t r) l := by
  blk_ext [idx12 t, rowOf]

theorem emb13 (r : Fin 128) (l : Fin 512) : (win0_13.blk t).view.emb (ix2 r l) = ix2 (rowOf t r) l := by
  blk_ext [idx13 t, rowOf]

theorem emb14 (r : Fin 128) (l : Fin 1536) : (win0_14.blk t).view.emb (ix2 r l) = ix2 (rowOf t r) l := by
  blk_ext [idx14 t, rowOf]

theorem emb15 (r : Fin 128) (l : Fin 512) : (win0_15.blk t).view.emb (ix2 r l) = ix2 (rowOf t r) l := by
  blk_ext [idx15 t, rowOf]

theorem emb16 (r : Fin 128) (l : Fin 2048) : (win0_16.blk t).view.emb (ix2 r l) = ix2 (rowOf t r) l := by
  blk_ext [idx16 t, rowOf]

theorem emb17 (r : Fin 128) (l : Fin 128) : (win0_17.blk t).view.emb (ix2 r l) = ix2 (rowOf t r) l := by
  blk_ext [idx17 t, rowOf]

theorem emb18 (l : Fin 16) (r : Fin 128) : (win0_18.blk t).view.emb (ix2 l r) = ix2 l (rowOf t r) := by
  blk_ext [idx18 t, rowOf]

end Cert.Proof.SampleInputs

end
-- ==== Proof.SampleInputs.Pay.lean ====
/-
  The input projection's body for the sample's rows, read entry by entry.
-/
module

public import proofs.«01_k».proof.Proof.Gen.Kernel4Ideal.Value
public import Idealize.ShloMosaic.Lib.Pipeline.ValueKit
public import proofs.«01_k».proof.Proof.Inputs.Pay

@[expose] public section

set_option maxRecDepth 16384

noncomputable section

namespace Cert.Proof.SampleInputs

open Cert.Kernel4Ideal Cert.Kernel4Ideal.Gen Cert.Proof.Inputs Cert.Proof.Merge
open Idealize.ShloMosaic Idealize.ShloMosaic.Tactic

/-- What the queries are scaled by. -/
abbrev sampleScale : EReal := Ideal.ofBits .f32 0x3E000000#32

variable (v0 : Vec Ideal S128x1024 .f32) (v12 : Vec Ideal S1x1024 .f32) (v16 : FVec Ideal S128x1024 .bf16) (r : Fin 128)

/-- The normalized row. -/
theorem pay4_apply (k : Fin 1024) : k0_pay4 v0 v12 (ix2 r k) = rms (fun k => v0 (ix2 r k)) (fun k => v12 (ix2 0 k)) k := by
  unfold k0_pay4
  pointwise
  rfl

theorem pay1_apply (w : Vec Ideal S1024x1536 .bf16) (j : Fin 1536) : k0_pay1 v16 (k0_pay21 w) (constant S128x1536 .f32 0x00000000#32) (ix2 r j) = ∑ k, v16 (ix2 r k) * w (ix2 k j) := by
  unfold k0_pay1 k0_pay21
  pointwise

theorem pay2_apply (w : Vec Ideal S1024x512 .bf16) (j : Fin 512) : k0_pay2 v16 w (ix2 r j) = ∑ k, v16 (ix2 r k) * w (ix2 k j) := by
  unfold k0_pay2
  pointwise

theorem pay3_apply (w : Vec Ideal S1024x2048 .bf16) (j : Fin 2048) : k0_pay3 v16 w (ix2 r j) = ∑ k, v16 (ix2 r k) * w (ix2 k j) := by
  unfold k0_pay3
  pointwise

theorem pay19_apply (w : Vec Ideal S1024x512 .bf16) (j : Fin 512) : k0_pay19 v16 w (ix2 r j) = ∑ k, v16 (ix2 r k) * w (ix2 k j) := by
  unfold k0_pay19
  pointwise

theorem pay20_apply (w : Vec Ideal S1024x512 .bf16) (j : Fin 512) : k0_pay20 v16 w (ix2 r j) = ∑ k, v16 (ix2 r k) * w (ix2 k j) := by
  unfold k0_pay20 k0_pay19
  pointwise

theorem pay16_apply (G : Vec Ideal S512x512 .bf16) (w : Vec Ideal S1024x512 .bf16) (g : Vec Ideal S1x512 .f32) (j : Fin 512) :
    k0_pay16 (k0_pay14 g) (k0_pay15 v16 G w) (ix2 r j) = tabled (fun j => ∑ k, v16 (ix2 r k) * w (ix2 k j)) G j * g (ix2 0 j) * sampleScale := by
  unfold k0_pay16 k0_pay14 k0_pay15 k0_pay13
  pointwise
  rfl

theorem pay17_apply (G : Vec Ideal S512x512 .bf16) (w : Vec Ideal S1024x512 .bf16) (g : Vec Ideal S1x512 .f32) (j : Fin 512) :
    k0_pay17 v16 (k0_pay13 G) w g (ix2 r j) = tabled (fun j => ∑ k, v16 (ix2 r k) * w (ix2 k j)) G j * g (ix2 0 j) := by
  unfold k0_pay17 k0_pay13
  pointwise
  rfl

theorem pay18_apply (G : FVec Ideal S512x512 .bf16) (w : Vec Ideal S1024x512 .bf16) (g : Vec Ideal S1x512 .f32) (j : Fin 512) :
    k0_pay18 v16 G w g (ix2 r j) = k0_pay17 v16 G w g (ix2 r j) := by
  unfold k0_pay18
  pointwise

/-- The small columns' sums, before their functions. -/
theorem pay5_apply (w : Vec Ideal S1024x128 .bf16) (b : Vec Ideal S128x1 .f32) (l : Fin 128) :
    k0_pay5 v0 v12 w b (ix2 l r) = (∑ k, k0_pay4 v0 v12 (ix2 r k) * w (ix2 k l)) + b (ix2 l 0) := by
  unfold k0_pay5
  pointwise

/-- The small columns. -/
theorem pay10_apply (w : Vec Ideal S1024x128 .bf16) (b a : Vec Ideal S128x1 .f32) (l : Fin 128) :
    k0_pay10 (k0_pay5 v0 v12 w b) (iota .tc S128x128 32 [0] iota_S128x128_d0_w32) (k0_pay6 v0 v12 w b) (k0_pay7 v0 v12 w b) (k0_pay8 a) (k0_pay9 v0 v12 w b) (ix2 l r)
      = smallFn l.val (k0_pay5 v0 v12 w b (ix2 l r)) (a (ix2 l 0)) := by
  unfold k0_pay10 k0_pay7 k0_pay6 k0_pay8 k0_pay9
  generalize k0_pay5 v0 v12 w b = z
  have hc : ∀ n : Fin 128, ∀ x y : EReal, Scalar.select (IntOp.cmpi CmpIPredicate.slt (BitVec.ofNat 32 l.val) (BitVec.ofNat 32 n.val)) x y
      = if l.val < n.val then x else y := by
    intro n x y
    have h : ∀ l n : Fin 128, IntOp.cmpi CmpIPredicate.slt (BitVec.ofNat 32 l.val) (BitVec.ofNat 32 n.val) = BitVec.ofBool (decide (l.val < n.val)) := by
      decide +kernel
    rw [h l n]
    by_cases hl : l.val < n.val
    · rw [if_pos hl, decide_eq_true hl]; rfl
    · rw [if_neg hl, decide_eq_false hl]; rfl
  pointwise
  refine (hc 8 _ _).trans ?_
  unfold smallFn
  refine if_congr Iff.rfl ?_ ?_
  · rw [← log_sigm, zero_sub]
    rfl
  refine (hc 12 _ _).trans (if_congr Iff.rfl ?_ ?_)
  · rw [zero_sub, zero_sub]
    rfl
  refine (hc 16 _ _).trans (if_congr Iff.rfl ?_ rfl)
  exact half_tanh _

theorem pay12_apply (v24 : FVec Ideal S128x128 .f32) (v25 : IVec S128x128 32) (v30 v33 : FVec Ideal S128x128 .f32) (v38 : FVec Ideal S128x1 .f32)
    (v40 : FVec Ideal S128x128 .f32) (l : Fin 128) :
    k0_pay12 v24 v25 v30 v33 v38 v40 (ix2 r l) = k0_pay10 v24 v25 v30 v33 v38 v40 (ix2 l r) := by
  unfold k0_pay12
  pointwise

theorem pay11_apply (v24 : FVec Ideal S128x128 .f32) (v25 : IVec S128x128 32) (v30 v33 : FVec Ideal S128x128 .f32) (v38 : FVec Ideal S128x1 .f32)
    (v40 : FVec Ideal S128x128 .f32) (l : Fin 16) :
    k0_pay11 v24 v25 v30 v33 v38 v40 (ix2 l r) = k0_pay10 v24 v25 v30 v33 v38 v40 (ix2 ⟨l.val, by omega⟩ r) := by
  unfold k0_pay11
  pointwise

end Cert.Proof.SampleInputs

end
-- ==== Proof.SampleInputs.Out.lean ====
/-
  What the input projection's body stores of the sample's rows, from the blocks it loads.
-/
module

public import proofs.«01_k».proof.Proof.Inputs.Out
public import proofs.«01_k».proof.Proof.SampleInputs.Pay

@[expose] public section

set_option maxRecDepth 16384

noncomputable section

namespace Cert.Proof.SampleInputs

open Cert.Kernel4Ideal Cert.Kernel4Ideal.Gen Cert.Proof.Inputs Cert.Proof.Merge
open Idealize.ShloMosaic Idealize.ShloMosaic.Tactic

/-! A load of a whole block is the block. -/

theorem ld0 {e : EltTy} (x : Vec Ideal S128x1024 e) : View.ld x r0_0 = x := View.ld_unit_zero (S := S128x1024) (by decide) _ x
theorem ld1 {e : EltTy} (x : Vec Ideal S1x1024 e) : View.ld x r0_1 = x := View.ld_unit_zero (S := S1x1024) (by decide) _ x
theorem ld2 {e : EltTy} (x : Vec Ideal S1024x128 e) : View.ld x r0_2 = x := View.ld_unit_zero (S := S1024x128) (by decide) _ x
theorem ld3 {e : EltTy} (x : Vec Ideal S128x1 e) : View.ld x r0_3 = x := View.ld_unit_zero (S := S128x1) (by decide) _ x
theorem ld6 {e : EltTy} (x : Vec Ideal S512x512 e) : View.ld x r0_6 = x := View.ld_unit_zero (S := S512x512) (by decide) _ x
theorem ld8 {e : EltTy} (x : Vec Ideal S1x512 e) : View.ld x r0_8 = x := View.ld_unit_zero (S := S1x512) (by decide) _ x

/-! A load of some columns of the large weight. -/

theorem ld7 (x : Vec Ideal S1024x5632 .bf16) (k : Fin 1024) (j : Fin 512) : View.ld x r0_7 (ix2 k j) = x (ix2 k (mcol 0 (by omega) j)) :=
  View.ld_unit_apply_of x _ _ _ _ _ fun a => by match a with | ⟨0, _⟩ => exact (Nat.zero_add _).symm | ⟨1, _⟩ => rfl
theorem ld10 (x : Vec Ideal S1024x5632 .bf16) (k : Fin 1024) (j : Fin 512) : View.ld x r0_10 (ix2 k j) = x (ix2 k (mcol 512 (by omega) j)) :=
  View.ld_unit_apply_of x _ _ _ _ _ fun a => by match a with | ⟨0, _⟩ => exact (Nat.zero_add _).symm | ⟨1, _⟩ => rfl
theorem ld11 (x : Vec Ideal S1024x5632 .bf16) (k : Fin 1024) (j : Fin 512) : View.ld x r0_11 (ix2 k j) = x (ix2 k (mcol 1024 (by omega) j)) :=
  View.ld_unit_apply_of x _ _ _ _ _ fun a => by match a with | ⟨0, _⟩ => exact (Nat.zero_add _).symm | ⟨1, _⟩ => rfl
theorem ld12 (x : Vec Ideal S1024x5632 .bf16) (k : Fin 1024) (j : Fin 1536) : View.ld x r0_12 (ix2 k j) = x (ix2 k (mcol 1536 (by omega) j)) :=
  View.ld_unit_apply_of x _ _ _ _ _ fun a => by match a with | ⟨0, _⟩ => exact (Nat.zero_add _).symm | ⟨1, _⟩ => rfl
theorem ld14 (x : Vec Ideal S1024x5632 .bf16) (k : Fin 1024) (j : Fin 512) : View.ld x r0_14 (ix2 k j) = x (ix2 k (mcol 3072 (by omega) j)) :=
  View.ld_unit_apply_of x _ _ _ _ _ fun a => by match a with | ⟨0, _⟩ => exact (Nat.zero_add _).symm | ⟨1, _⟩ => rfl
theorem ld15 (x : Vec Ideal S1024x5632 .bf16) (k : Fin 1024) (j : Fin 2048) : View.ld x r0_15 (ix2 k j) = x (ix2 k (mcol 3584 (by omega) j)) :=
  View.ld_unit_apply_of x _ _ _ _ _ fun a => by match a with | ⟨0, _⟩ => exact (Nat.zero_add _).symm | ⟨1, _⟩ => rfl

section outs

variable (x0 : Vec Ideal S128x1024 .f32) (x1 : Vec Ideal S1x1024 .f32) (x2 : Vec Ideal S1024x5632 .bf16) (x3 : Vec Ideal S1024x128 .bf16)
    (x4 : Vec Ideal S512x512 .bf16) (x5 x6 : Vec Ideal S1x512 .f32) (x7 x8 : Vec Ideal S128x1 .f32) (r : Fin 128)

/-- Row `r` of a point's block times a column of the large weight. -/
abbrev part (c : Fin 5632) : EReal := proj (fun k => x0 (ix2 r k)) (fun k => x1 (ix2 0 k)) (fun k => x2 (ix2 k c))

/-- The row as the body normalizes it. -/
theorem row_apply (k : Fin 1024) : k0_pay23 x0 x1 x2 x3 x4 x5 x6 x7 x8 (ix2 r k) = rms (fun k => x0 (ix2 r k)) (fun k => x1 (ix2 0 k)) k := by
  unfold k0_pay23
  rw [ld0, ld1, pay4_apply]

theorem out9_apply (j : Fin 512) : out0_9 x0 x1 x2 x3 x4 x5 x6 x7 x8 (ix2 r j)
    = tabled (fun j => part x0 x1 x2 r (mcol 0 (by omega) j)) x4 j * x5 (ix2 0 j) * sampleScale := by
  unfold out0_9
  rw [View.canon_unit_zero (by decide), ld6, ld8]
  exact (pay16_apply _ r _ _ _ j).trans (congrArg (fun t => tabled t x4 j * x5 (ix2 0 j) * sampleScale)
    (funext fun j => Finset.sum_congr rfl fun k _ => congrArg₂ (fun a b : EReal => a * b) (row_apply x0 x1 x2 x3 x4 x5 x6 x7 x8 r k) (ld7 x2 k j)))

theorem key_apply (j : Fin 512) : k0_pay17 (k0_pay23 x0 x1 x2 x3 x4 x5 x6 x7 x8) (k0_pay29 x0 x1 x2 x3 x4 x5 x6 x7 x8) (View.ld x2 r0_10) (View.ld x6 r0_8) (ix2 r j)
    = tabled (fun j => part x0 x1 x2 r (mcol 512 (by omega) j)) x4 j * x6 (ix2 0 j) := by
  unfold k0_pay29
  rw [ld6, ld8]
  exact (pay17_apply _ r _ _ _ j).trans (congrArg (fun t => tabled t x4 j * x6 (ix2 0 j))
    (funext fun j => Finset.sum_congr rfl fun k _ => congrArg₂ (fun a b : EReal => a * b) (row_apply x0 x1 x2 x3 x4 x5 x6 x7 x8 r k) (ld10 x2 k j)))

theorem out11_apply (j : Fin 512) : out0_11 x0 x1 x2 x3 x4 x5 x6 x7 x8 (ix2 r j)
    = tabled (fun j => part x0 x1 x2 r (mcol 512 (by omega) j)) x4 j * x6 (ix2 0 j) := by
  unfold out0_11
  rw [View.canon_unit_zero (by decide)]
  exact (pay18_apply _ r _ _ _ j).trans (key_apply x0 x1 x2 x3 x4 x5 x6 x7 x8 r j)

theorem out10_apply (j : Fin 512) : out0_10 x0 x1 x2 x3 x4 x5 x6 x7 x8 (ix2 r j)
    = tabled (fun j => part x0 x1 x2 r (mcol 512 (by omega) j)) x4 j * x6 (ix2 0 j) := by
  unfold out0_10
  rw [View.canon_unit_zero (by decide)]
  exact key_apply x0 x1 x2 x3 x4 x5 x6 x7 x8 r j

theorem out12_apply (j : Fin 512) : out0_12 x0 x1 x2 x3 x4 x5 x6 x7 x8 (ix2 r j) = part x0 x1 x2 r (mcol 1024 (by omega) j) := by
  unfold out0_12
  rw [View.canon_unit_zero (by decide)]
  exact (pay19_apply _ r _ j).trans (Finset.sum_congr rfl fun k _ => congrArg₂ (fun a b : EReal => a * b) (row_apply x0 x1 x2 x3 x4 x5 x6 x7 x8 r k) (ld11 x2 k j))

theorem out13_apply (j : Fin 512) : out0_13 x0 x1 x2 x3 x4 x5 x6 x7 x8 (ix2 r j) = part x0 x1 x2 r (mcol 1024 (by omega) j) := by
  unfold out0_13
  rw [View.canon_unit_zero (by decide)]
  exact (pay20_apply _ r _ j).trans (Finset.sum_congr rfl fun k _ => congrArg₂ (fun a b : EReal => a * b) (row_apply x0 x1 x2 x3 x4 x5 x6 x7 x8 r k) (ld11 x2 k j))

theorem out14_apply (j : Fin 1536) : out0_14 x0 x1 x2 x3 x4 x5 x6 x7 x8 (ix2 r j) = part x0 x1 x2 r (mcol 1536 (by omega) j) := by
  unfold out0_14
  rw [View.canon_unit_zero (by decide)]
  exact (pay1_apply _ r _ j).trans (Finset.sum_congr rfl fun k _ => congrArg₂ (fun a b : EReal => a * b) (row_apply x0 x1 x2 x3 x4 x5 x6 x7 x8 r k) (ld12 x2 k j))

theorem out15_apply (j : Fin 512) : out0_15 x0 x1 x2 x3 x4 x5 x6 x7 x8 (ix2 r j) = part x0 x1 x2 r (mcol 3072 (by omega) j) := by
  unfold out0_15
  rw [View.canon_unit_zero (by decide)]
  exact (pay2_apply _ r _ j).trans (Finset.sum_congr rfl fun k _ => congrArg₂ (fun a b : EReal => a * b) (row_apply x0 x1 x2 x3 x4 x5 x6 x7 x8 r k) (ld14 x2 k j))

theorem out16_apply (j : Fin 2048) : out0_16 x0 x1 x2 x3 x4 x5 x6 x7 x8 (ix2 r j) = part x0 x1 x2 r (mcol 3584 (by omega) j) := by
  unfold out0_16
  rw [View.canon_unit_zero (by decide)]
  exact (pay3_apply _ r _ j).trans (Finset.sum_congr rfl fun k _ => congrArg₂ (fun a b : EReal => a * b) (row_apply x0 x1 x2 x3 x4 x5 x6 x7 x8 r k) (ld15 x2 k j))

/-- A small column before its function. -/
abbrev smallPart (l : Fin 128) : EReal := proj (fun k => x0 (ix2 r k)) (fun k => x1 (ix2 0 k)) (fun k => x3 (ix2 k l)) + x7 (ix2 l 0)

theorem small_at (l : Fin 128) : k0_pay10 (k0_pay24 x0 x1 x2 x3 x4 x5 x6 x7 x8) (k0_pay22 x0 x1 x2 x3 x4 x5 x6 x7 x8) (k0_pay25 x0 x1 x2 x3 x4 x5 x6 x7 x8)
    (k0_pay26 x0 x1 x2 x3 x4 x5 x6 x7 x8) (k0_pay27 x0 x1 x2 x3 x4 x5 x6 x7 x8) (k0_pay28 x0 x1 x2 x3 x4 x5 x6 x7 x8) (ix2 l r)
      = smallFn l.val (smallPart x0 x1 x3 x7 r l) (x8 (ix2 l 0)) := by
  unfold k0_pay24 k0_pay22 k0_pay25 k0_pay26 k0_pay27 k0_pay28
  simp only [ld0, ld1, ld2, ld3]
  rw [pay10_apply, pay5_apply]
  simp only [pay4_apply]
  rfl

theorem out17_apply (l : Fin 128) : out0_17 x0 x1 x2 x3 x4 x5 x6 x7 x8 (ix2 r l) = smallFn l.val (smallPart x0 x1 x3 x7 r l) (x8 (ix2 l 0)) := by
  unfold out0_17
  rw [View.canon_unit_zero (by decide), pay12_apply, small_at]

theorem out18_apply (l : Fin 16) : out0_18 x0 x1 x2 x3 x4 x5 x6 x7 x8 (ix2 l r)
    = smallFn l.val (smallPart x0 x1 x3 x7 r ⟨l.val, by omega⟩) (x8 (ix2 ⟨l.val, by omega⟩ 0)) := by
  unfold out0_18
  rw [View.canon_unit_zero (by decide), pay11_apply, small_at]

end outs

end Cert.Proof.SampleInputs

end
-- ==== Proof.SampleInputs.Array.lean ====
/-
  The arrays that the input projection's run for the sample leaves.
-/
module

public import proofs.«01_k».proof.Proof.Inputs.Host
public import proofs.«01_k».proof.Proof.SampleInputs.Blocks
public import proofs.«01_k».proof.Proof.SampleInputs.Out

@[expose] public section

set_option maxRecDepth 16384

noncomputable section

namespace Cert.Proof.SampleInputs

open Cert.Kernel4Ideal Cert.Kernel4Ideal.Gen Cert.Proof.Inputs Cert.Proof.Merge
open Idealize.ShloMosaic Idealize.ShloMosaic.TcCoe Idealize.ShloMosaic.Tactic

variable (m : (ℓ : Loc nD τ sig) → Buf (Elt Ideal) ℓ) (c : Dev nD) (t : Fin cfg0.N)

/-- Row `i` of the input, normalized and projected. -/
def rowP (i : Fin 128) (c' : Fin 5648) : EReal :=
  proj (fun k => arrX m c (ix2 i k)) (fun k => arrG m c (ix1 k)) (fun k => arrW m c (ix2 k c'))

/-- A row's queries. -/
abbrev queryAt (i : Fin 128) (j : Fin 512) : EReal := headNorm (fun j => rowP m c i (col 0 (by omega) j)) (fun d => arrQG m c (ix1 d)) j * sampleScale
/-- A row's keys. -/
abbrev keyAt (i : Fin 128) (j : Fin 512) : EReal := headNorm (fun j => rowP m c i (col 512 (by omega) j)) (fun d => arrKG m c (ix1 d)) j
/-- A row's values. -/
abbrev valueAt (i : Fin 128) (j : Fin 512) : EReal := rowP m c i (col 1024 (by omega) j)
/-- A row's small columns. -/
abbrev smallAt (i : Fin 128) (l : Fin 16) : EReal :=
  smallCol (rowP m c i) (fun l => arrFB m c (ix1 l)) (fun l => arrAL m c (ix1 l)) (fun l => arrDT m c (ix1 l)) l

/-! The ten results. -/

def qArr : Vec Ideal S128x512 .bf16 := fun y => queryAt m c (y 0) (y 1)
def kFull : Vec Ideal S128x512 .f32 := fun y => keyAt m c (y 0) (y 1)
def kArr : Vec Ideal S128x512 .bf16 := fun y => keyAt m c (y 0) (y 1)
def vFull : Vec Ideal S128x512 .f32 := fun y => valueAt m c (y 0) (y 1)
def vArr : Vec Ideal S128x512 .bf16 := fun y => valueAt m c (y 0) (y 1)
def gqkvArr : Vec Ideal S128x1536 .f32 := fun y => rowP m c (y 0) (col 1544 (n := 1536) (by omega) (y 1))
def gzArr : Vec Ideal S128x512 .f32 := fun y => rowP m c (y 0) (col 3088 (n := 512) (by omega) (y 1))
def gatesArr : Vec Ideal S128x2048 .bf16 := fun y => rowP m c (y 0) (col 3600 (n := 2048) (by omega) (y 1))
def sArr : Vec Ideal S128x128 .f32 := fun y => if h : (y 1).val < 16 then smallAt m c (y 0) ⟨(y 1).val, h⟩ else 0
def stArr : Vec Ideal S16x128 .f32 := fun y => smallAt m c (y 1) (y 0)

/-- A gain with a unit axis put before it. -/
theorem gain_apply (g : FVec Ideal S1024 .f32) (k : Fin 1024) : shapeCast S1x1024 g shapeCasts_S1024_S1x1024 (ix2 0 k) = g (ix1 k) := by
  pointwise

/-- A column of a point's block is a column of the large weight's projection of its row. -/
theorem part_eq (r : Fin 128) (c' : Fin 5632) : part (iblk m c 0 t) (iblk m c 1 t) (iblk m c 2 t) r c'
    = proj (fun k => arrX m c (ix2 (rowOf t r) k)) (fun k => arrG m c (ix1 k)) (fun k => mainW (arrW m c) (ix2 k c')) := by
  unfold part
  simp only [blk0, blk1, blk2]
  rw [V_X, V_G, V_WM]
  simp only [gain_apply]
  rfl

theorem part_low (r : Fin 128) (o : Nat) {n : Nat} (h : o + n ≤ 1536) (j : Fin n) :
    part (iblk m c 0 t) (iblk m c 1 t) (iblk m c 2 t) r (mcol o (by omega) j) = rowP m c (rowOf t r) (col o (by omega) j) := by
  rw [part_eq]
  simp only [mainW_low _ _ o h j]
  rfl

theorem part_mid (r : Fin 128) (j : Fin 1536) :
    part (iblk m c 0 t) (iblk m c 1 t) (iblk m c 2 t) r (mcol 1536 (by omega) j) = rowP m c (rowOf t r) (col 1544 (by omega) j) := by
  rw [part_eq]
  simp only [mainW_mid]
  rfl

theorem part_high (r : Fin 128) (o : Nat) {n : Nat} (h : 3072 ≤ o) (h' : o + n ≤ 5632) (j : Fin n) :
    part (iblk m c 0 t) (iblk m c 1 t) (iblk m c 2 t) r (mcol o h' j) = rowP m c (rowOf t r) (col (o + 16) (by omega) j) := by
  rw [part_eq]
  simp only [mainW_high _ _ o h h' j]
  rfl

/-- The heads of a point's block, from the table it reads. -/
theorem table_eq : iblk m c 4 t = truncf .bf16 headTable bitsLt_bf16_f32 := by
  funext y
  have hy : y = ix2 ⟨(y 0).val, (y 0).isLt⟩ ⟨(y 1).val, (y 1).isLt⟩ := by
    funext a
    match a with
    | ⟨0, _⟩ => exact Fin.ext rfl
    | ⟨1, _⟩ => exact Fin.ext rfl
  rw [hy]
  exact (blk4 m c t _ _).trans (congrFun (V_T m c) _)

/-- A small column of a point's block. -/
theorem small_eq (r : Fin 128) (l : Fin 16) :
    smallFn l.val (smallPart (iblk m c 0 t) (iblk m c 1 t) (iblk m c 3 t) (iblk m c 7 t) r ⟨l.val, by omega⟩) (iblk m c 8 t (ix2 ⟨l.val, by omega⟩ 0))
      = smallAt m c (rowOf t r) l := by
  unfold smallPart
  simp only [blk0, blk1, blk3, blk7, blk8]
  rw [V_X, V_G, V_WS, V_SB, V_AL]
  simp only [gain_apply]
  exact smallFn_eq _ _ _ _ _ _ l

/-! Each result: what a point's block of it holds, and the array the run leaves. -/

theorem at9 (r : Fin 128) (j : Fin 512) : out0_9 (iblk m c 0 t) (iblk m c 1 t) (iblk m c 2 t) (iblk m c 3 t) (iblk m c 4 t) (iblk m c 5 t) (iblk m c 6 t) (iblk m c 7 t) (iblk m c 8 t) (ix2 r j) = queryAt m c (rowOf t r) j := by
  rw [out9_apply, blk5, V_QG, table_eq]
  simp only [part_low m c t r 0 (n := 512) (by omega)]
  rw [tabled_eq]

theorem arr9 : (dats m 0 c).arrAt 9 cfg0.N = qArr m c := by
  refine (dats m 0 c).arrAt_eq_of_covers 9 _ (by decide +kernel) fun t hf y => ?_
  blk_simp
  rw [after0_9]
  have h0 : (y 0).val < 128 := (y 0).isLt
  have h1 : (y 1).val < 512 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 128) = r
  generalize (⟨(y 1).val, h1⟩ : Fin 512) = j
  exact (at9 m c t r j).trans (congrArg (qArr m c) (emb9 t r j)).symm

theorem at10 (r : Fin 128) (j : Fin 512) : out0_10 (iblk m c 0 t) (iblk m c 1 t) (iblk m c 2 t) (iblk m c 3 t) (iblk m c 4 t) (iblk m c 5 t) (iblk m c 6 t) (iblk m c 7 t) (iblk m c 8 t) (ix2 r j) = keyAt m c (rowOf t r) j := by
  rw [out10_apply, blk6, V_KG, table_eq]
  simp only [part_low m c t r 512 (n := 512) (by omega)]
  rw [tabled_eq]

theorem arr10 : (dats m 0 c).arrAt 10 cfg0.N = kFull m c := by
  refine (dats m 0 c).arrAt_eq_of_covers 10 _ (by decide +kernel) fun t hf y => ?_
  blk_simp
  rw [after0_10]
  have h0 : (y 0).val < 128 := (y 0).isLt
  have h1 : (y 1).val < 512 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 128) = r
  generalize (⟨(y 1).val, h1⟩ : Fin 512) = j
  exact (at10 m c t r j).trans (congrArg (kFull m c) (emb10 t r j)).symm

theorem at11 (r : Fin 128) (j : Fin 512) : out0_11 (iblk m c 0 t) (iblk m c 1 t) (iblk m c 2 t) (iblk m c 3 t) (iblk m c 4 t) (iblk m c 5 t) (iblk m c 6 t) (iblk m c 7 t) (iblk m c 8 t) (ix2 r j) = keyAt m c (rowOf t r) j := by
  rw [out11_apply, blk6, V_KG, table_eq]
  simp only [part_low m c t r 512 (n := 512) (by omega)]
  rw [tabled_eq]

theorem arr11 : (dats m 0 c).arrAt 11 cfg0.N = kArr m c := by
  refine (dats m 0 c).arrAt_eq_of_covers 11 _ (by decide +kernel) fun t hf y => ?_
  blk_simp
  rw [after0_11]
  have h0 : (y 0).val < 128 := (y 0).isLt
  have h1 : (y 1).val < 512 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 128) = r
  generalize (⟨(y 1).val, h1⟩ : Fin 512) = j
  exact (at11 m c t r j).trans (congrArg (kArr m c) (emb11 t r j)).symm

theorem at12 (r : Fin 128) (j : Fin 512) : out0_12 (iblk m c 0 t) (iblk m c 1 t) (iblk m c 2 t) (iblk m c 3 t) (iblk m c 4 t) (iblk m c 5 t) (iblk m c 6 t) (iblk m c 7 t) (iblk m c 8 t) (ix2 r j) = valueAt m c (rowOf t r) j := by
  rw [out12_apply]
  exact part_low m c t r 1024 (n := 512) (by omega) j

theorem arr12 : (dats m 0 c).arrAt 12 cfg0.N = vFull m c := by
  refine (dats m 0 c).arrAt_eq_of_covers 12 _ (by decide +kernel) fun t hf y => ?_
  blk_simp
  rw [after0_12]
  have h0 : (y 0).val < 128 := (y 0).isLt
  have h1 : (y 1).val < 512 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 128) = r
  generalize (⟨(y 1).val, h1⟩ : Fin 512) = j
  exact (at12 m c t r j).trans (congrArg (vFull m c) (emb12 t r j)).symm

theorem at13 (r : Fin 128) (j : Fin 512) : out0_13 (iblk m c 0 t) (iblk m c 1 t) (iblk m c 2 t) (iblk m c 3 t) (iblk m c 4 t) (iblk m c 5 t) (iblk m c 6 t) (iblk m c 7 t) (iblk m c 8 t) (ix2 r j) = valueAt m c (rowOf t r) j := by
  rw [out13_apply]
  exact part_low m c t r 1024 (n := 512) (by omega) j

theorem arr13 : (dats m 0 c).arrAt 13 cfg0.N = vArr m c := by
  refine (dats m 0 c).arrAt_eq_of_covers 13 _ (by decide +kernel) fun t hf y => ?_
  blk_simp
  rw [after0_13]
  have h0 : (y 0).val < 128 := (y 0).isLt
  have h1 : (y 1).val < 512 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 128) = r
  generalize (⟨(y 1).val, h1⟩ : Fin 512) = j
  exact (at13 m c t r j).trans (congrArg (vArr m c) (emb13 t r j)).symm

theorem at14 (r : Fin 128) (j : Fin 1536) : out0_14 (iblk m c 0 t) (iblk m c 1 t) (iblk m c 2 t) (iblk m c 3 t) (iblk m c 4 t) (iblk m c 5 t) (iblk m c 6 t) (iblk m c 7 t) (iblk m c 8 t) (ix2 r j) = rowP m c (rowOf t r) (col 1544 (by omega) j) := by
  rw [out14_apply]
  exact part_mid m c t r j

theorem arr14 : (dats m 0 c).arrAt 14 cfg0.N = gqkvArr m c := by
  refine (dats m 0 c).arrAt_eq_of_covers 14 _ (by decide +kernel) fun t hf y => ?_
  blk_simp
  rw [after0_14]
  have h0 : (y 0).val < 128 := (y 0).isLt
  have h1 : (y 1).val < 1536 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 128) = r
  generalize (⟨(y 1).val, h1⟩ : Fin 1536) = j
  exact (at14 m c t r j).trans (congrArg (gqkvArr m c) (emb14 t r j)).symm

theorem at15 (r : Fin 128) (j : Fin 512) : out0_15 (iblk m c 0 t) (iblk m c 1 t) (iblk m c 2 t) (iblk m c 3 t) (iblk m c 4 t) (iblk m c 5 t) (iblk m c 6 t) (iblk m c 7 t) (iblk m c 8 t) (ix2 r j) = rowP m c (rowOf t r) (col 3088 (by omega) j) := by
  rw [out15_apply]
  exact part_high m c t r 3072 (n := 512) (by omega) (by omega) j

theorem arr15 : (dats m 0 c).arrAt 15 cfg0.N = gzArr m c := by
  refine (dats m 0 c).arrAt_eq_of_covers 15 _ (by decide +kernel) fun t hf y => ?_
  blk_simp
  rw [after0_15]
  have h0 : (y 0).val < 128 := (y 0).isLt
  have h1 : (y 1).val < 512 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 128) = r
  generalize (⟨(y 1).val, h1⟩ : Fin 512) = j
  exact (at15 m c t r j).trans (congrArg (gzArr m c) (emb15 t r j)).symm

theorem at16 (r : Fin 128) (j : Fin 2048) : out0_16 (iblk m c 0 t) (iblk m c 1 t) (iblk m c 2 t) (iblk m c 3 t) (iblk m c 4 t) (iblk m c 5 t) (iblk m c 6 t) (iblk m c 7 t) (iblk m c 8 t) (ix2 r j) = rowP m c (rowOf t r) (col 3600 (by omega) j) := by
  rw [out16_apply]
  exact part_high m c t r 3584 (n := 2048) (by omega) (by omega) j

theorem arr16 : (dats m 0 c).arrAt 16 cfg0.N = gatesArr m c := by
  refine (dats m 0 c).arrAt_eq_of_covers 16 _ (by decide +kernel) fun t hf y => ?_
  blk_simp
  rw [after0_16]
  have h0 : (y 0).val < 128 := (y 0).isLt
  have h1 : (y 1).val < 2048 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 128) = r
  generalize (⟨(y 1).val, h1⟩ : Fin 2048) = j
  exact (at16 m c t r j).trans (congrArg (gatesArr m c) (emb16 t r j)).symm

theorem at17 (r : Fin 128) (j : Fin 128) : out0_17 (iblk m c 0 t) (iblk m c 1 t) (iblk m c 2 t) (iblk m c 3 t) (iblk m c 4 t) (iblk m c 5 t) (iblk m c 6 t) (iblk m c 7 t) (iblk m c 8 t) (ix2 r j) = if h : j.val < 16 then smallAt m c (rowOf t r) ⟨j.val, h⟩ else 0 := by
  rw [out17_apply]
  by_cases h : j.val < 16
  · rw [dif_pos h]
    exact small_eq m c t r ⟨j.val, h⟩
  · rw [dif_neg h]
    unfold smallFn
    rw [if_neg (by omega), if_neg (by omega), if_neg h]

theorem arr17 : (dats m 0 c).arrAt 17 cfg0.N = sArr m c := by
  refine (dats m 0 c).arrAt_eq_of_covers 17 _ (by decide +kernel) fun t hf y => ?_
  blk_simp
  rw [after0_17]
  have h0 : (y 0).val < 128 := (y 0).isLt
  have h1 : (y 1).val < 128 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 128) = r
  generalize (⟨(y 1).val, h1⟩ : Fin 128) = j
  exact (at17 m c t r j).trans (congrArg (sArr m c) (emb17 t r j)).symm

theorem at18 (r : Fin 16) (j : Fin 128) : out0_18 (iblk m c 0 t) (iblk m c 1 t) (iblk m c 2 t) (iblk m c 3 t) (iblk m c 4 t) (iblk m c 5 t) (iblk m c 6 t) (iblk m c 7 t) (iblk m c 8 t) (ix2 r j) = smallAt m c (rowOf t j) r := by
  rw [out18_apply]
  exact small_eq m c t j r

theorem arr18 : (dats m 0 c).arrAt 18 cfg0.N = stArr m c := by
  refine (dats m 0 c).arrAt_eq_of_covers 18 _ (by decide +kernel) fun t hf y => ?_
  blk_simp
  rw [after0_18]
  have h0 : (y 0).val < 16 := (y 0).isLt
  have h1 : (y 1).val < 128 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 16) = r
  generalize (⟨(y 1).val, h1⟩ : Fin 128) = j
  exact (at18 m c t r j).trans (congrArg (stArr m c) (emb18 t r j)).symm

end Cert.Proof.SampleInputs

end
-- ==== Proof.SampleInputs.Ref.lean ====
/-
  The reference of the input projection for the sample, read entry by entry.
-/
module

public import proofs.«01_k».proof.Proof.Gen.Reference4Ideal.Run
public import Idealize.ShloMosaic.Lib.Pipeline.ValueKit
public import proofs.«01_k».proof.Proof.SampleInputs.Pay
public import proofs.«01_k».proof.Proof.Inputs.Whole

@[expose] public section

set_option maxRecDepth 16384

noncomputable section

namespace Cert.Proof.SampleInputs.Ref

open Cert.Reference4Ideal Cert.Reference4Ideal.Gen Cert.Reference4Ideal.Value Cert.Proof.Inputs Cert.Proof.Merge
open Idealize.ShloMosaic Idealize.ShloMosaic.Tactic

/-- The rows over the roots of their mean squares, times a gain. -/
def norm (X : FVec Ideal S128x1024 .f32) (g : FVec Ideal S1024 .f32) : FVec Ideal S128x1024 .f32 :=
  mulf (mulf X (broadcastInDim S128x1024 ![0, 1] bcast_S128x1_S128x1024_0_1 (Host.rsqrt (addf (Host.divf (broadcastInDim S128x1 ![0] bcast_S128_S128x1_0 (Host.reduceAdd (mulf X X) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))

/-- The projection of the normalized rows. -/
def projected (X : FVec Ideal S128x1024 .f32) (g : FVec Ideal S1024 .f32) (W : FVec Ideal S1024x5648 .f32) : FVec Ideal S128x5648 .f32 :=
  Host.dotGeneral dot_S128x1024_S1024x5648_S128x5648_1_0_0_1_n_n none (norm X g) W

/-- Eight heads of 64 lanes, each over the root of its mean square, times a gain. -/
def heads (A : FVec Ideal S128x512 .f32) (g : FVec Ideal S64 .f32) : FVec Ideal S128x512 .f32 :=
  shapeCast _ (mulf (mulf (shapeCast _ A shapeCasts_S128x512_S128x8x64) (broadcastInDim S128x8x64 ![0, 1, 2] bcast_S128x8x1_S128x8x64_0_1_2 (Host.rsqrt (addf (Host.divf (broadcastInDim S128x8x1 ![0, 1] bcast_S128x8_S128x8x1_0_1 (Host.reduceAdd (mulf (shapeCast _ A shapeCasts_S128x512_S128x8x64) (shapeCast _ A shapeCasts_S128x512_S128x8x64)) (constant S_ .f32 0x00000000#32) reducesTo_S128x8x64_S128x8_d2 h_S_)) (broadcastInDim S128x8x1 ![] bcast_S_S128x8x1 (constant S_ .f32 0x42800000#32))) (broadcastInDim S128x8x1 ![] bcast_S_S128x8x1 (constant S_ .f32 0x358637BD#32)))))) (broadcastInDim S128x8x64 ![0, 1, 2] bcast_S1x1x64_S128x8x64_0_1_2 (broadcastInDim S1x1x64 ![2] bcast_S64_S1x1x64_2 g))) shapeCasts_S128x8x64_S128x512

/-- The softplus function, as it is written for eight columns. -/
def soft8 (A : FVec Ideal S128x8 .f32) : FVec Ideal S128x8 .f32 :=
  select (cmpf .une (subf A (broadcastInDim S128x8 ![] bcast_S_S128x8 (constant S_ .f32 0x00000000#32))) (subf A (broadcastInDim S128x8 ![] bcast_S_S128x8 (constant S_ .f32 0x00000000#32)))) (addf A (broadcastInDim S128x8 ![] bcast_S_S128x8 (constant S_ .f32 0x00000000#32))) (addf (maximumf A (broadcastInDim S128x8 ![] bcast_S_S128x8 (constant S_ .f32 0x00000000#32))) (Host.log1p (Host.exp (Host.negf (Host.absf (subf A (broadcastInDim S128x8 ![] bcast_S_S128x8 (constant S_ .f32 0x00000000#32))))))))

/-- The softplus function, as it is written for four columns. -/
def soft4 (A : FVec Ideal S128x4 .f32) : FVec Ideal S128x4 .f32 :=
  select (cmpf .une (subf A (broadcastInDim S128x4 ![] bcast_S_S128x4 (constant S_ .f32 0x00000000#32))) (subf A (broadcastInDim S128x4 ![] bcast_S_S128x4 (constant S_ .f32 0x00000000#32)))) (addf A (broadcastInDim S128x4 ![] bcast_S_S128x4 (constant S_ .f32 0x00000000#32))) (addf (maximumf A (broadcastInDim S128x4 ![] bcast_S_S128x4 (constant S_ .f32 0x00000000#32))) (Host.log1p (Host.exp (Host.negf (Host.absf (subf A (broadcastInDim S128x4 ![] bcast_S_S128x4 (constant S_ .f32 0x00000000#32))))))))

/-- The log forget gates. -/
def logf (P : FVec Ideal S128x5648 .f32) (fb : FVec Ideal S8 .f32) : FVec Ideal S128x8 .f32 :=
  Host.negf (soft8 (Host.negf (addf (extractStridedSlice S128x8 ![0, 1536] P slices_S128x5648_S128x8_0_1536) (broadcastInDim S128x8 ![0, 1] bcast_S1x8_S128x8_0_1 (broadcastInDim S1x8 ![1] bcast_S8_S1x8_1 fb)))))

/-- The log decays. -/
def decay (P : FVec Ideal S128x5648 .f32) (al dt : FVec Ideal S4 .f32) : FVec Ideal S128x4 .f32 :=
  mulf (broadcastInDim S128x4 ![0, 1] bcast_S1x4_S128x4_0_1 (broadcastInDim S1x4 ![1] bcast_S4_S1x4_1 (Host.negf (Host.exp al)))) (soft4 (addf (extractStridedSlice S128x4 ![0, 3080] P slices_S128x5648_S128x4_0_3080) (broadcastInDim S128x4 ![0, 1] bcast_S1x4_S128x4_0_1 (broadcastInDim S1x4 ![1] bcast_S4_S1x4_1 dt))))

/-- The betas. -/
def beta (P : FVec Ideal S128x5648 .f32) : FVec Ideal S128x4 .f32 :=
  Host.divf (broadcastInDim S128x4 ![] bcast_S_S128x4 (constant S_ .f32 0x3F800000#32)) (addf (broadcastInDim S128x4 ![] bcast_S_S128x4 (constant S_ .f32 0x3F800000#32)) (Host.exp (Host.negf (extractStridedSlice S128x4 ![0, 3084] P slices_S128x5648_S128x4_0_3084))))

/-- The sixteen small columns. -/
def small (P : FVec Ideal S128x5648 .f32) (fb : FVec Ideal S8 .f32) (al dt : FVec Ideal S4 .f32) : FVec Ideal S128x16 .f32 :=
  concatenate S128x16 1 [⟨S128x8, logf P fb⟩, ⟨S128x4, decay P al dt⟩, ⟨S128x4, beta P⟩] concatenates_S128x8_S128x4_S128x4_S128x16_d1

section entries

variable (i : Fin 128)

theorem norm_apply (X : FVec Ideal S128x1024 .f32) (g : FVec Ideal S1024 .f32) (j : Fin 1024) :
    norm X g (ix2 i j) = rms (fun k => X (ix2 i k)) (fun k => g (ix1 k)) j := by
  unfold norm
  pointwise
  rfl

theorem projected_apply (X : FVec Ideal S128x1024 .f32) (g : FVec Ideal S1024 .f32) (W : FVec Ideal S1024x5648 .f32) (c : Fin 5648) :
    projected X g W (ix2 i c) = proj (fun k => X (ix2 i k)) (fun k => g (ix1 k)) (fun k => W (ix2 k c)) := by
  unfold projected proj
  simp only [← norm_apply]
  generalize norm X g = N
  pointwise

theorem heads_apply (A : FVec Ideal S128x512 .f32) (g : FVec Ideal S64 .f32) (j : Fin 512) :
    heads A g (ix2 i j) = headNorm (fun j => A (ix2 i j)) (fun d => g (ix1 d)) j := by
  unfold heads headNorm
  pointwise
  rfl

theorem soft8_apply (A : FVec Ideal S128x8 .f32) (l : Fin 8) : soft8 A (ix2 i l) = softplus (A (ix2 i l)) := by
  unfold soft8 softplus
  pointwise
  exact if_neg fun h => h rfl

theorem soft4_apply (A : FVec Ideal S128x4 .f32) (l : Fin 4) : soft4 A (ix2 i l) = softplus (A (ix2 i l)) := by
  unfold soft4 softplus
  pointwise
  exact if_neg fun h => h rfl

theorem logf_apply (P : FVec Ideal S128x5648 .f32) (fb : FVec Ideal S8 .f32) (l : Fin 8) :
    logf P fb (ix2 i l) = -softplus (-(P (ix2 i ⟨1536 + l.val, by omega⟩) + fb (ix1 l))) := by
  unfold logf
  refine (congrArg Neg.neg (soft8_apply i _ l)).trans ?_
  pointwise

theorem decay_apply (P : FVec Ideal S128x5648 .f32) (al dt : FVec Ideal S4 .f32) (l : Fin 4) :
    decay P al dt (ix2 i l) = -Ideal.exp (al (ix1 l)) * softplus (P (ix2 i ⟨3080 + l.val, by omega⟩) + dt (ix1 l)) := by
  unfold decay
  refine (congrArg₂ (fun a b : EReal => a * b) rfl (soft4_apply i _ l)).trans ?_
  pointwise

theorem beta_apply (P : FVec Ideal S128x5648 .f32) (l : Fin 4) :
    beta P (ix2 i l) = sigm (P (ix2 i ⟨3084 + l.val, by omega⟩)) := by
  unfold beta sigm
  simp only [← one_eq]
  pointwise

theorem small_apply (P : FVec Ideal S128x5648 .f32) (fb : FVec Ideal S8 .f32) (al dt : FVec Ideal S4 .f32) (l : Fin 16) :
    small P fb al dt (ix2 i l) = smallCol (fun c => P (ix2 i c)) (fun l => fb (ix1 l)) (fun l => al (ix1 l)) (fun l => dt (ix1 l)) l := by
  unfold small smallCol
  have hA := fun l => logf_apply i P fb l
  have hB := fun l => decay_apply i P al dt l
  have hC := fun l => beta_apply i P l
  generalize logf P fb = A at hA ⊢
  generalize decay P al dt = B at hB ⊢
  generalize beta P = C at hC ⊢
  pointwise
  simp only [hA, hB, hC]

/-- The small columns with zeros after them. -/
def padded (S : FVec Ideal S128x16 .f32) : FVec Ideal S128x128 .f32 :=
  concatenate S128x128 1 [⟨S128x16, S⟩, ⟨S128x112, broadcastInDim S128x112 ![] bcast_S_S128x112 (constant S_ .f32 0x00000000#32)⟩] concatenates_S128x16_S128x112_S128x128_d1

theorem padded_apply (S : FVec Ideal S128x16 .f32) (l : Fin 128) :
    padded S (ix2 i l) = if h : l.val < 16 then S (ix2 i ⟨l.val, h⟩) else 0 := by
  unfold padded
  pointwise

theorem turned_apply (S : FVec Ideal S128x16 .f32) (l : Fin 16) :
    transpose S16x128 [1, 0] S transposes_S128x16_S16x128_1_0 (ix2 l i) = S (ix2 i l) := by
  pointwise

/-- The columns of the queries. -/
theorem slice_q (P : FVec Ideal S128x5648 .f32) (j : Fin 512) :
    extractStridedSlice S128x512 ![0, 0] P slices_S128x5648_S128x512_0_0 (ix2 i j) = P (ix2 i (col 0 (by omega) j)) := by
  pointwise
  exact congrArg (fun c => P (ix2 i c)) (Fin.ext (Nat.zero_add _).symm)

/-- The columns of the keys. -/
theorem slice_k (P : FVec Ideal S128x5648 .f32) (j : Fin 512) :
    extractStridedSlice S128x512 ![0, 512] P slices_S128x5648_S128x512_0_512 (ix2 i j) = P (ix2 i (col 512 (by omega) j)) := by
  pointwise
  rfl

/-- The columns of the values. -/
theorem slice_v (P : FVec Ideal S128x5648 .f32) (j : Fin 512) :
    extractStridedSlice S128x512 ![0, 1024] P slices_S128x5648_S128x512_0_1024 (ix2 i j) = P (ix2 i (col 1024 (by omega) j)) := by
  pointwise
  rfl

/-- The columns of the delta branch's inputs. -/
theorem slice_gqkv (P : FVec Ideal S128x5648 .f32) (j : Fin 1536) :
    extractStridedSlice S128x1536 ![0, 1544] P slices_S128x5648_S128x1536_0_1544 (ix2 i j) = P (ix2 i (col 1544 (by omega) j)) := by
  pointwise
  rfl

/-- The columns of the delta branch's output gate. -/
theorem slice_gz (P : FVec Ideal S128x5648 .f32) (j : Fin 512) :
    extractStridedSlice S128x512 ![0, 3088] P slices_S128x5648_S128x512_0_3088 (ix2 i j) = P (ix2 i (col 3088 (by omega) j)) := by
  pointwise
  rfl

/-- The columns of the merge gates. -/
theorem slice_gates (P : FVec Ideal S128x5648 .f32) (j : Fin 2048) :
    extractStridedSlice S128x2048 ![0, 3600] P slices_S128x5648_S128x2048_0_3600 (ix2 i j) = P (ix2 i (col 3600 (by omega) j)) := by
  pointwise
  rfl

/-! The results, from the reshaped arguments. -/

variable (X : FVec Ideal S128x1024 .f32) (g : FVec Ideal S1024 .f32) (W : FVec Ideal S1024x5648 .f32) (hg : FVec Ideal S64 .f32)
    (fb : FVec Ideal S8 .f32) (al dt : FVec Ideal S4 .f32)

/-- Row `i` normalized and projected. -/
abbrev rowOfP (c : Fin 5648) : EReal := proj (fun k => X (ix2 i k)) (fun k => g (ix1 k)) (fun k => W (ix2 k c))

/-- The queries, normalized and scaled. -/
def resQ : Vec Ideal S128x512 .bf16 :=
  truncf .bf16 (mulf (heads (extractStridedSlice S128x512 ![0, 0] (projected X g W) slices_S128x5648_S128x512_0_0) hg) (broadcastInDim S128x512 ![] bcast_S_S128x512 (constant S_ .f32 0x3E000000#32))) bitsLt_bf16_f32
/-- The keys, normalized. -/
def keys : FVec Ideal S128x512 .f32 := heads (extractStridedSlice S128x512 ![0, 512] (projected X g W) slices_S128x5648_S128x512_0_512) hg
/-- The values. -/
def values : FVec Ideal S128x512 .f32 := extractStridedSlice S128x512 ![0, 1024] (projected X g W) slices_S128x5648_S128x512_0_1024

/-- A key's entry, from its row. -/
theorem keys_apply (j : Fin 512) : keys X g W hg (ix2 i j) = headNorm (fun j => rowOfP i X g W (col 512 (by omega) j)) (fun d => hg (ix1 d)) j := by
  unfold keys
  rw [heads_apply]
  simp only [slice_k, projected_apply]

/-- A value's entry, from its row. -/
theorem values_apply (j : Fin 512) : values X g W (ix2 i j) = rowOfP i X g W (col 1024 (by omega) j) := by
  unfold values
  rw [slice_v, projected_apply]

/-- A query's entry, from its row. -/
theorem resQ_apply (j : Fin 512) : resQ X g W hg (ix2 i j) = headNorm (fun j => rowOfP i X g W (col 0 (by omega) j)) (fun d => hg (ix1 d)) j * sampleScale := by
  unfold resQ
  refine (congrArg (fun a : EReal => a * sampleScale) (heads_apply i _ hg j)).trans ?_
  simp only [slice_q, projected_apply]

/-- A log gate, log decay or beta, from its row. -/
theorem smalls_apply (l : Fin 16) : small (projected X g W) fb al dt (ix2 i l)
    = smallCol (rowOfP i X g W) (fun l => fb (ix1 l)) (fun l => al (ix1 l)) (fun l => dt (ix1 l)) l := by
  rw [small_apply]
  simp only [projected_apply]

end entries

end Cert.Proof.SampleInputs.Ref

end
-- ==== Proof.SampleInputs.Results.lean ====
/-
  What the reference of the input projection for the sample leaves, by the functions it is read through.
-/
module

public import proofs.«01_k».proof.Proof.SampleInputs.Ref

@[expose] public section

set_option maxRecDepth 16384

noncomputable section

namespace Cert.Proof.SampleInputs.Ref

open Cert.Reference4Ideal Cert.Reference4Ideal.Gen Cert.Reference4Ideal.Value
open Idealize.ShloMosaic Idealize.SL.Sem

variable (m : (ℓ : Loc nD τ sig) → Buf (Elt Ideal) ℓ) (c : Dev nD)

/-! The arguments, with the sequences' rows one after another and the layer's axis dropped. -/

def refX : FVec Ideal S128x1024 .f32 := shapeCast S128x1024 (m ((c.tc : Thread nD τ).loc main_arg0)) shapeCasts_S32x4x1024_S128x1024
def refG : FVec Ideal S1024 .f32 := shapeCast S1024 (m ((c.tc : Thread nD τ).loc main_arg1)) shapeCasts_S1x1024_S1024
def refW : FVec Ideal S1024x5648 .f32 := shapeCast S1024x5648 (m ((c.tc : Thread nD τ).loc main_arg2)) shapeCasts_S1x1024x5648_S1024x5648
def refFB : FVec Ideal S8 .f32 := shapeCast S8 (m ((c.tc : Thread nD τ).loc main_arg3)) shapeCasts_S1x8_S8
def refQG : FVec Ideal S64 .f32 := shapeCast S64 (m ((c.tc : Thread nD τ).loc main_arg4)) shapeCasts_S1x64_S64
def refKG : FVec Ideal S64 .f32 := shapeCast S64 (m ((c.tc : Thread nD τ).loc main_arg5)) shapeCasts_S1x64_S64
def refAL : FVec Ideal S4 .f32 := shapeCast S4 (m ((c.tc : Thread nD τ).loc main_arg6)) shapeCasts_S1x4_S4
def refDT : FVec Ideal S4 .f32 := shapeCast S4 (m ((c.tc : Thread nD τ).loc main_arg7)) shapeCasts_S1x4_S4

/-- The reference's run, with its ten results so written. -/
theorem run_results (g : Dev nD → PrngReg) :
    θ_run (defs (F := Ideal)) (onTc (τ := τ) (main (F := Ideal))) ⟨m, fun _ => 0, g⟩ fun r => ∀ c : Dev nD,
      r.2.mem ((c.tc : Thread nD τ).loc main_v83) = resQ (refX m c) (refG m c) (refW m c) (refQG m c)
      ∧ r.2.mem ((c.tc : Thread nD τ).loc main_v57) = keys (refX m c) (refG m c) (refW m c) (refKG m c)
      ∧ r.2.mem ((c.tc : Thread nD τ).loc main_v84) = truncf .bf16 (keys (refX m c) (refG m c) (refW m c) (refKG m c)) bitsLt_bf16_f32
      ∧ r.2.mem ((c.tc : Thread nD τ).loc main_v19) = values (refX m c) (refG m c) (refW m c)
      ∧ r.2.mem ((c.tc : Thread nD τ).loc main_v85) = truncf .bf16 (values (refX m c) (refG m c) (refW m c)) bitsLt_bf16_f32
      ∧ r.2.mem ((c.tc : Thread nD τ).loc main_v21) = extractStridedSlice S128x1536 ![0, 1544] (projected (refX m c) (refG m c) (refW m c)) slices_S128x5648_S128x1536_0_1544
      ∧ r.2.mem ((c.tc : Thread nD τ).loc main_v24) = extractStridedSlice S128x512 ![0, 3088] (projected (refX m c) (refG m c) (refW m c)) slices_S128x5648_S128x512_0_3088
      ∧ r.2.mem ((c.tc : Thread nD τ).loc main_v86) = truncf .bf16 (extractStridedSlice S128x2048 ![0, 3600] (projected (refX m c) (refG m c) (refW m c)) slices_S128x5648_S128x2048_0_3600) bitsLt_bf16_f32
      ∧ r.2.mem ((c.tc : Thread nD τ).loc main_v88) = padded (small (projected (refX m c) (refG m c) (refW m c)) (refFB m c) (refAL m c) (refDT m c))
      ∧ r.2.mem ((c.tc : Thread nD τ).loc main_v89) = transpose S16x128 [1, 0] (small (projected (refX m c) (refG m c) (refW m c)) (refFB m c) (refAL m c) (refDT m c)) transposes_S128x16_S16x128_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (Cert.Reference4Ideal.Value.run m g)
  obtain ⟨h0, h1, h2, h3, h4, h5, h6, h7, h8, h9, hr⟩ := h c
  exact ⟨h0, h1, h2, h3, h4, h5, h6, h7, h8, h9, hr⟩

end Cert.Proof.SampleInputs.Ref

end
-- ==== Proof.SampleInputs.Equal.lean ====
/-
  The value claim of the input projection for the sample: from memories that agree on the arguments, whatever these hold, the kernel and the
  reference leave the same ten arrays.
-/
module

public import proofs.«01_k».proof.Defs
public import proofs.«01_k».proof.Proof.SampleInputs.Array
public import proofs.«01_k».proof.Proof.SampleInputs.Results

@[expose] public section

set_option maxRecDepth 16384

noncomputable section

namespace Cert.Proof.SampleInputs

open Idealize.ShloMosaic Idealize.SL.Sem

section results

variable (m : (ℓ : Loc Cert.Kernel4Ideal.nD Cert.Kernel4Ideal.τ Cert.Kernel4Ideal.sig) → Buf (Elt Ideal) ℓ) (c : Dev Cert.Kernel4Ideal.nD)

/-- The queries: the reference's array is the kernel's. -/
theorem q_eq : Ref.resQ (arrX m c) (arrG m c) (arrW m c) (arrQG m c)
    = qArr m c := by
  funext y
  exact (congrArg _ (eq_ix2 y)).trans (Ref.resQ_apply (y 0) (arrX m c) (arrG m c) (arrW m c) (arrQG m c) (y 1))

/-- The keys, in float32: the reference's array is the kernel's. -/
theorem kt_eq : Ref.keys (arrX m c) (arrG m c) (arrW m c) (arrKG m c)
    = kFull m c := by
  funext y
  exact (congrArg _ (eq_ix2 y)).trans (Ref.keys_apply (y 0) (arrX m c) (arrG m c) (arrW m c) (arrKG m c) (y 1))

/-- The keys, in bf16: the reference's array is the kernel's. -/
theorem k_eq : truncf .bf16 (Ref.keys (arrX m c) (arrG m c) (arrW m c) (arrKG m c)) Cert.Reference4Ideal.Gen.bitsLt_bf16_f32
    = kArr m c := by
  funext y
  exact (congrArg _ (eq_ix2 y)).trans (Ref.keys_apply (y 0) (arrX m c) (arrG m c) (arrW m c) (arrKG m c) (y 1))

/-- The values, in float32: the reference's array is the kernel's. -/
theorem vt_eq : Ref.values (arrX m c) (arrG m c) (arrW m c)
    = vFull m c := by
  funext y
  exact (congrArg _ (eq_ix2 y)).trans (Ref.values_apply (y 0) (arrX m c) (arrG m c) (arrW m c) (y 1))

/-- The values, in bf16: the reference's array is the kernel's. -/
theorem v_eq : truncf .bf16 (Ref.values (arrX m c) (arrG m c) (arrW m c)) Cert.Reference4Ideal.Gen.bitsLt_bf16_f32
    = vArr m c := by
  funext y
  exact (congrArg _ (eq_ix2 y)).trans (Ref.values_apply (y 0) (arrX m c) (arrG m c) (arrW m c) (y 1))

/-- The delta branch's inputs: the reference's array is the kernel's. -/
theorem gqkv_eq : extractStridedSlice Cert.Reference4Ideal.S128x1536 ![0, 1544] (Ref.projected (arrX m c) (arrG m c) (arrW m c)) Cert.Reference4Ideal.Gen.slices_S128x5648_S128x1536_0_1544
    = gqkvArr m c := by
  funext y
  exact (congrArg _ (eq_ix2 y)).trans ((Ref.slice_gqkv (y 0) _ (y 1)).trans (Ref.projected_apply (y 0) (arrX m c) (arrG m c) (arrW m c) _))

/-- The delta branch's output gate: the reference's array is the kernel's. -/
theorem gz_eq : extractStridedSlice Cert.Reference4Ideal.S128x512 ![0, 3088] (Ref.projected (arrX m c) (arrG m c) (arrW m c)) Cert.Reference4Ideal.Gen.slices_S128x5648_S128x512_0_3088
    = gzArr m c := by
  funext y
  exact (congrArg _ (eq_ix2 y)).trans ((Ref.slice_gz (y 0) _ (y 1)).trans (Ref.projected_apply (y 0) (arrX m c) (arrG m c) (arrW m c) _))

/-- The merge gates: the reference's array is the kernel's. -/
theorem gates_eq : truncf .bf16 (extractStridedSlice Cert.Reference4Ideal.S128x2048 ![0, 3600] (Ref.projected (arrX m c) (arrG m c) (arrW m c)) Cert.Reference4Ideal.Gen.slices_S128x5648_S128x2048_0_3600) Cert.Reference4Ideal.Gen.bitsLt_bf16_f32
    = gatesArr m c := by
  funext y
  exact (congrArg _ (eq_ix2 y)).trans ((Ref.slice_gates (y 0) _ (y 1)).trans (Ref.projected_apply (y 0) (arrX m c) (arrG m c) (arrW m c) _))

/-- The log gates, log decays and betas, padded: the reference's array is the kernel's. -/
theorem s_eq : Ref.padded (Ref.small (Ref.projected (arrX m c) (arrG m c) (arrW m c)) (arrFB m c) (arrAL m c) (arrDT m c))
    = sArr m c := by
  funext y
  refine (congrArg _ (eq_ix2 y)).trans ((Ref.padded_apply (y 0) _ (y 1)).trans ?_)
  have hs := fun l => Ref.smalls_apply (y 0) (arrX m c) (arrG m c) (arrW m c) (arrFB m c) (arrAL m c) (arrDT m c) l
  show _ = if h : (y 1).val < 16 then smallAt m c (y 0) ⟨(y 1).val, h⟩ else 0
  exact dite_congr rfl (fun h => hs ⟨(y 1).val, h⟩) fun _ => rfl

/-- The log gates, log decays and betas, one row each: the reference's array is the kernel's. -/
theorem st_eq : transpose Cert.Reference4Ideal.S16x128 [1, 0] (Ref.small (Ref.projected (arrX m c) (arrG m c) (arrW m c)) (arrFB m c) (arrAL m c) (arrDT m c)) Cert.Reference4Ideal.Gen.transposes_S128x16_S16x128_1_0
    = stArr m c := by
  funext y
  exact (congrArg _ (eq_ix2 y)).trans ((Ref.turned_apply (y 1) _ (y 0)).trans
    (Ref.smalls_apply (y 1) (arrX m c) (arrG m c) (arrW m c) (arrFB m c) (arrAL m c) (arrDT m c) (y 0)))

end results

set_option maxHeartbeats 4000000 in
/-- The kernel and the reference end with equal results. -/
theorem algebraic : Cert.algebraic_Kernel4Ideal_Reference4Ideal := fun m g m' g' _ hag => by
  refine ⟨fun c => qArr m c, fun c => kFull m c, fun c => kArr m c, fun c => vFull m c, fun c => vArr m c, fun c => gqkvArr m c, fun c => gzArr m c,
    fun c => gatesArr m c, fun c => sArr m c, fun c => stArr m c, ?_, ?_⟩
  · refine (θ_run _ _ _).mono (fun r h c => ?_) (Cert.Kernel4Ideal.Value.run_blocks m g)
    obtain ⟨h9, h10, h11, h12, h13, h14, h15, h16, h17, h18, hr⟩ := h c
    exact ⟨h9.trans (arr9 m c), h10.trans (arr10 m c), h11.trans (arr11 m c), h12.trans (arr12 m c), h13.trans (arr13 m c), h14.trans (arr14 m c),
      h15.trans (arr15 m c), h16.trans (arr16 m c), h17.trans (arr17 m c), h18.trans (arr18 m c), hr⟩
  · refine (θ_run _ _ _).mono (fun r h c => ?_) (Ref.run_results m' g')
    obtain ⟨e0, e1, e2, e3, e4, e5, e6, e7⟩ := hag c
    have hX : Ref.refX m' c = arrX m c := congrArg (fun a => shapeCast _ a Cert.Reference4Ideal.Gen.shapeCasts_S32x4x1024_S128x1024) e0
    have hG : Ref.refG m' c = arrG m c := congrArg (fun a => shapeCast _ a Cert.Reference4Ideal.Gen.shapeCasts_S1x1024_S1024) e1
    have hW : Ref.refW m' c = arrW m c := congrArg (fun a => shapeCast _ a Cert.Reference4Ideal.Gen.shapeCasts_S1x1024x5648_S1024x5648) e2
    have hFB : Ref.refFB m' c = arrFB m c := congrArg (fun a => shapeCast _ a Cert.Reference4Ideal.Gen.shapeCasts_S1x8_S8) e3
    have hQG : Ref.refQG m' c = arrQG m c := congrArg (fun a => shapeCast _ a Cert.Reference4Ideal.Gen.shapeCasts_S1x64_S64) e4
    have hKG : Ref.refKG m' c = arrKG m c := congrArg (fun a => shapeCast _ a Cert.Reference4Ideal.Gen.shapeCasts_S1x64_S64) e5
    have hAL : Ref.refAL m' c = arrAL m c := congrArg (fun a => shapeCast _ a Cert.Reference4Ideal.Gen.shapeCasts_S1x4_S4) e6
    have hDT : Ref.refDT m' c = arrDT m c := congrArg (fun a => shapeCast _ a Cert.Reference4Ideal.Gen.shapeCasts_S1x4_S4) e7
    exact ⟨(h c).1.trans (by rw [hX, hG, hW, hQG]; exact q_eq m c),
      (h c).2.1.trans (by rw [hX, hG, hW, hKG]; exact kt_eq m c),
      (h c).2.2.1.trans (by rw [hX, hG, hW, hKG]; exact k_eq m c),
      (h c).2.2.2.1.trans (by rw [hX, hG, hW]; exact vt_eq m c),
      (h c).2.2.2.2.1.trans (by rw [hX, hG, hW]; exact v_eq m c),
      (h c).2.2.2.2.2.1.trans (by rw [hX, hG, hW]; exact gqkv_eq m c),
      (h c).2.2.2.2.2.2.1.trans (by rw [hX, hG, hW]; exact gz_eq m c),
      (h c).2.2.2.2.2.2.2.1.trans (by rw [hX, hG, hW]; exact gates_eq m c),
      (h c).2.2.2.2.2.2.2.2.1.trans (by rw [hX, hG, hW, hFB, hAL, hDT]; exact s_eq m c),
      (h c).2.2.2.2.2.2.2.2.2.1.trans (by rw [hX, hG, hW, hFB, hAL, hDT]; exact st_eq m c),
      (h c).2.2.2.2.2.2.2.2.2.2⟩

end Cert.Proof.SampleInputs

end
-- ==== Proof.SampleMerge.Pay.lean ====
/-
  The body of the sample's merge, MLP and embedding, read entry by entry.
-/
module

public import proofs.«01_k».proof.Proof.Gen.Kernel5Ideal.Value
public import Idealize.ShloMosaic.Lib.Pipeline.ValueKit
public import proofs.«01_k».proof.Proof.Merge.Pay

@[expose] public section

set_option maxRecDepth 16384

noncomputable section

namespace Cert.Proof.SampleMerge

open Cert.Kernel5Ideal Cert.Kernel5Ideal.Gen Cert.Proof.Merge
open Idealize.ShloMosaic Idealize.ShloMosaic.Tactic

variable (v0 : Vec Ideal S128x2048 .bf16) (v10 v17 : Vec Ideal S128x512 .f32) (v12 v18 : Vec Ideal S512x1024 .bf16)
    (v23 : Vec Ideal S128x1024 .f32) (v26 : Vec Ideal S1024x1024 .bf16) (r : Fin 128)

/-- The row after the branches' merge. -/
theorem pay2_apply (j : Fin 1024) : k0_pay2 v0 v10 v12 v17 v18 v23 v26 (ix2 r j)
    = mid (fun k => v23 (ix2 r k)) (fun l => v10 (ix2 r l)) (fun l => v17 (ix2 r l)) (fun k => v0 (ix2 r (lo k)))
      (fun k => v0 (ix2 r (hi k))) (fun l k => v12 (ix2 l k)) (fun l k => v18 (ix2 l k)) (fun k j => v26 (ix2 k j)) j := by
  unfold k0_pay2
  pointwise
  simp only [mid, ← half_tanh]
  rfl

/-- The sum of its squares. -/
theorem pay4_apply : k0_pay4 v0 v10 v12 v17 v18 v23 v26 (ix1 r)
    = ∑ k, k0_pay2 v0 v10 v12 v17 v18 v23 v26 (ix2 r k) * k0_pay2 v0 v10 v12 v17 v18 v23 v26 (ix2 r k) := by
  unfold k0_pay4
  generalize k0_pay2 v0 v10 v12 v17 v18 v23 v26 = v
  pointwise

/-- The row after the MLP. -/
theorem pay5_apply (v29 : FVec Ideal S128x1024 .f32) (v31 : FVec Ideal S1x1024 .f32) (v34 : FVec Ideal S128 .f32)
    (v45 : Vec Ideal S1024x4096 .bf16) (v52 : Vec Ideal S4096x1024 .bf16) (h : v34 (ix1 r) = ∑ k, v29 (ix2 r k) * v29 (ix2 r k)) (j : Fin 1024) :
    k0_pay5 v29 v31 v34 v45 v52 (ix2 r j)
      = mlp (fun k => v29 (ix2 r k)) (fun k => v31 (ix2 0 k)) (fun l k => v45 (ix2 l k)) (fun k j => v52 (ix2 k j)) j := by
  unfold k0_pay5
  pointwise
  simp only [mlp, rms, h]

/-- Half of the row's per-layer gate. -/
theorem pay6_apply (v29 : FVec Ideal S128x1024 .f32) (v31 : FVec Ideal S1x1024 .f32) (v34 : FVec Ideal S128 .f32)
    (v45 : Vec Ideal S1024x4096 .bf16) (v52 : Vec Ideal S4096x1024 .bf16) (v56 : Vec Ideal S1x1024 .f32) (v71 : Vec Ideal S1024x1024 .bf16) (j : Fin 1024) :
    k0_pay6 v29 v31 v34 v45 v52 v56 v71 (ix2 r j)
      = half * ∑ k, rms (fun k => k0_pay5 v29 v31 v34 v45 v52 (ix2 r k)) (fun k => v56 (ix2 0 k)) k * v71 (ix2 k j) := by
  unfold k0_pay6
  generalize k0_pay5 v29 v31 v34 v45 v52 = v
  pointwise
  rfl

/-- The row the body stores. -/
theorem pay1_apply (v55 v76 : FVec Ideal S128x1024 .f32) (v81 : Vec Ideal S128x256 .f32) (v84 : Vec Ideal S256x1024 .bf16) (j : Fin 1024) :
    k0_pay1 v55 v76 v81 v84 (ix2 r j)
      = v55 (ix2 r j) + (half * Ideal.tanh (v76 (ix2 r j)) + half) * ∑ l, v81 (ix2 r l) * v84 (ix2 l j) := by
  unfold k0_pay1
  pointwise

end Cert.Proof.SampleMerge

end
-- ==== Proof.SampleMerge.Out.lean ====
/-
  What the sample's body stores, from the blocks it loads.
-/
module

public import proofs.«01_k».proof.Proof.SampleMerge.Pay

@[expose] public section

set_option maxRecDepth 16384

noncomputable section

namespace Cert.Proof.SampleMerge

open Cert.Kernel5Ideal Cert.Kernel5Ideal.Gen Cert.Proof.Merge
open Idealize.ShloMosaic Idealize.ShloMosaic.Tactic

/-! A load of a whole block is the block. -/

theorem ld0 {e : EltTy} (x : Vec Ideal S128x2048 e) : View.ld x r0_0 = x := View.ld_unit_zero (S := S128x2048) (by decide) _ x
theorem ld1 {e : EltTy} (x : Vec Ideal S128x512 e) : View.ld x r0_1 = x := View.ld_unit_zero (S := S128x512) (by decide) _ x
theorem ld2 {e : EltTy} (x : Vec Ideal S512x1024 e) : View.ld x r0_2 = x := View.ld_unit_zero (S := S512x1024) (by decide) _ x
theorem ld3 {e : EltTy} (x : Vec Ideal S128x1024 e) : View.ld x r0_3 = x := View.ld_unit_zero (S := S128x1024) (by decide) _ x
theorem ld4 {e : EltTy} (x : Vec Ideal S1024x1024 e) : View.ld x r0_4 = x := View.ld_unit_zero (S := S1024x1024) (by decide) _ x
theorem ld5 {e : EltTy} (x : Vec Ideal S1x1024 e) : View.ld x r0_5 = x := View.ld_unit_zero (S := S1x1024) (by decide) _ x
theorem ld6 {e : EltTy} (x : Vec Ideal S1024x4096 e) : View.ld x r0_6 = x := View.ld_unit_zero (S := S1024x4096) (by decide) _ x
theorem ld7 {e : EltTy} (x : Vec Ideal S4096x1024 e) : View.ld x r0_7 = x := View.ld_unit_zero (S := S4096x1024) (by decide) _ x
theorem ld8 {e : EltTy} (x : Vec Ideal S128x256 e) : View.ld x r0_8 = x := View.ld_unit_zero (S := S128x256) (by decide) _ x
theorem ld9 {e : EltTy} (x : Vec Ideal S256x1024 e) : View.ld x r0_9 = x := View.ld_unit_zero (S := S256x1024) (by decide) _ x

/-- The gain as the body reads it is the gain. -/
theorem pay3_eq (g : Vec Ideal S1x1024 .f32) (k : Fin 1024) : k0_pay3 g (ix2 0 k) = g (ix2 0 k) := by
  unfold k0_pay3
  pointwise

/-- A row of the block the body stores is that row merged, through the MLP and with its embedding added. -/
theorem out_apply (x0 : Vec Ideal S128x1024 .f32) (x1 x2 : Vec Ideal S128x512 .f32) (x3 : Vec Ideal S128x2048 .bf16) (x4 : Vec Ideal S128x256 .f32)
    (x5 x6 : Vec Ideal S512x1024 .bf16) (x7 : Vec Ideal S1024x1024 .bf16) (x8 : Vec Ideal S1x1024 .f32) (x9 : Vec Ideal S1024x4096 .bf16)
    (x10 : Vec Ideal S4096x1024 .bf16) (x11 : Vec Ideal S1x1024 .f32) (x12 : Vec Ideal S1024x1024 .bf16) (x13 : Vec Ideal S256x1024 .bf16)
    (r : Fin 128) (j : Fin 1024) :
    out0_14 x0 x1 x2 x3 x4 x5 x6 x7 x8 x9 x10 x11 x12 x13 (ix2 r j)
      = embed (mlp (mid (fun k => x0 (ix2 r k)) (fun l => x1 (ix2 r l)) (fun l => x2 (ix2 r l)) (fun k => x3 (ix2 r (lo k))) (fun k => x3 (ix2 r (hi k)))
          (fun l k => x5 (ix2 l k)) (fun l k => x6 (ix2 l k)) (fun k j => x7 (ix2 k j))) (fun k => x8 (ix2 0 k)) (fun l k => x9 (ix2 l k)) (fun k j => x10 (ix2 k j)))
        (fun k => x11 (ix2 0 k)) (fun k j => x12 (ix2 k j)) (fun l => x4 (ix2 r l)) (fun l j => x13 (ix2 l j)) j := by
  unfold out0_14
  rw [View.canon_unit_zero (by decide)]
  unfold k0_pay7 k0_pay8 k0_pay9
  simp only [ld0, ld1, ld2, ld3, ld4, ld5, ld6, ld7, ld8, ld9]
  have h5 : ∀ k, k0_pay5 (k0_pay2 x3 x1 x5 x2 x6 x0 x7) (k0_pay3 x8) (k0_pay4 x3 x1 x5 x2 x6 x0 x7) x9 x10 (ix2 r k)
      = mlp (mid (fun k => x0 (ix2 r k)) (fun l => x1 (ix2 r l)) (fun l => x2 (ix2 r l)) (fun k => x3 (ix2 r (lo k))) (fun k => x3 (ix2 r (hi k)))
          (fun l k => x5 (ix2 l k)) (fun l k => x6 (ix2 l k)) (fun k j => x7 (ix2 k j))) (fun k => x8 (ix2 0 k)) (fun l k => x9 (ix2 l k)) (fun k j => x10 (ix2 k j)) k := fun k => by
    rw [pay5_apply r _ _ _ _ _ (pay4_apply x3 x1 x2 x5 x6 x0 x7 r)]
    simp only [pay2_apply, pay3_eq]
  rw [pay1_apply, pay6_apply, half_tanh]
  simp only [h5]
  rfl

end Cert.Proof.SampleMerge

end
-- ==== Proof.SampleMerge.Blocks.lean ====
/-
  The arrays the sample's call is given, and the blocks of them that a point reads.
-/
module

public import proofs.«01_k».proof.Proof.Gen.Kernel5Ideal.Value
public import Idealize.ShloMosaic.Lib.Pipeline.ValueKit
public import proofs.«01_k».proof.Proof.Merge.Row
public import Idealize.ShloMosaic.Lib.Claim

@[expose] public section

set_option maxRecDepth 16384

noncomputable section

namespace Cert.Proof.SampleMerge

open Cert.Kernel5Ideal Cert.Kernel5Ideal.Gen Cert.Proof.Merge
open Idealize.ShloMosaic Idealize.ShloMosaic.TcCoe Idealize.ShloMosaic.Tactic

variable (m : (ℓ : Loc nD τ sig) → Buf (Elt Ideal) ℓ) (c : Dev nD) (t : Fin cfg0.N)

/-! The arguments, with the sequences' rows one after another and the layer's axis dropped. -/

abbrev arrX : Vec Ideal S128x1024 .f32 := shapeCast S128x1024 (m ((c.tc : Thread nD τ).loc main_arg0)) shapeCasts_S32x4x1024_S128x1024
abbrev arrA : Vec Ideal S128x512 .f32 := shapeCast S128x512 (m ((c.tc : Thread nD τ).loc main_arg1)) shapeCasts_S32x4x512_S128x512
abbrev arrP : Vec Ideal S128x256 .f32 := shapeCast S128x256 (m ((c.tc : Thread nD τ).loc main_arg4)) shapeCasts_S32x4x256_S128x256
abbrev arrWA : FVec Ideal S512x1024 .f32 := shapeCast S512x1024 (m ((c.tc : Thread nD τ).loc main_arg5)) shapeCasts_S1x512x1024_S512x1024
abbrev arrWB : FVec Ideal S512x1024 .f32 := shapeCast S512x1024 (m ((c.tc : Thread nD τ).loc main_arg6)) shapeCasts_S1x512x1024_S512x1024
abbrev arrWO : FVec Ideal S1024x1024 .f32 := shapeCast S1024x1024 (m ((c.tc : Thread nD τ).loc main_arg7)) shapeCasts_S1x1024x1024_S1024x1024
abbrev arrWU : FVec Ideal S1024x4096 .f32 := shapeCast S1024x4096 (m ((c.tc : Thread nD τ).loc main_arg9)) shapeCasts_S1x1024x4096_S1024x4096
abbrev arrWD : FVec Ideal S4096x1024 .f32 := shapeCast S4096x1024 (m ((c.tc : Thread nD τ).loc main_arg10)) shapeCasts_S1x4096x1024_S4096x1024
abbrev arrWG : FVec Ideal S1024x1024 .f32 := shapeCast S1024x1024 (m ((c.tc : Thread nD τ).loc main_arg12)) shapeCasts_S1x1024x1024_S1024x1024
abbrev arrWP : FVec Ideal S256x1024 .f32 := shapeCast S256x1024 (m ((c.tc : Thread nD τ).loc main_arg13)) shapeCasts_S1x256x1024_S256x1024
abbrev arrG1 : FVec Ideal S1024 .f32 := shapeCast S1024 (m ((c.tc : Thread nD τ).loc main_arg8)) shapeCasts_S1x1024_S1024
abbrev arrG2 : FVec Ideal S1024 .f32 := shapeCast S1024 (m ((c.tc : Thread nD τ).loc main_arg11)) shapeCasts_S1x1024_S1024
abbrev arrB : Vec Ideal S128x512 .f32 := m ((c.tc : Thread nD τ).loc main_arg2)
abbrev arrT : Vec Ideal S128x2048 .bf16 := m ((c.tc : Thread nD τ).loc main_arg3)

/-! What the host code before the call leaves in its operands. -/

theorem V_X : V m c main_v18 = arrX m c := by entry_read; rfl
theorem V_A : V m c main_v19 = arrA m c := by entry_read; rfl
theorem V_P : V m c main_v20 = arrP m c := by entry_read; rfl
theorem V_WA : V m c main_v1 = truncf .bf16 (arrWA m c) bitsLt_bf16_f32 := by entry_read; rfl
theorem V_WB : V m c main_v3 = truncf .bf16 (arrWB m c) bitsLt_bf16_f32 := by entry_read; rfl
theorem V_WO : V m c main_v5 = truncf .bf16 (arrWO m c) bitsLt_bf16_f32 := by entry_read; rfl
theorem V_WU : V m c main_v9 = truncf .bf16 (arrWU m c) bitsLt_bf16_f32 := by entry_read; rfl
theorem V_WD : V m c main_v11 = truncf .bf16 (arrWD m c) bitsLt_bf16_f32 := by entry_read; rfl
theorem V_WG : V m c main_v15 = truncf .bf16 (arrWG m c) bitsLt_bf16_f32 := by entry_read; rfl
theorem V_WP : V m c main_v17 = truncf .bf16 (arrWP m c) bitsLt_bf16_f32 := by entry_read; rfl
theorem V_G1 : V m c main_v7 = shapeCast S1x1024 (arrG1 m c) shapeCasts_S1024_S1x1024 := by entry_read; rfl
theorem V_G2 : V m c main_v13 = shapeCast S1x1024 (arrG2 m c) shapeCasts_S1024_S1x1024 := by entry_read; rfl
theorem V_B : V m c main_arg2 = arrB m c := V_main_arg2 m c
theorem V_T : V m c main_arg3 = arrT m c := V_main_arg3 m c

/-! Where the blocks lie. -/

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx14 : ∀ t : Fin cfg0.N, win0_14.index t = ![t.val, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx9 : ∀ t : Fin cfg0.N, win0_9.index t = ![0, 0] := by decide +kernel
theorem idx10 : ∀ t : Fin cfg0.N, win0_10.index t = ![0, 0] := by decide +kernel
theorem idx12 : ∀ t : Fin cfg0.N, win0_12.index t = ![0, 0] := by decide +kernel
theorem idx13 : ∀ t : Fin cfg0.N, win0_13.index t = ![0, 0] := by decide +kernel
theorem idx8 : ∀ t : Fin cfg0.N, win0_8.index t = ![0, 0] := by decide +kernel
theorem idx11 : ∀ t : Fin cfg0.N, win0_11.index t = ![0, 0] := by decide +kernel

/-- The row of the arrays that row `r` of a point's blocks is. -/
def rowOf (t : Fin cfg0.N) (r : Fin 128) : Fin 128 := ⟨t.val * 128 + r.val, by have h : t.val < 1 := t.isLt; omega⟩

theorem blk0 (r : Fin 128) (l : Fin 1024) : iblk m c 0 t (ix2 r l) = V m c main_v18 (ix2 (rowOf t r) l) := by
  blk_ext [iblk, idx0 t, rowOf]

theorem blk1 (r : Fin 128) (l : Fin 512) : iblk m c 1 t (ix2 r l) = V m c main_v19 (ix2 (rowOf t r) l) := by
  blk_ext [iblk, idx1 t, rowOf]

theorem blk4 (r : Fin 128) (l : Fin 256) : iblk m c 4 t (ix2 r l) = V m c main_v20 (ix2 (rowOf t r) l) := by
  blk_ext [iblk, idx4 t, rowOf]

theorem blk2 (r : Fin 128) (l : Fin 512) : iblk m c 2 t (ix2 r l) = V m c main_arg2 (ix2 (rowOf t r) l) := by
  blk_ext [iblk, idx2 t, rowOf]

theorem blk3 (r : Fin 128) (l : Fin 2048) : iblk m c 3 t (ix2 r l) = V m c main_arg3 (ix2 (rowOf t r) l) := by
  blk_ext [iblk, idx3 t, rowOf]

theorem blk5 (r : Fin 512) (l : Fin 1024) : iblk m c 5 t (ix2 r l) = V m c main_v1 (ix2 r l) := by
  blk_ext [iblk, idx5 t, rowOf]

theorem blk6 (r : Fin 512) (l : Fin 1024) : iblk m c 6 t (ix2 r l) = V m c main_v3 (ix2 r l) := by
  blk_ext [iblk, idx6 t, rowOf]

theorem blk7 (r : Fin 1024) (l : Fin 1024) : iblk m c 7 t (ix2 r l) = V m c main_v5 (ix2 r l) := by
  blk_ext [iblk, idx7 t, rowOf]

theorem blk9 (r : Fin 1024) (l : Fin 4096) : iblk m c 9 t (ix2 r l) = V m c main_v9 (ix2 r l) := by
  blk_ext [iblk, idx9 t, rowOf]

theorem blk10 (r : Fin 4096) (l : Fin 1024) : iblk m c 10 t (ix2 r l) = V m c main_v11 (ix2 r l) := by
  blk_ext [iblk, idx10 t, rowOf]

theorem blk12 (r : Fin 1024) (l : Fin 1024) : iblk m c 12 t (ix2 r l) = V m c main_v15 (ix2 r l) := by
  blk_ext [iblk, idx12 t, rowOf]

theorem blk13 (r : Fin 256) (l : Fin 1024) : iblk m c 13 t (ix2 r l) = V m c main_v17 (ix2 r l) := by
  blk_ext [iblk, idx13 t, rowOf]

theorem blk8 (r : Fin 1) (l : Fin 1024) : iblk m c 8 t (ix2 r l) = V m c main_v7 (ix2 r l) := by
  blk_ext [iblk, idx8 t, rowOf]

theorem blk11 (r : Fin 1) (l : Fin 1024) : iblk m c 11 t (ix2 r l) = V m c main_v13 (ix2 r l) := by
  blk_ext [iblk, idx11 t, rowOf]

theorem emb14 (r : Fin 128) (l : Fin 1024) : (win0_14.blk t).view.emb (ix2 r l) = ix2 (rowOf t r) l := by
  blk_ext [idx14 t, rowOf]

end Cert.Proof.SampleMerge

end
-- ==== Proof.SampleMerge.Whole.lean ====
/-
  The merge, the MLP and the embedding of every row of the sample, as one array.
-/
module

public import proofs.«01_k».proof.Proof.SampleMerge.Pay

@[expose] public section

noncomputable section

namespace Cert.Proof.SampleMerge

open Cert.Kernel5Ideal Cert.Proof.Merge
open Idealize.ShloMosaic Idealize.ShloMosaic.Tactic

variable (X : Vec Ideal S128x1024 .f32) (A B : Vec Ideal S128x512 .f32) (T : Vec Ideal S128x2048 .bf16) (P : Vec Ideal S128x256 .f32)
    (WA WB : FVec Ideal S512x1024 .f32) (WO : FVec Ideal S1024x1024 .f32) (g : Fin 1024 → EReal)
    (WU : FVec Ideal S1024x4096 .f32) (WD : FVec Ideal S4096x1024 .f32) (g' : Fin 1024 → EReal)
    (WG : FVec Ideal S1024x1024 .f32) (WP : FVec Ideal S256x1024 .f32) (i : Fin 128)

/-- Row `i` after the merge of the two branches. -/
def midRow : Fin 1024 → EReal :=
  mid (fun k => X (ix2 i k)) (fun l => A (ix2 i l)) (fun l => B (ix2 i l)) (fun k => T (ix2 i (lo k))) (fun k => T (ix2 i (hi k)))
    (fun l k => WA (ix2 l k)) (fun l k => WB (ix2 l k)) (fun k j => WO (ix2 k j))

/-- Row `i` after the MLP. -/
def mlpRow : Fin 1024 → EReal := mlp (midRow X A B T WA WB WO i) g (fun l k => WU (ix2 l k)) (fun k j => WD (ix2 k j))

/-- Row `i` after the embedding. -/
def postRow : Fin 1024 → EReal :=
  embed (mlpRow X A B T WA WB WO g WU WD i) g' (fun k j => WG (ix2 k j)) (fun l => P (ix2 i l)) (fun l j => WP (ix2 l j))

/-- All rows. -/
def postArr : Vec Ideal S128x1024 .f32 := fun j => postRow X A B T P WA WB WO g WU WD g' WG WP (j 0) (j 1)

end Cert.Proof.SampleMerge

end
-- ==== Proof.SampleMerge.Array.lean ====
/-
  The array the run of the sample's call leaves: every row merged, through the MLP and with its embedding added.
-/
module

public import proofs.«01_k».proof.Proof.SampleMerge.Out
public import proofs.«01_k».proof.Proof.SampleMerge.Blocks
public import proofs.«01_k».proof.Proof.SampleMerge.Whole

@[expose] public section

set_option maxRecDepth 16384

noncomputable section

namespace Cert.Proof.SampleMerge

open Cert.Kernel5Ideal Cert.Kernel5Ideal.Gen Cert.Proof.Merge
open Idealize.ShloMosaic Idealize.ShloMosaic.TcCoe Idealize.ShloMosaic.Tactic

variable (m : (ℓ : Loc nD τ sig) → Buf (Elt Ideal) ℓ) (c : Dev nD) (t : Fin cfg0.N)

/-- The row the arguments stand for. -/
abbrev rowAt (i : Fin 128) : Fin 1024 → EReal :=
  postRow (arrX m c) (arrA m c) (arrB m c) (arrT m c) (arrP m c) (arrWA m c) (arrWB m c) (arrWO m c) (fun k => arrG1 m c (ix1 k)) (arrWU m c) (arrWD m c)
    (fun k => arrG2 m c (ix1 k)) (arrWG m c) (arrWP m c) i

/-- A gain with a unit axis put before it. -/
theorem gain_apply (g : FVec Ideal S1024 .f32) (k : Fin 1024) : shapeCast S1x1024 g shapeCasts_S1024_S1x1024 (ix2 0 k) = g (ix1 k) := by
  pointwise

/-- The block a point writes holds its rows. -/
theorem out_at (r : Fin 128) (j : Fin 1024) :
    out0_14 (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (ix2 r j) = rowAt m c (rowOf t r) j := by
  rw [out_apply]
  simp only [blk0, blk1, blk2, blk3, blk4, blk5, blk6, blk7, blk8, blk9, blk10, blk11, blk12, blk13]
  rw [V_X, V_A, V_B, V_T, V_P, V_WA, V_WB, V_WO, V_G1, V_WU, V_WD, V_G2, V_WG, V_WP]
  simp only [gain_apply]
  rfl

/-- All rows, as the array the run leaves. -/
def rowsArr : Vec Ideal S128x1024 .f32 := fun j => rowAt m c (j 0) (j 1)

theorem arr_eq : (dats m 0 c).arrAt 14 cfg0.N = rowsArr m c := by
  refine (dats m 0 c).arrAt_eq_of_covers 14 _ (by decide +kernel) fun t hf y => ?_
  blk_simp
  rw [after0_14]
  have h0 : (y 0).val < 128 := (y 0).isLt
  have h1 : (y 1).val < 1024 := (y 1).isLt
  have hy : y = ix2 ⟨(y 0).val, h0⟩ ⟨(y 1).val, h1⟩ := by
    funext a
    match a with
    | ⟨0, _⟩ => exact Fin.ext rfl
    | ⟨1, _⟩ => exact Fin.ext rfl
  rw [hy]
  generalize (⟨(y 0).val, h0⟩ : Fin 128) = r
  generalize (⟨(y 1).val, h1⟩ : Fin 1024) = j
  exact (out_at m c t r j).trans (congrArg (rowsArr m c) (emb14 t r j)).symm

end Cert.Proof.SampleMerge

end
-- ==== Proof.SampleMerge.Ref.lean ====
/-
  The reference of the merge, the MLP and the embedding for the sample, read entry by entry.
-/
module

public import proofs.«01_k».proof.Proof.Gen.Reference5Ideal.Run
public import Idealize.ShloMosaic.Lib.Pipeline.ValueKit
public import proofs.«01_k».proof.Proof.SampleMerge.Whole

@[expose] public section

set_option maxRecDepth 16384

noncomputable section

namespace Cert.Proof.SampleMerge.Ref

open Cert.Reference5Ideal Cert.Reference5Ideal.Gen Cert.Reference5Ideal.Value Cert.Proof.Merge
open Idealize.ShloMosaic Idealize.ShloMosaic.Tactic

/-- The two branches' gates. -/
def gate (T : Vec Ideal S128x2048 .bf16) : FVec Ideal S128x2048 .f32 :=
  Host.divf (broadcastInDim S128x2048 ![] bcast_S_S128x2048 (constant S_ .f32 0x3F800000#32)) (addf (broadcastInDim S128x2048 ![] bcast_S_S128x2048 (constant S_ .f32 0x3F800000#32)) (Host.exp (Host.negf (extf .f32 T bitsLt_bf16_f32))))

/-- The two projected branches under their gates, added. -/
def merged (s : FVec Ideal S128x2048 .f32) (A B : FVec Ideal S128x512 .f32) (WA WB : FVec Ideal S512x1024 .f32) : FVec Ideal S128x1024 .f32 :=
  addf (mulf (extractStridedSlice S128x1024 ![0, 0] s slices_S128x2048_S128x1024_0_0) (Host.dotGeneral dot_S128x512_S512x1024_S128x1024_1_0_0_1_n_n none A WA))
    (mulf (extractStridedSlice S128x1024 ![0, 1024] s slices_S128x2048_S128x1024_0_1024) (Host.dotGeneral dot_S128x512_S512x1024_S128x1024_1_0_0_1_n_n none B WB))

/-- The merged branches projected and added to the rows. -/
def added (X M : FVec Ideal S128x1024 .f32) (WO : FVec Ideal S1024x1024 .f32) : FVec Ideal S128x1024 .f32 :=
  addf X (Host.dotGeneral dot_S128x1024_S1024x1024_S128x1024_1_0_0_1_n_n none M WO)

/-- The rows over the roots of their mean squares, times a gain. -/
def norm (X : FVec Ideal S128x1024 .f32) (g : FVec Ideal S1024 .f32) : FVec Ideal S128x1024 .f32 :=
  mulf (mulf X (broadcastInDim S128x1024 ![0, 1] bcast_S128x1_S128x1024_0_1 (Host.rsqrt (addf (Host.divf (broadcastInDim S128x1 ![0] bcast_S128_S128x1_0 (Host.reduceAdd (mulf X X) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))

/-- The MLP's hidden units before the square. -/
def hidden (N : FVec Ideal S128x1024 .f32) (WU : FVec Ideal S1024x4096 .f32) : FVec Ideal S128x4096 .f32 :=
  maximumf (Host.dotGeneral dot_S128x1024_S1024x4096_S128x4096_1_0_0_1_n_n none N WU) (broadcastInDim S128x4096 ![] bcast_S_S128x4096 (constant S_ .f32 0x00000000#32))

/-- The squared hidden units projected and added to the rows. -/
def squared (X : FVec Ideal S128x1024 .f32) (H : FVec Ideal S128x4096 .f32) (WD : FVec Ideal S4096x1024 .f32) : FVec Ideal S128x1024 .f32 :=
  addf X (Host.dotGeneral dot_S128x4096_S4096x1024_S128x1024_1_0_0_1_n_n none (mulf H H) WD)

/-- The gated embedding added to the rows. -/
def embedded (X N : FVec Ideal S128x1024 .f32) (WG : FVec Ideal S1024x1024 .f32) (P : FVec Ideal S128x256 .f32) (WP : FVec Ideal S256x1024 .f32) : FVec Ideal S128x1024 .f32 :=
  addf X (mulf (Host.divf (broadcastInDim S128x1024 ![] bcast_S_S128x1024 (constant S_ .f32 0x3F800000#32)) (addf (broadcastInDim S128x1024 ![] bcast_S_S128x1024 (constant S_ .f32 0x3F800000#32)) (Host.exp (Host.negf (Host.dotGeneral dot_S128x1024_S1024x1024_S128x1024_1_0_0_1_n_n none N WG)))))
    (Host.dotGeneral dot_S128x256_S256x1024_S128x1024_1_0_0_1_n_n none P WP))

section entries

variable (i : Fin 128)

theorem gate_apply (T : Vec Ideal S128x2048 .bf16) (k : Fin 2048) : gate T (ix2 i k) = sigm (T (ix2 i k)) := by
  unfold gate sigm
  simp only [← one_eq]
  pointwise

theorem merged_apply (s : FVec Ideal S128x2048 .f32) (A B : FVec Ideal S128x512 .f32) (WA WB : FVec Ideal S512x1024 .f32) (j : Fin 1024) :
    merged s A B WA WB (ix2 i j) = s (ix2 i (lo j)) * (∑ l, A (ix2 i l) * WA (ix2 l j)) + s (ix2 i (hi j)) * ∑ l, B (ix2 i l) * WB (ix2 l j) := by
  unfold merged
  pointwise
  rfl

theorem added_apply (X M : FVec Ideal S128x1024 .f32) (WO : FVec Ideal S1024x1024 .f32) (j : Fin 1024) :
    added X M WO (ix2 i j) = X (ix2 i j) + ∑ k, M (ix2 i k) * WO (ix2 k j) := by
  unfold added
  pointwise

theorem norm_apply (X : FVec Ideal S128x1024 .f32) (g : FVec Ideal S1024 .f32) (j : Fin 1024) :
    norm X g (ix2 i j) = rms (fun k => X (ix2 i k)) (fun k => g (ix1 k)) j := by
  unfold norm
  pointwise
  rfl

theorem hidden_apply (N : FVec Ideal S128x1024 .f32) (WU : FVec Ideal S1024x4096 .f32) (k : Fin 4096) :
    hidden N WU (ix2 i k) = max (∑ l, N (ix2 i l) * WU (ix2 l k)) 0 := by
  unfold hidden
  pointwise

theorem squared_apply (X : FVec Ideal S128x1024 .f32) (H : FVec Ideal S128x4096 .f32) (WD : FVec Ideal S4096x1024 .f32) (j : Fin 1024) :
    squared X H WD (ix2 i j) = X (ix2 i j) + ∑ k, (H (ix2 i k) * H (ix2 i k)) * WD (ix2 k j) := by
  unfold squared
  pointwise

theorem embedded_apply (X N : FVec Ideal S128x1024 .f32) (WG : FVec Ideal S1024x1024 .f32) (P : FVec Ideal S128x256 .f32) (WP : FVec Ideal S256x1024 .f32) (j : Fin 1024) :
    embedded X N WG P WP (ix2 i j) = X (ix2 i j) + sigm (∑ k, N (ix2 i k) * WG (ix2 k j)) * ∑ l, P (ix2 i l) * WP (ix2 l j) := by
  unfold embedded sigm
  simp only [← one_eq]
  pointwise

end entries

/-- The reference from its reshaped arguments. -/
def whole (X : FVec Ideal S128x1024 .f32) (A B : FVec Ideal S128x512 .f32) (T : Vec Ideal S128x2048 .bf16) (P : FVec Ideal S128x256 .f32)
    (WA WB : FVec Ideal S512x1024 .f32) (WO : FVec Ideal S1024x1024 .f32) (g : FVec Ideal S1024 .f32)
    (WU : FVec Ideal S1024x4096 .f32) (WD : FVec Ideal S4096x1024 .f32) (g' : FVec Ideal S1024 .f32)
    (WG : FVec Ideal S1024x1024 .f32) (WP : FVec Ideal S256x1024 .f32) : FVec Ideal S128x1024 .f32 :=
  let Y := added X (merged (gate T) A B WA WB) WO
  let Z := squared Y (hidden (norm Y g) WU) WD
  embedded Z (norm Z g') WG P WP

/-- The reference's result is that. -/
theorem res_eq (m : (ℓ : Loc nD τ sig) → Buf (Elt Ideal) ℓ) (c : Dev nD) :
    res_main_v68 m c = whole (shapeCast _ (m ((c.tc : Thread nD τ).loc main_arg0)) shapeCasts_S32x4x1024_S128x1024)
      (shapeCast _ (m ((c.tc : Thread nD τ).loc main_arg1)) shapeCasts_S32x4x512_S128x512)
      (m ((c.tc : Thread nD τ).loc main_arg2)) (m ((c.tc : Thread nD τ).loc main_arg3))
      (shapeCast _ (m ((c.tc : Thread nD τ).loc main_arg4)) shapeCasts_S32x4x256_S128x256)
      (shapeCast _ (m ((c.tc : Thread nD τ).loc main_arg5)) shapeCasts_S1x512x1024_S512x1024)
      (shapeCast _ (m ((c.tc : Thread nD τ).loc main_arg6)) shapeCasts_S1x512x1024_S512x1024)
      (shapeCast _ (m ((c.tc : Thread nD τ).loc main_arg7)) shapeCasts_S1x1024x1024_S1024x1024)
      (shapeCast _ (m ((c.tc : Thread nD τ).loc main_arg8)) shapeCasts_S1x1024_S1024)
      (shapeCast _ (m ((c.tc : Thread nD τ).loc main_arg9)) shapeCasts_S1x1024x4096_S1024x4096)
      (shapeCast _ (m ((c.tc : Thread nD τ).loc main_arg10)) shapeCasts_S1x4096x1024_S4096x1024)
      (shapeCast _ (m ((c.tc : Thread nD τ).loc main_arg11)) shapeCasts_S1x1024_S1024)
      (shapeCast _ (m ((c.tc : Thread nD τ).loc main_arg12)) shapeCasts_S1x1024x1024_S1024x1024)
      (shapeCast _ (m ((c.tc : Thread nD τ).loc main_arg13)) shapeCasts_S1x256x1024_S256x1024) := rfl

/-- Entry by entry, it is the row the kernel is shown to compute. -/
theorem whole_apply (X : FVec Ideal S128x1024 .f32) (A B : FVec Ideal S128x512 .f32) (T : Vec Ideal S128x2048 .bf16) (P : FVec Ideal S128x256 .f32)
    (WA WB : FVec Ideal S512x1024 .f32) (WO : FVec Ideal S1024x1024 .f32) (g : FVec Ideal S1024 .f32)
    (WU : FVec Ideal S1024x4096 .f32) (WD : FVec Ideal S4096x1024 .f32) (g' : FVec Ideal S1024 .f32)
    (WG : FVec Ideal S1024x1024 .f32) (WP : FVec Ideal S256x1024 .f32) (i : Fin 128) (j : Fin 1024) :
    whole X A B T P WA WB WO g WU WD g' WG WP (ix2 i j)
      = postRow X A B T P WA WB WO (fun k => g (ix1 k)) WU WD (fun k => g' (ix1 k)) WG WP i j := by
  unfold whole
  have hY : ∀ k, added X (merged (gate T) A B WA WB) WO (ix2 i k) = midRow X A B T WA WB WO i k := fun k => by
    simp only [added_apply, merged_apply, gate_apply]
    rfl
  generalize added X (merged (gate T) A B WA WB) WO = Y at hY ⊢
  have hZ : ∀ k, squared Y (hidden (norm Y g) WU) WD (ix2 i k) = mlpRow X A B T WA WB WO (fun k => g (ix1 k)) WU WD i k := fun k => by
    simp only [squared_apply, hidden_apply, norm_apply, hY]
    rfl
  generalize squared Y (hidden (norm Y g) WU) WD = Z at hZ ⊢
  simp only [embedded_apply, norm_apply, hZ]
  rfl

end Cert.Proof.SampleMerge.Ref

end
-- ==== Proof.SampleMerge.Equal.lean ====
/-
  The value claim of the merge, the MLP and the embedding for the sample: from memories that agree on the arguments, whatever these hold,
  the kernel and the reference leave the same array.
-/
module

public import proofs.«01_k».proof.Defs
public import proofs.«01_k».proof.Proof.SampleMerge.Array
public import proofs.«01_k».proof.Proof.SampleMerge.Ref

@[expose] public section

set_option maxRecDepth 16384

noncomputable section

namespace Cert.Proof.SampleMerge

open Idealize.ShloMosaic Idealize.SL.Sem

/-- The kernel and the reference end with equal results. -/
theorem algebraic : Cert.algebraic_Kernel5Ideal_Reference5Ideal := fun m g m' g' _ hag => by
  refine ⟨fun c => rowsArr m c, ?_, ?_⟩
  · exact (θ_run _ _ _).mono (fun r h c => ⟨(h c).1.trans (arr_eq m c), (h c).2⟩) (Cert.Kernel5Ideal.Value.run_blocks m g)
  · refine (θ_run _ _ _).mono (fun r h c => ⟨(h c).1.trans ?_, (h c).2⟩) (Cert.Reference5Ideal.Value.run m' g')
    refine (Ref.res_eq m' c).trans ?_
    obtain ⟨h0, h1, h2, h3, h4, h5, h6, h7, h8, h9, h10, h11, h12, h13⟩ := hag c
    rw [h0, h1, h2, h3, h4, h5, h6, h7, h8, h9, h10, h11, h12, h13]
    funext j
    exact (congrArg _ (eq_ix2 j)).trans (Ref.whole_apply (arrX m c) (arrA m c) (arrB m c) (arrT m c) (arrP m c) (arrWA m c) (arrWB m c) (arrWO m c) (arrG1 m c)
      (arrWU m c) (arrWD m c) (arrG2 m c) (arrWG m c) (arrWP m c) (j 0) (j 1))

end Cert.Proof.SampleMerge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Kernel.Run
public import proofs.«01_k».proof.Proof.KernelIdeal.Run
public import proofs.«01_k».proof.Proof.Value.Equal
public import proofs.«01_k».proof.Proof.Merge.Equal
public import proofs.«01_k».proof.Proof.Inputs.Equal
public import proofs.«01_k».proof.Proof.SampleInputs.Equal
public import proofs.«01_k».proof.Proof.SampleMerge.Equal
public import Idealize.ShloMosaic.Adequacy
public import Idealize.ShloMosaic.Init

@[expose] public section

set_option maxRecDepth 16384

noncomputable section

namespace Cert.Proof

open Idealize.ShloMosaic Idealize.SL.Sem

/-- The reference runs from any memory, leaves its arguments as they were, and has no semaphore that could be left up. -/
theorem reference_frame : Cert.quiescent_ReferenceIdeal := fun m g _ =>
  (θ_run _ _ _).mono (fun r h => ⟨fun c => (h c).2, sem_eq_zero_of_no_sems (by decide) _⟩)
    (Cert.ReferenceIdeal.Value.run m g)

/-- The named constant is the value the rule states. -/
theorem preserved : Cert.preserves_Kernel_KernelIdeal :=
  IdealRules.named_const.statement Cert.KernelIdeal.κ "zero_prob_log2" .f32 0xC3180000#32 ⊥ rfl

/-- So does the second reference. -/
theorem reference2_frame : Cert.quiescent_Reference2Ideal := fun m g _ =>
  (θ_run _ _ _).mono (fun r h => ⟨fun c => (h c).2, sem_eq_zero_of_no_sems (by decide) _⟩)
    (Cert.Reference2Ideal.Value.run m g)

/-- So does the third reference. -/
theorem reference3_frame : Cert.quiescent_Reference3Ideal := fun m g _ =>
  (θ_run _ _ _).mono (fun r h => ⟨fun c => (h c).2.2.2.2.2.2.2.2.2.2, sem_eq_zero_of_no_sems (by decide) _⟩)
    (Cert.Reference3Ideal.Value.run m g)

/-- So does the fourth reference. -/
theorem reference4_frame : Cert.quiescent_Reference4Ideal := fun m g _ =>
  (θ_run _ _ _).mono (fun r h => ⟨fun c => (h c).2.2.2.2.2.2.2.2.2.2, sem_eq_zero_of_no_sems (by decide) _⟩)
    (Cert.Reference4Ideal.Value.run m g)

/-- So does the fifth reference. -/
theorem reference5_frame : Cert.quiescent_Reference5Ideal := fun m g _ =>
  (θ_run _ _ _).mono (fun r h => ⟨fun c => (h c).2, sem_eq_zero_of_no_sems (by decide) _⟩)
    (Cert.Reference5Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_scores.Gen.facts,
  fun m g _ => Cert.Proof.Kernel.frame m g,
  fun m g _ => Cert.Proof.KernelIdeal.frame m g, fun m g _ => Cert.Proof.KernelIdeal.frame m g,
  reference_frame, fun m g _ => reference_frame m g trivial,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  fun m g _ => Cert.Kernel4.Gen.frame m g, fun m g _ => Cert.Kernel4Ideal.Gen.frame m g, reference4_frame,
  fun m g _ => Cert.Kernel5.Gen.frame m g, fun m g _ => Cert.Kernel5Ideal.Gen.frame m g, reference5_frame,
  preserved, Cert.Proof.Value.algebraic, trivial, Cert.Proof.Merge.algebraic,
  trivial, Cert.Proof.Inputs.algebraic, trivial, Cert.Proof.SampleInputs.algebraic, trivial, Cert.Proof.SampleMerge.algebraic⟩

end Cert.Proof

end
